-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelInX (m : (ℓ : Loc Cert.KernelInX.nD Cert.KernelInX.τ Cert.KernelInX.sig) → Buf (Elt Bits) ℓ) : Prop :=
  True

def Pre_KernelInXIdeal (m : (ℓ : Loc Cert.KernelInXIdeal.nD Cert.KernelInXIdeal.τ Cert.KernelInXIdeal.sig) → Buf (Elt Ideal) ℓ) : Prop :=
  True

def Pre_ReferenceInXIdeal (m : (ℓ : Loc Cert.ReferenceInXIdeal.nD Cert.ReferenceInXIdeal.τ Cert.ReferenceInXIdeal.sig) → Buf (Elt Ideal) ℓ) : Prop :=
  True

def Pre_KernelUpFwd (m : (ℓ : Loc Cert.KernelUpFwd.nD Cert.KernelUpFwd.τ Cert.KernelUpFwd.sig) → Buf (Elt Bits) ℓ) : Prop :=
  True

def Pre_KernelUpFwdIdeal (m : (ℓ : Loc Cert.KernelUpFwdIdeal.nD Cert.KernelUpFwdIdeal.τ Cert.KernelUpFwdIdeal.sig) → Buf (Elt Ideal) ℓ) : Prop :=
  True

def Pre_ReferenceUpFwdIdeal (m : (ℓ : Loc Cert.ReferenceUpFwdIdeal.nD Cert.ReferenceUpFwdIdeal.τ Cert.ReferenceUpFwdIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormMix (m : (ℓ : Loc Cert.KernelNormMix.nD Cert.KernelNormMix.τ Cert.KernelNormMix.sig) → Buf (Elt Bits) ℓ) : Prop :=
  True

def Pre_KernelNormMixIdeal (m : (ℓ : Loc Cert.KernelNormMixIdeal.nD Cert.KernelNormMixIdeal.τ Cert.KernelNormMixIdeal.sig) → Buf (Elt Ideal) ℓ) : Prop :=
  True

def Pre_ReferenceNormMixIdeal (m : (ℓ : Loc Cert.ReferenceNormMixIdeal.nD Cert.ReferenceNormMixIdeal.τ Cert.ReferenceNormMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1))
      ∧ r.2.sem = fun _ => 0)

def quiescent_KernelInX [hKernelInX : Cert.KernelInX.Facts] : Prop :=
  ∀ (m : (ℓ : Loc Cert.KernelInX.nD Cert.KernelInX.τ Cert.KernelInX.sig) → Buf (Elt Bits) ℓ) (g : Dev Cert.KernelInX.nD → PrngReg), Pre_KernelInX m →
    θ_run (Cert.KernelInX.defs (F := Bits)) (onTc (τ := Cert.KernelInX.τ) (Cert.KernelInX.main (F := Bits))) ⟨m, fun _ => 0, g⟩ (fun r => (∀ c : Dev Cert.KernelInX.nD,
      r.2.mem ((c.tc : Thread Cert.KernelInX.nD Cert.KernelInX.τ).loc Cert.KernelInX.main_arg0) = m ((c.tc : Thread Cert.KernelInX.nD Cert.KernelInX.τ).loc Cert.KernelInX.main_arg0)
      ∧ r.2.mem ((c.tc : Thread Cert.KernelInX.nD Cert.KernelInX.τ).loc Cert.KernelInX.main_arg1) = m ((c.tc : Thread Cert.KernelInX.nD Cert.KernelInX.τ).loc Cert.KernelInX.main_arg1))
      ∧ r.2.sem = fun _ => 0)

def quiescent_KernelInXIdeal [hKernelInXIdeal : Cert.KernelInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg), Pre_KernelInXIdeal m →
    θ_run (Cert.KernelInXIdeal.defs (F := Ideal)) (onTc (τ := Cert.KernelInXIdeal.τ) (Cert.KernelInXIdeal.main (F := Ideal))) ⟨m, fun _ => 0, g⟩ (fun r => (∀ c : Dev Cert.KernelInXIdeal.nD,
      r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
      ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ r.2.sem = fun _ => 0)

def quiescent_ReferenceInXIdeal [hReferenceInXIdeal : Cert.ReferenceInXIdeal.Facts] : Prop :=
  ∀ (m : (ℓ : Loc Cert.ReferenceInXIdeal.nD Cert.ReferenceInXIdeal.τ Cert.ReferenceInXIdeal.sig) → Buf (Elt Ideal) ℓ) (g : Dev Cert.ReferenceInXIdeal.nD → PrngReg), Pre_ReferenceInXIdeal m →
    θ_run (Cert.ReferenceInXIdeal.defs (F := Ideal)) (onTc (τ := Cert.ReferenceInXIdeal.τ) (Cert.ReferenceInXIdeal.main (F := Ideal))) ⟨m, fun _ => 0, g⟩ (fun r => (∀ c : Dev Cert.ReferenceInXIdeal.nD,
      r.2.mem ((c.tc : Thread Cert.ReferenceInXIdeal.nD Cert.ReferenceInXIdeal.τ).loc Cert.ReferenceInXIdeal.main_arg0) = m ((c.tc : Thread Cert.ReferenceInXIdeal.nD Cert.ReferenceInXIdeal.τ).loc Cert.ReferenceInXIdeal.main_arg0)
      ∧ r.2.mem ((c.tc : Thread Cert.ReferenceInXIdeal.nD Cert.ReferenceInXIdeal.τ).loc Cert.ReferenceInXIdeal.main_arg1) = m ((c.tc : Thread Cert.ReferenceInXIdeal.nD Cert.ReferenceInXIdeal.τ).loc Cert.ReferenceInXIdeal.main_arg1))
      ∧ r.2.sem = fun _ => 0)

def quiescent_KernelUpFwd [hKernelUpFwd : Cert.KernelUpFwd.Facts] : Prop :=
  ∀ (m : (ℓ : Loc Cert.KernelUpFwd.nD Cert.KernelUpFwd.τ Cert.KernelUpFwd.sig) → Buf (Elt Bits) ℓ) (g : Dev Cert.KernelUpFwd.nD → PrngReg), Pre_KernelUpFwd m →
    θ_run (Cert.KernelUpFwd.defs (F := Bits)) (onTc (τ := Cert.KernelUpFwd.τ) (Cert.KernelUpFwd.main (F := Bits))) ⟨m, fun _ => 0, g⟩ (fun r => (∀ c : Dev Cert.KernelUpFwd.nD,
      r.2.mem ((c.tc : Thread Cert.KernelUpFwd.nD Cert.KernelUpFwd.τ).loc Cert.KernelUpFwd.main_arg0) = m ((c.tc : Thread Cert.KernelUpFwd.nD Cert.KernelUpFwd.τ).loc Cert.KernelUpFwd.main_arg0)
      ∧ r.2.mem ((c.tc : Thread Cert.KernelUpFwd.nD Cert.KernelUpFwd.τ).loc Cert.KernelUpFwd.main_arg1) = m ((c.tc : Thread Cert.KernelUpFwd.nD Cert.KernelUpFwd.τ).loc Cert.KernelUpFwd.main_arg1))
      ∧ r.2.sem = fun _ => 0)

def quiescent_KernelUpFwdIdeal [hKernelUpFwdIdeal : Cert.KernelUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg), Pre_KernelUpFwdIdeal m →
    θ_run (Cert.KernelUpFwdIdeal.defs (F := Ideal)) (onTc (τ := Cert.KernelUpFwdIdeal.τ) (Cert.KernelUpFwdIdeal.main (F := Ideal))) ⟨m, fun _ => 0, g⟩ (fun r => (∀ c : Dev Cert.KernelUpFwdIdeal.nD,
      r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
      ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1))
      ∧ r.2.sem = fun _ => 0)

def quiescent_ReferenceUpFwdIdeal [hReferenceUpFwdIdeal : Cert.ReferenceUpFwdIdeal.Facts] : Prop :=
  ∀ (m : (ℓ : Loc Cert.ReferenceUpFwdIdeal.nD Cert.ReferenceUpFwdIdeal.τ Cert.ReferenceUpFwdIdeal.sig) → Buf (Elt Ideal) ℓ) (g : Dev Cert.ReferenceUpFwdIdeal.nD → PrngReg), Pre_ReferenceUpFwdIdeal m →
    θ_run (Cert.ReferenceUpFwdIdeal.defs (F := Ideal)) (onTc (τ := Cert.ReferenceUpFwdIdeal.τ) (Cert.ReferenceUpFwdIdeal.main (F := Ideal))) ⟨m, fun _ => 0, g⟩ (fun r => (∀ c : Dev Cert.ReferenceUpFwdIdeal.nD,
      r.2.mem ((c.tc : Thread Cert.ReferenceUpFwdIdeal.nD Cert.ReferenceUpFwdIdeal.τ).loc Cert.ReferenceUpFwdIdeal.main_arg0) = m ((c.tc : Thread Cert.ReferenceUpFwdIdeal.nD Cert.ReferenceUpFwdIdeal.τ).loc Cert.ReferenceUpFwdIdeal.main_arg0)
      ∧ r.2.mem ((c.tc : Thread Cert.ReferenceUpFwdIdeal.nD Cert.ReferenceUpFwdIdeal.τ).loc Cert.ReferenceUpFwdIdeal.main_arg1) = m ((c.tc : Thread Cert.ReferenceUpFwdIdeal.nD Cert.ReferenceUpFwdIdeal.τ).loc Cert.ReferenceUpFwdIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelNormMix [hKernelNormMix : Cert.KernelNormMix.Facts] : Prop :=
  ∀ (m : (ℓ : Loc Cert.KernelNormMix.nD Cert.KernelNormMix.τ Cert.KernelNormMix.sig) → Buf (Elt Bits) ℓ) (g : Dev Cert.KernelNormMix.nD → PrngReg), Pre_KernelNormMix m →
    θ_run (Cert.KernelNormMix.defs (F := Bits)) (onTc (τ := Cert.KernelNormMix.τ) (Cert.KernelNormMix.main (F := Bits))) ⟨m, fun _ => 0, g⟩ (fun r => (∀ c : Dev Cert.KernelNormMix.nD,
      r.2.mem ((c.tc : Thread Cert.KernelNormMix.nD Cert.KernelNormMix.τ).loc Cert.KernelNormMix.main_arg0) = m ((c.tc : Thread Cert.KernelNormMix.nD Cert.KernelNormMix.τ).loc Cert.KernelNormMix.main_arg0)
      ∧ r.2.mem ((c.tc : Thread Cert.KernelNormMix.nD Cert.KernelNormMix.τ).loc Cert.KernelNormMix.main_arg1) = m ((c.tc : Thread Cert.KernelNormMix.nD Cert.KernelNormMix.τ).loc Cert.KernelNormMix.main_arg1)
      ∧ r.2.mem ((c.tc : Thread Cert.KernelNormMix.nD Cert.KernelNormMix.τ).loc Cert.KernelNormMix.main_arg2) = m ((c.tc : Thread Cert.KernelNormMix.nD Cert.KernelNormMix.τ).loc Cert.KernelNormMix.main_arg2)
      ∧ r.2.mem ((c.tc : Thread Cert.KernelNormMix.nD Cert.KernelNormMix.τ).loc Cert.KernelNormMix.main_arg3) = m ((c.tc : Thread Cert.KernelNormMix.nD Cert.KernelNormMix.τ).loc Cert.KernelNormMix.main_arg3))
      ∧ r.2.sem = fun _ => 0)

def quiescent_KernelNormMixIdeal [hKernelNormMixIdeal : Cert.KernelNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg), Pre_KernelNormMixIdeal m →
    θ_run (Cert.KernelNormMixIdeal.defs (F := Ideal)) (onTc (τ := Cert.KernelNormMixIdeal.τ) (Cert.KernelNormMixIdeal.main (F := Ideal))) ⟨m, fun _ => 0, g⟩ (fun r => (∀ c : Dev Cert.KernelNormMixIdeal.nD,
      r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
      ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1)
      ∧ r.2.mem ((c.tc : Thread Cert.KernelNormMixIdeal.nD Cert.KernelNormMixIdeal.τ).loc Cert.KernelNormMixIdeal.main_arg2) = m ((c.tc : Thread Cert.KernelNormMixIdeal.nD Cert.KernelNormMixIdeal.τ).loc Cert.KernelNormMixIdeal.main_arg2)
      ∧ r.2.mem ((c.tc : Thread Cert.KernelNormMixIdeal.nD Cert.KernelNormMixIdeal.τ).loc Cert.KernelNormMixIdeal.main_arg3) = m ((c.tc : Thread Cert.KernelNormMixIdeal.nD Cert.KernelNormMixIdeal.τ).loc Cert.KernelNormMixIdeal.main_arg3))
      ∧ r.2.sem = fun _ => 0)

def quiescent_ReferenceNormMixIdeal [hReferenceNormMixIdeal : Cert.ReferenceNormMixIdeal.Facts] : Prop :=
  ∀ (m : (ℓ : Loc Cert.ReferenceNormMixIdeal.nD Cert.ReferenceNormMixIdeal.τ Cert.ReferenceNormMixIdeal.sig) → Buf (Elt Ideal) ℓ) (g : Dev Cert.ReferenceNormMixIdeal.nD → PrngReg), Pre_ReferenceNormMixIdeal m →
    θ_run (Cert.ReferenceNormMixIdeal.defs (F := Ideal)) (onTc (τ := Cert.ReferenceNormMixIdeal.τ) (Cert.ReferenceNormMixIdeal.main (F := Ideal))) ⟨m, fun _ => 0, g⟩ (fun r => (∀ c : Dev Cert.ReferenceNormMixIdeal.nD,
      r.2.mem ((c.tc : Thread Cert.ReferenceNormMixIdeal.nD Cert.ReferenceNormMixIdeal.τ).loc Cert.ReferenceNormMixIdeal.main_arg0) = m ((c.tc : Thread Cert.ReferenceNormMixIdeal.nD Cert.ReferenceNormMixIdeal.τ).loc Cert.ReferenceNormMixIdeal.main_arg0)
      ∧ r.2.mem ((c.tc : Thread Cert.ReferenceNormMixIdeal.nD Cert.ReferenceNormMixIdeal.τ).loc Cert.ReferenceNormMixIdeal.main_arg1) = m ((c.tc : Thread Cert.ReferenceNormMixIdeal.nD Cert.ReferenceNormMixIdeal.τ).loc Cert.ReferenceNormMixIdeal.main_arg1)
      ∧ r.2.mem ((c.tc : Thread Cert.ReferenceNormMixIdeal.nD Cert.ReferenceNormMixIdeal.τ).loc Cert.ReferenceNormMixIdeal.main_arg2) = m ((c.tc : Thread Cert.ReferenceNormMixIdeal.nD Cert.ReferenceNormMixIdeal.τ).loc Cert.ReferenceNormMixIdeal.main_arg2)
      ∧ r.2.mem ((c.tc : Thread Cert.ReferenceNormMixIdeal.nD Cert.ReferenceNormMixIdeal.τ).loc Cert.ReferenceNormMixIdeal.main_arg3) = m ((c.tc : Thread Cert.ReferenceNormMixIdeal.nD Cert.ReferenceNormMixIdeal.τ).loc Cert.ReferenceNormMixIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v92_0)) (v2 : (c : Dev Cert.KernelIdeal.nD) → Buf (Elt Ideal) ((c.tc : Thread Cert.KernelIdeal.nD Cert.KernelIdeal.τ).loc Cert.KernelIdeal.main_v92_1)) (v3 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v92_0) = v1 c
          ∧ r.2.mem ((c.tc : Thread Cert.KernelIdeal.nD Cert.KernelIdeal.τ).loc Cert.KernelIdeal.main_v92_1) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v6)) (v1 : (c : Dev Cert.KernelUpIdeal.nD) → Buf (Elt Ideal) ((c.tc : Thread Cert.KernelUpIdeal.nD Cert.KernelUpIdeal.τ).loc Cert.KernelUpIdeal.main_v9)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v6) = v0 c
          ∧ r.2.mem ((c.tc : Thread Cert.KernelUpIdeal.nD Cert.KernelUpIdeal.τ).loc Cert.KernelUpIdeal.main_v9) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v5) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)) (v1 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_v1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_v5) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)) (v1 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_v1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_v5) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)) →
    ∃ (v0 : (c : Dev Cert.KernelInWIdeal.nD) → Buf (Elt Ideal) ((c.tc : Thread Cert.KernelInWIdeal.nD Cert.KernelInWIdeal.τ).loc Cert.KernelInWIdeal.main_v12)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v12) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v5) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1))

def preserves_KernelInX_KernelInXIdeal : Prop :=
  True

def algebraic_KernelInXIdeal_ReferenceInXIdeal [hKernelInXIdeal : Cert.KernelInXIdeal.Facts] [hReferenceInXIdeal : Cert.ReferenceInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg)
    (m' : (ℓ : Loc Cert.ReferenceInXIdeal.nD Cert.ReferenceInXIdeal.τ Cert.ReferenceInXIdeal.sig) → Buf (Elt Ideal) ℓ) (g' : Dev Cert.ReferenceInXIdeal.nD → PrngReg), Pre_KernelInXIdeal m →
    (∀ c : Dev Cert.KernelInXIdeal.nD,
      m' ((c.tc : Thread Cert.ReferenceInXIdeal.nD Cert.ReferenceInXIdeal.τ).loc Cert.ReferenceInXIdeal.main_arg0) = m ((c.tc : Thread Cert.KernelInXIdeal.nD Cert.KernelInXIdeal.τ).loc Cert.KernelInXIdeal.main_arg0)
      ∧ m' ((c.tc : Thread Cert.ReferenceInXIdeal.nD Cert.ReferenceInXIdeal.τ).loc Cert.ReferenceInXIdeal.main_arg1) = m ((c.tc : Thread Cert.KernelInXIdeal.nD Cert.KernelInXIdeal.τ).loc Cert.KernelInXIdeal.main_arg1)) →
    ∃ (v0 : (c : Dev Cert.KernelInXIdeal.nD) → Buf (Elt Ideal) ((c.tc : Thread Cert.KernelInXIdeal.nD Cert.KernelInXIdeal.τ).loc Cert.KernelInXIdeal.main_v12)),
      θ_run (Cert.KernelInXIdeal.defs (F := Ideal)) (onTc (τ := Cert.KernelInXIdeal.τ) (Cert.KernelInXIdeal.main (F := Ideal))) ⟨m, fun _ => 0, g⟩ (fun r => ∀ c : Dev Cert.KernelInXIdeal.nD,
          r.2.mem ((c.tc : Thread Cert.KernelInXIdeal.nD Cert.KernelInXIdeal.τ).loc Cert.KernelInXIdeal.main_v12) = v0 c
          ∧ r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
          ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ θ_run (Cert.ReferenceInXIdeal.defs (F := Ideal)) (onTc (τ := Cert.ReferenceInXIdeal.τ) (Cert.ReferenceInXIdeal.main (F := Ideal))) ⟨m', fun _ => 0, g'⟩ (fun r => ∀ c : Dev Cert.ReferenceInXIdeal.nD,
          r.2.mem ((c.tc : Thread Cert.ReferenceInXIdeal.nD Cert.ReferenceInXIdeal.τ).loc Cert.ReferenceInXIdeal.main_v4) = v0 c
          ∧ r.2.mem ((c.tc : Thread Cert.ReferenceInXIdeal.nD Cert.ReferenceInXIdeal.τ).loc Cert.ReferenceInXIdeal.main_arg0) = m' ((c.tc : Thread Cert.ReferenceInXIdeal.nD Cert.ReferenceInXIdeal.τ).loc Cert.ReferenceInXIdeal.main_arg0)
          ∧ r.2.mem ((c.tc : Thread Cert.ReferenceInXIdeal.nD Cert.ReferenceInXIdeal.τ).loc Cert.ReferenceInXIdeal.main_arg1) = m' ((c.tc : Thread Cert.ReferenceInXIdeal.nD Cert.ReferenceInXIdeal.τ).loc Cert.ReferenceInXIdeal.main_arg1))

def preserves_KernelUpFwd_KernelUpFwdIdeal : Prop :=
  True

def algebraic_KernelUpFwdIdeal_ReferenceUpFwdIdeal [hKernelUpFwdIdeal : Cert.KernelUpFwdIdeal.Facts] [hReferenceUpFwdIdeal : Cert.ReferenceUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg)
    (m' : (ℓ : Loc Cert.ReferenceUpFwdIdeal.nD Cert.ReferenceUpFwdIdeal.τ Cert.ReferenceUpFwdIdeal.sig) → Buf (Elt Ideal) ℓ) (g' : Dev Cert.ReferenceUpFwdIdeal.nD → PrngReg), Pre_KernelUpFwdIdeal m →
    (∀ c : Dev Cert.KernelUpFwdIdeal.nD,
      m' ((c.tc : Thread Cert.ReferenceUpFwdIdeal.nD Cert.ReferenceUpFwdIdeal.τ).loc Cert.ReferenceUpFwdIdeal.main_arg0) = m ((c.tc : Thread Cert.KernelUpFwdIdeal.nD Cert.KernelUpFwdIdeal.τ).loc Cert.KernelUpFwdIdeal.main_arg0)
      ∧ m' ((c.tc : Thread Cert.ReferenceUpFwdIdeal.nD Cert.ReferenceUpFwdIdeal.τ).loc Cert.ReferenceUpFwdIdeal.main_arg1) = m ((c.tc : Thread Cert.KernelUpFwdIdeal.nD Cert.KernelUpFwdIdeal.τ).loc Cert.KernelUpFwdIdeal.main_arg1)) →
    ∃ (v0 : (c : Dev Cert.KernelUpFwdIdeal.nD) → Buf (Elt Ideal) ((c.tc : Thread Cert.KernelUpFwdIdeal.nD Cert.KernelUpFwdIdeal.τ).loc Cert.KernelUpFwdIdeal.main_v2)),
      θ_run (Cert.KernelUpFwdIdeal.defs (F := Ideal)) (onTc (τ := Cert.KernelUpFwdIdeal.τ) (Cert.KernelUpFwdIdeal.main (F := Ideal))) ⟨m, fun _ => 0, g⟩ (fun r => ∀ c : Dev Cert.KernelUpFwdIdeal.nD,
          r.2.mem ((c.tc : Thread Cert.KernelUpFwdIdeal.nD Cert.KernelUpFwdIdeal.τ).loc Cert.KernelUpFwdIdeal.main_v2) = v0 c
          ∧ r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
          ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1))
      ∧ θ_run (Cert.ReferenceUpFwdIdeal.defs (F := Ideal)) (onTc (τ := Cert.ReferenceUpFwdIdeal.τ) (Cert.ReferenceUpFwdIdeal.main (F := Ideal))) ⟨m', fun _ => 0, g'⟩ (fun r => ∀ c : Dev Cert.ReferenceUpFwdIdeal.nD,
          r.2.mem ((c.tc : Thread Cert.ReferenceUpFwdIdeal.nD Cert.ReferenceUpFwdIdeal.τ).loc Cert.ReferenceUpFwdIdeal.main_v3) = v0 c
          ∧ r.2.mem ((c.tc : Thread Cert.ReferenceUpFwdIdeal.nD Cert.ReferenceUpFwdIdeal.τ).loc Cert.ReferenceUpFwdIdeal.main_arg0) = m' ((c.tc : Thread Cert.ReferenceUpFwdIdeal.nD Cert.ReferenceUpFwdIdeal.τ).loc Cert.ReferenceUpFwdIdeal.main_arg0)
          ∧ r.2.mem ((c.tc : Thread Cert.ReferenceUpFwdIdeal.nD Cert.ReferenceUpFwdIdeal.τ).loc Cert.ReferenceUpFwdIdeal.main_arg1) = m' ((c.tc : Thread Cert.ReferenceUpFwdIdeal.nD Cert.ReferenceUpFwdIdeal.τ).loc Cert.ReferenceUpFwdIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)) (v2 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_v2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v36) = v0 c
          ∧ r.2.mem ((c.tc : Thread Cert.ReferenceNormIdeal.nD Cert.ReferenceNormIdeal.τ).loc Cert.ReferenceNormIdeal.main_v38) = v1 c
          ∧ r.2.mem ((c.tc : Thread Cert.ReferenceNormIdeal.nD Cert.ReferenceNormIdeal.τ).loc Cert.ReferenceNormIdeal.main_v21) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelNormMix_KernelNormMixIdeal : Prop :=
  True

def algebraic_KernelNormMixIdeal_ReferenceNormMixIdeal [hKernelNormMixIdeal : Cert.KernelNormMixIdeal.Facts] [hReferenceNormMixIdeal : Cert.ReferenceNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg)
    (m' : (ℓ : Loc Cert.ReferenceNormMixIdeal.nD Cert.ReferenceNormMixIdeal.τ Cert.ReferenceNormMixIdeal.sig) → Buf (Elt Ideal) ℓ) (g' : Dev Cert.ReferenceNormMixIdeal.nD → PrngReg), Pre_KernelNormMixIdeal m →
    (∀ c : Dev Cert.KernelNormMixIdeal.nD,
      m' ((c.tc : Thread Cert.ReferenceNormMixIdeal.nD Cert.ReferenceNormMixIdeal.τ).loc Cert.ReferenceNormMixIdeal.main_arg0) = m ((c.tc : Thread Cert.KernelNormMixIdeal.nD Cert.KernelNormMixIdeal.τ).loc Cert.KernelNormMixIdeal.main_arg0)
      ∧ m' ((c.tc : Thread Cert.ReferenceNormMixIdeal.nD Cert.ReferenceNormMixIdeal.τ).loc Cert.ReferenceNormMixIdeal.main_arg1) = m ((c.tc : Thread Cert.KernelNormMixIdeal.nD Cert.KernelNormMixIdeal.τ).loc Cert.KernelNormMixIdeal.main_arg1)
      ∧ m' ((c.tc : Thread Cert.ReferenceNormMixIdeal.nD Cert.ReferenceNormMixIdeal.τ).loc Cert.ReferenceNormMixIdeal.main_arg2) = m ((c.tc : Thread Cert.KernelNormMixIdeal.nD Cert.KernelNormMixIdeal.τ).loc Cert.KernelNormMixIdeal.main_arg2)
      ∧ m' ((c.tc : Thread Cert.ReferenceNormMixIdeal.nD Cert.ReferenceNormMixIdeal.τ).loc Cert.ReferenceNormMixIdeal.main_arg3) = m ((c.tc : Thread Cert.KernelNormMixIdeal.nD Cert.KernelNormMixIdeal.τ).loc Cert.KernelNormMixIdeal.main_arg3)) →
    ∃ (v0 : (c : Dev Cert.KernelNormMixIdeal.nD) → Buf (Elt Ideal) ((c.tc : Thread Cert.KernelNormMixIdeal.nD Cert.KernelNormMixIdeal.τ).loc Cert.KernelNormMixIdeal.main_v1_0)) (v1 : (c : Dev Cert.KernelNormMixIdeal.nD) → Buf (Elt Ideal) ((c.tc : Thread Cert.KernelNormMixIdeal.nD Cert.KernelNormMixIdeal.τ).loc Cert.KernelNormMixIdeal.main_v2)),
      θ_run (Cert.KernelNormMixIdeal.defs (F := Ideal)) (onTc (τ := Cert.KernelNormMixIdeal.τ) (Cert.KernelNormMixIdeal.main (F := Ideal))) ⟨m, fun _ => 0, g⟩ (fun r => ∀ c : Dev Cert.KernelNormMixIdeal.nD,
          r.2.mem ((c.tc : Thread Cert.KernelNormMixIdeal.nD Cert.KernelNormMixIdeal.τ).loc Cert.KernelNormMixIdeal.main_v1_0) = v0 c
          ∧ r.2.mem ((c.tc : Thread Cert.KernelNormMixIdeal.nD Cert.KernelNormMixIdeal.τ).loc Cert.KernelNormMixIdeal.main_v2) = v1 c
          ∧ r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
          ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1)
          ∧ r.2.mem ((c.tc : Thread Cert.KernelNormMixIdeal.nD Cert.KernelNormMixIdeal.τ).loc Cert.KernelNormMixIdeal.main_arg2) = m ((c.tc : Thread Cert.KernelNormMixIdeal.nD Cert.KernelNormMixIdeal.τ).loc Cert.KernelNormMixIdeal.main_arg2)
          ∧ r.2.mem ((c.tc : Thread Cert.KernelNormMixIdeal.nD Cert.KernelNormMixIdeal.τ).loc Cert.KernelNormMixIdeal.main_arg3) = m ((c.tc : Thread Cert.KernelNormMixIdeal.nD Cert.KernelNormMixIdeal.τ).loc Cert.KernelNormMixIdeal.main_arg3))
      ∧ θ_run (Cert.ReferenceNormMixIdeal.defs (F := Ideal)) (onTc (τ := Cert.ReferenceNormMixIdeal.τ) (Cert.ReferenceNormMixIdeal.main (F := Ideal))) ⟨m', fun _ => 0, g'⟩ (fun r => ∀ c : Dev Cert.ReferenceNormMixIdeal.nD,
          r.2.mem ((c.tc : Thread Cert.ReferenceNormMixIdeal.nD Cert.ReferenceNormMixIdeal.τ).loc Cert.ReferenceNormMixIdeal.main_v36) = v0 c
          ∧ r.2.mem ((c.tc : Thread Cert.ReferenceNormMixIdeal.nD Cert.ReferenceNormMixIdeal.τ).loc Cert.ReferenceNormMixIdeal.main_v21) = v1 c
          ∧ r.2.mem ((c.tc : Thread Cert.ReferenceNormMixIdeal.nD Cert.ReferenceNormMixIdeal.τ).loc Cert.ReferenceNormMixIdeal.main_arg0) = m' ((c.tc : Thread Cert.ReferenceNormMixIdeal.nD Cert.ReferenceNormMixIdeal.τ).loc Cert.ReferenceNormMixIdeal.main_arg0)
          ∧ r.2.mem ((c.tc : Thread Cert.ReferenceNormMixIdeal.nD Cert.ReferenceNormMixIdeal.τ).loc Cert.ReferenceNormMixIdeal.main_arg1) = m' ((c.tc : Thread Cert.ReferenceNormMixIdeal.nD Cert.ReferenceNormMixIdeal.τ).loc Cert.ReferenceNormMixIdeal.main_arg1)
          ∧ r.2.mem ((c.tc : Thread Cert.ReferenceNormMixIdeal.nD Cert.ReferenceNormMixIdeal.τ).loc Cert.ReferenceNormMixIdeal.main_arg2) = m' ((c.tc : Thread Cert.ReferenceNormMixIdeal.nD Cert.ReferenceNormMixIdeal.τ).loc Cert.ReferenceNormMixIdeal.main_arg2)
          ∧ r.2.mem ((c.tc : Thread Cert.ReferenceNormMixIdeal.nD Cert.ReferenceNormMixIdeal.τ).loc Cert.ReferenceNormMixIdeal.main_arg3) = m' ((c.tc : Thread Cert.ReferenceNormMixIdeal.nD Cert.ReferenceNormMixIdeal.τ).loc Cert.ReferenceNormMixIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelInW : Cert.KernelInW.Facts) (hKernelInWIdeal : Cert.KernelInWIdeal.Facts) (hReferenceInWIdeal : Cert.ReferenceInWIdeal.Facts) (hKernelInX : Cert.KernelInX.Facts) (hKernelInXIdeal : Cert.KernelInXIdeal.Facts) (hReferenceInXIdeal : Cert.ReferenceInXIdeal.Facts) (hKernelUpFwd : Cert.KernelUpFwd.Facts) (hKernelUpFwdIdeal : Cert.KernelUpFwdIdeal.Facts) (hReferenceUpFwdIdeal : Cert.ReferenceUpFwdIdeal.Facts) (hKernelNorm : Cert.KernelNorm.Facts) (hKernelNormIdeal : Cert.KernelNormIdeal.Facts) (hReferenceNormIdeal : Cert.ReferenceNormIdeal.Facts) (hKernelNormMix : Cert.KernelNormMix.Facts) (hKernelNormMixIdeal : Cert.KernelNormMixIdeal.Facts) (hReferenceNormMixIdeal : Cert.ReferenceNormMixIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelInX (hKernelInX := hKernelInX)
    ∧ quiescent_KernelInXIdeal (hKernelInXIdeal := hKernelInXIdeal)
    ∧ quiescent_ReferenceInXIdeal (hReferenceInXIdeal := hReferenceInXIdeal)
    ∧ quiescent_KernelUpFwd (hKernelUpFwd := hKernelUpFwd)
    ∧ quiescent_KernelUpFwdIdeal (hKernelUpFwdIdeal := hKernelUpFwdIdeal)
    ∧ quiescent_ReferenceUpFwdIdeal (hReferenceUpFwdIdeal := hReferenceUpFwdIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormMix (hKernelNormMix := hKernelNormMix)
    ∧ quiescent_KernelNormMixIdeal (hKernelNormMixIdeal := hKernelNormMixIdeal)
    ∧ quiescent_ReferenceNormMixIdeal (hReferenceNormMixIdeal := hReferenceNormMixIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelInW_KernelInWIdeal
    ∧ algebraic_KernelInWIdeal_ReferenceInWIdeal (hKernelInWIdeal := hKernelInWIdeal) (hReferenceInWIdeal := hReferenceInWIdeal)
    ∧ preserves_KernelInX_KernelInXIdeal
    ∧ algebraic_KernelInXIdeal_ReferenceInXIdeal (hKernelInXIdeal := hKernelInXIdeal) (hReferenceInXIdeal := hReferenceInXIdeal)
    ∧ preserves_KernelUpFwd_KernelUpFwdIdeal
    ∧ algebraic_KernelUpFwdIdeal_ReferenceUpFwdIdeal (hKernelUpFwdIdeal := hKernelUpFwdIdeal) (hReferenceUpFwdIdeal := hReferenceUpFwdIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormMix_KernelNormMixIdeal
    ∧ algebraic_KernelNormMixIdeal_ReferenceNormMixIdeal (hKernelNormMixIdeal := hKernelNormMixIdeal) (hReferenceNormMixIdeal := hReferenceNormMixIdeal)
-- ==== Pre_finite.lean ====
abbrev S8192x512 : Shape := ⟨2, ![8192, 512]⟩
abbrev S8192x8 : Shape := ⟨2, ![8192, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x512 .f32) (main_v16 : IVec S_ 1) (main_v17 : FVec F S8192x8 .f32) : IVec S_ 1 :=
  let main_cst_4 : FVec F S_ .f32 := constant S_ .f32 0x7F800000#32
  let main_v18 : FVec F S8192x8 .f32 := broadcastInDim S8192x8 ![] bcast_S_S8192x8 main_cst_4
  let main_v19 : IVec S8192x8 1 := cmpf .olt main_v17 main_v18
  let main_c_5 : IVec S_ 1 := constantI S_ 1 1#1
  let main_v20 : IVec S_ 1 := (fun x v => Host.reduce IntOp.andi x v reducesTo_S8192x8_S_d0_1 h_S_) main_v19 main_c_5
  let main_v21 : IVec S_ 1 := andi main_v16 main_v20
  let main_v22 : FVec F S8192x512 .f32 := Host.absf main_arg4
  let main_cst_6 : FVec F S_ .f32 := constant S_ .f32 0x7F800000#32
  let main_v23 : FVec F S8192x512 .f32 := broadcastInDim S8192x512 ![] bcast_S_S8192x512 main_cst_6
  let main_v24 : IVec S8192x512 1 := cmpf .olt main_v22 main_v23
  let main_c_7 : IVec S_ 1 := constantI S_ 1 1#1
  let main_v25 : IVec S_ 1 := (fun x v => Host.reduce IntOp.andi x v reducesTo_S8192x512_S_d0_1 h_S_) main_v24 main_c_7
  let main_v26 : IVec S_ 1 := andi main_v21 main_v25
  main_v26

def fn {F : FTy → Type} [FloatOps F] (main_arg0 : FVec F S8192x512 .bf16) (main_arg1 : FVec F S8192x512 .bf16) (main_arg2 : FVec F S8192x512 .bf16) (main_arg3 : FVec F S8192x8 .f32) (main_arg4 : FVec F S8192x512 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x8 .f32 := Host.absf main_arg3
  fn_part1 (F := F) main_arg4 main_v16 main_v17
-- ==== Kernel.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192x64 : Shape := ⟨3, ![8, 8192, 64]⟩
abbrev S8x8192x3 : Shape := ⟨3, ![8, 8192, 3]⟩
abbrev S8x8192x61 : Shape := ⟨3, ![8, 8192, 61]⟩
abbrev S8x8192x58 : Shape := ⟨3, ![8, 8192, 58]⟩
abbrev S8x8192x128 : Shape := ⟨3, ![8, 8192, 128]⟩
abbrev S8x16x512x128 : Shape := ⟨4, ![8, 16, 512, 128]⟩
abbrev S8x16x128x512 : Shape := ⟨4, ![8, 16, 128, 512]⟩
abbrev S4x2x16x512 : Shape := ⟨4, ![4, 2, 16, 512]⟩
abbrev S4x16x2x512 : Shape := ⟨4, ![4, 16, 2, 512]⟩
abbrev S4x16x8x512 : Shape := ⟨4, ![4, 16, 8, 512]⟩
abbrev S64 : Shape := ⟨1, ![64]⟩
abbrev S8x16x8x512 : Shape := ⟨4, ![8, 16, 8, 512]⟩
abbrev S2x8192x128 : Shape := ⟨3, ![2, 8192, 128]⟩
abbrev S1x16x8x512 : Shape := ⟨4, ![1, 16, 8, 512]⟩
abbrev S2x512x128 : Shape := ⟨3, ![2, 512, 128]⟩
abbrev S2x1x128x512 : Shape := ⟨4, ![2, 1, 128, 512]⟩
abbrev S512x128 : Shape := ⟨2, ![512, 128]⟩
abbrev S1x1x8x512 : Shape := ⟨4, ![1, 1, 8, 512]⟩
abbrev S2x16x128x512 : Shape := ⟨4, ![2, 16, 128, 512]⟩
abbrev S2x16x8x512 : Shape := ⟨4, ![2, 16, 8, 512]⟩
abbrev S512x512 : Shape := ⟨2, ![512, 512]⟩
abbrev S1x512x128 : Shape := ⟨3, ![1, 512, 128]⟩
abbrev S1x1x1x512 : Shape := ⟨4, ![1, 1, 1, 512]⟩
abbrev S1x512 : Shape := ⟨2, ![1, 512]⟩
abbrev S1x1x128x512 : Shape := ⟨4, ![1, 1, 128, 512]⟩
abbrev S128x512 : Shape := ⟨2, ![128, 512]⟩
abbrev S8x512 : Shape := ⟨2, ![8, 512]⟩
abbrev S64x8x512 : Shape := ⟨3, ![64, 8, 512]⟩
abbrev S1 : Shape := ⟨1, ![1]⟩
abbrev S512 : Shape := ⟨1, ![512]⟩
abbrev S8x16x64x512 : Shape := ⟨4, ![8, 16, 64, 512]⟩
abbrev S16x512x8x64 : Shape := ⟨4, ![16, 512, 8, 64]⟩
abbrev S16x512x4x2 : Shape := ⟨4, ![16, 512, 4, 2]⟩
abbrev S8x16x512 : Shape := ⟨3, ![8, 16, 512]⟩
abbrev S16x512x8 : Shape := ⟨3, ![16, 512, 8]⟩

abbrev nBuf : Space → Nat
  | .hbm => 131
  | .vmem => 22
  | .smem => 1
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x8, .f32⟩
  | 4 => ⟨S8192x512, .f32⟩
  | 5 => ⟨S8192x512, .f32⟩
  | 6 => ⟨S8192x512, .f32⟩
  | 7 => ⟨S8192x512, .f32⟩
  | 8 => ⟨S8192x8x64, .f32⟩
  | 9 => ⟨S8192x8x64, .f32⟩
  | 10 => ⟨S8x8192x8192, .f32⟩
  | 11 => ⟨S_, .f32⟩
  | 12 => ⟨S8x8192x8192, .f32⟩
  | 13 => ⟨S8x8192x8192, .f32⟩
  | 14 => ⟨S8x8192, .f32⟩
  | 15 => ⟨S8x8192x1, .f32⟩
  | 16 => ⟨S8x8192x8192, .f32⟩
  | 17 => ⟨S8x8192x8192, .f32⟩
  | 18 => ⟨S8x1x8192, .f32⟩
  | 19 => ⟨S8x8192x8192, .f32⟩
  | 20 => ⟨S8x8192x8192, .f32⟩
  | 21 => ⟨S8192, .i32⟩
  | 22 => ⟨S1x8192, .i32⟩
  | 23 => ⟨S8192x1, .i32⟩
  | 24 => ⟨S8192x8192, .i32⟩
  | 25 => ⟨S8192x8192, .i32⟩
  | 26 => ⟨S8192x8192, .i1⟩
  | 27 => ⟨S1x8192x8192, .i1⟩
  | 28 => ⟨S_, .f32⟩
  | 29 => ⟨S_, .f32⟩
  | 30 => ⟨S8x8192x8192, .i1⟩
  | 31 => ⟨S8x8192x8192, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .f32⟩
  | 38 => ⟨S8x8192x8192, .f32⟩
  | 39 => ⟨S_, .f32⟩
  | 40 => ⟨S8x8192, .f32⟩
  | 41 => ⟨S8x8192, .f32⟩
  | 42 => ⟨S8x8192, .f32⟩
  | 43 => ⟨S8x8192x1, .f32⟩
  | 44 => ⟨S8x8192x8192, .f32⟩
  | 45 => ⟨S8x8192x8192, .f32⟩
  | 46 => ⟨S8x8192x8192, .f32⟩
  | 47 => ⟨S8192x8x64, .f32⟩
  | 48 => ⟨S8x8192x64, .f32⟩
  | 49 => ⟨S8x8192x64, .f32⟩
  | 50 => ⟨S8192x8x64, .f32⟩
  | 51 => ⟨S8192x512, .f32⟩
  | 52 => ⟨S8x8192, .f32⟩
  | 53 => ⟨S8x8192x1, .f32⟩
  | 54 => ⟨S8x8192x1, .bf16⟩
  | 55 => ⟨S8x8192x1, .f32⟩
  | 56 => ⟨S8x8192x1, .f32⟩
  | 57 => ⟨S8x8192x1, .bf16⟩
  | 58 => ⟨S8x8192x1, .f32⟩
  | 59 => ⟨S8x8192x1, .f32⟩
  | 60 => ⟨S8x8192x1, .bf16⟩
  | 61 => ⟨S8x8192x1, .f32⟩
  | 62 => ⟨S8192x512, .f32⟩
  | 63 => ⟨S8192x8x64, .f32⟩
  | 64 => ⟨S8x8192x64, .f32⟩
  | 65 => ⟨S_, .f32⟩
  | 66 => ⟨S8x8192, .f32⟩
  | 67 => ⟨S8x8192x1, .f32⟩
  | 68 => ⟨S8x8192x1, .f32⟩
  | 69 => ⟨S8x8192x1, .bf16⟩
  | 70 => ⟨S8x8192x1, .f32⟩
  | 71 => ⟨S8x8192x1, .f32⟩
  | 72 => ⟨S8x8192x1, .bf16⟩
  | 73 => ⟨S8x8192x1, .f32⟩
  | 74 => ⟨S8x8192x1, .f32⟩
  | 75 => ⟨S8x8192x1, .bf16⟩
  | 76 => ⟨S8x8192x1, .f32⟩
  | 77 => ⟨S_, .f32⟩
  | 78 => ⟨S8x8192x3, .f32⟩
  | 79 => ⟨S_, .f32⟩
  | 80 => ⟨S8x8192x61, .f32⟩
  | 81 => ⟨S_, .f32⟩
  | 82 => ⟨S8x8192x58, .f32⟩
  | 83 => ⟨S8192x8x64, .f32⟩
  | 84 => ⟨S8x8192x64, .f32⟩
  | 85 => ⟨S_, .f32⟩
  | 86 => ⟨S8x8192x64, .f32⟩
  | 87 => ⟨S8x8192x64, .f32⟩
  | 88 => ⟨S8x8192x3, .f32⟩
  | 89 => ⟨S8x8192x128, .f32⟩
  | 90 => ⟨S8x8192x128, .bf16⟩
  | 91 => ⟨S8192x8x64, .f32⟩
  | 92 => ⟨S8x8192x64, .f32⟩
  | 93 => ⟨S8x8192x128, .f32⟩
  | 94 => ⟨S8x8192x128, .bf16⟩
  | 95 => ⟨S8192x8x64, .f32⟩
  | 96 => ⟨S8x8192x64, .f32⟩
  | 97 => ⟨S8x8192x128, .f32⟩
  | 98 => ⟨S8x8192x128, .bf16⟩
  | 99 => ⟨S8192x8x64, .f32⟩
  | 100 => ⟨S8x8192x64, .f32⟩
  | 101 => ⟨S8x8192x128, .f32⟩
  | 102 => ⟨S8x8192x128, .bf16⟩
  | 103 => ⟨S8x16x512x128, .bf16⟩
  | 104 => ⟨S8x16x128x512, .bf16⟩
  | 105 => ⟨S4x2x16x512, .f32⟩
  | 106 => ⟨S4x16x2x512, .f32⟩
  | 107 => ⟨S_, .i32⟩
  | 108 => ⟨S_, .f32⟩
  | 109 => ⟨S4x16x8x512, .f32⟩
  | 110 => ⟨S_, .i32⟩
  | 111 => ⟨S8192x512, .bf16⟩
  | 112 => ⟨S8192x512, .bf16⟩
  | 113 => ⟨S4x16x8x512, .f32⟩
  | 114 => ⟨S8x16x128x512, .f32⟩
  | 115 => ⟨S8x16x8x512, .f32⟩
  | 116 => ⟨S8x16x64x512, .f32⟩
  | 117 => ⟨S16x512x8x64, .f32⟩
  | 118 => ⟨S8192x512, .f32⟩
  | 119 => ⟨S_, .f32⟩
  | 120 => ⟨S8192x512, .f32⟩
  | 121 => ⟨S8192x512, .f32⟩
  | 122 => ⟨S8192x512, .bf16⟩
  | 123 => ⟨S4x16x2x512, .f32⟩
  | 124 => ⟨S16x512x4x2, .f32⟩
  | 125 => ⟨S8192x8, .f32⟩
  | 126 => ⟨S_, .f32⟩
  | 127 => ⟨S8x16x512, .f32⟩
  | _ => ⟨S8192x512, .bf16⟩

abbrev hbmTy0_1 (i : Nat) : BufTy := match i % 128 with
  | 0 => ⟨S16x512x8, .f32⟩
  | 1 => ⟨S8192x8, .f32⟩
  | 2 => ⟨S8192x8, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S1x16x8x512, .f32⟩
  | .local _ .vmem, ⟨5, _⟩ => ⟨S1x16x8x512, .f32⟩
  | .local _ .vmem, ⟨6, _⟩ => ⟨S2x512x128, .bf16⟩
  | .local _ .vmem, ⟨7, _⟩ => ⟨S2x512x128, .bf16⟩
  | .local _ .vmem, ⟨8, _⟩ => ⟨S2x1x128x512, .bf16⟩
  | .local _ .vmem, ⟨9, _⟩ => ⟨S2x1x128x512, .bf16⟩
  | .local _ .vmem, ⟨10, _⟩ => ⟨S2x512x128, .bf16⟩
  | .local _ .vmem, ⟨11, _⟩ => ⟨S2x512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x1x8x512, .f32⟩
  | .local _ .vmem, ⟨17, _⟩ => ⟨S1x1x8x512, .f32⟩
  | .local _ .vmem, ⟨18, _⟩ => ⟨S2x16x128x512, .f32⟩
  | .local _ .vmem, ⟨19, _⟩ => ⟨S2x16x128x512, .f32⟩
  | .local _ .vmem, ⟨20, _⟩ => ⟨S2x16x8x512, .f32⟩
  | .local _ .vmem, ⟨21, _⟩ => ⟨S2x16x8x512, .f32⟩
  | .local _ .smem, ⟨0, _⟩ => ⟨S64, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c : Ref sig .tc := ⟨.hbm, 107, rfl⟩
abbrev main_call1_v0 : Ref sig .tc := ⟨.hbm, 108, rfl⟩
abbrev main_v90 : Ref sig .tc := ⟨.hbm, 109, rfl⟩
abbrev main_c_8 : Ref sig .tc := ⟨.hbm, 110, rfl⟩
abbrev main_v92_0 : Ref sig .tc := ⟨.hbm, 111, rfl⟩
abbrev main_v92_1 : Ref sig .tc := ⟨.hbm, 112, rfl⟩
abbrev main_v92_2 : Ref sig .tc := ⟨.hbm, 113, rfl⟩
abbrev main_v92_3 : Ref sig .tc := ⟨.hbm, 114, rfl⟩
abbrev main_v92_4 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_9 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_10 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v91 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_v91.idx], fun | 0 => main_v91.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 3 → Nat :=
  let c0 : Index := 0#32
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_1 : Index := 0#32
  ![0, v9.toNat, 0]
def k0_off2 (i : grid0.Coords) : Fin 4 → Nat :=
  let c0_8 : Index := 0#32
  let arg1 : BitVec 32 := BitVec.ofNat 32 (i 1).val
  let v18 : Index := Scalar.indexCast arg1
  let c0_9 : Index := 0#32
  let c0_10 : Index := 0#32
  ![0, v18.toNat, 0, 0]
def k0_off3 (i : grid0.Coords) : Fin 4 → Nat :=
  let c0_18 : Index := 0#32
  let arg1 : BitVec 32 := BitVec.ofNat 32 (i 1).val
  let v36 : Index := Scalar.indexCast arg1
  let c0_19 : Index := 0#32
  let c0_20 : Index := 0#32
  ![0, v36.toNat, 0, 0]
def k0_off4 (i : grid0.Coords) : Fin 4 → Nat :=
  let c0_29 : Index := 0#32
  let arg1 : BitVec 32 := BitVec.ofNat 32 (i 1).val
  let v55 : Index := Scalar.indexCast arg1
  let c0_30 : Index := 0#32
  let c0_31 : Index := 0#32
  ![0, v55.toNat, 0, 0]
def k0_off5 (i : grid0.Coords) : Fin 3 → Nat :=
  let c1 : Index := 1#32
  let arg1 : BitVec 32 := BitVec.ofNat 32 (i 1).val
  let c512_i32 : BitVec 32 := 512#32
  let v7 : BitVec 32 := Scalar.muli arg1 c512_i32
  let v8 : BitVec 32 := v7
  let v65 : Index := Scalar.indexCast v8
  let c0_36 : Index := 0#32
  ![1, v65.toNat, 0]
def k0_off6 (i : grid0.Coords) : Fin 4 → Nat :=
  let c0_43 : Index := 0#32
  let arg1 : BitVec 32 := BitVec.ofNat 32 (i 1).val
  let v74 : Index := Scalar.indexCast arg1
  let c1_44 : Index := 1#32
  let c0_45 : Index := 0#32
  ![0, v74.toNat, 1, 0]
def k0_off7 (i : grid0.Coords) : Fin 4 → Nat :=
  let c1_53 : Index := 1#32
  let arg1 : BitVec 32 := BitVec.ofNat 32 (i 1).val
  let v92 : Index := Scalar.indexCast arg1
  let c0_54 : Index := 0#32
  let c0_55 : Index := 0#32
  ![1, v92.toNat, 0, 0]
def k0_off8 (i : grid0.Coords) : Fin 4 → Nat :=
  let c1_64 : Index := 1#32
  let arg1 : BitVec 32 := BitVec.ofNat 32 (i 1).val
  let v111 : Index := Scalar.indexCast arg1
  let c0_65 : Index := 0#32
  let c0_66 : Index := 0#32
  ![1, v111.toNat, 0, 0]
def k0_off9 (i : grid0.Coords) : Fin 1 → Nat :=
  let arg0 : BitVec 32 := BitVec.ofNat 32 (i 0).val
  let c16_i32 : BitVec 32 := 16#32
  let v122 : BitVec 32 := Scalar.muli arg0 c16_i32
  let arg1 : BitVec 32 := BitVec.ofNat 32 (i 1).val
  let v123 : BitVec 32 := Scalar.addi v122 arg1
  let v124 : Index := Scalar.indexCast v123
  ![v124.toNat]
@[reducible] def k0_t1_loop (i : grid0.Coords) (v125 : BitVec 32) : Scf.Loop 32 :=
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_73 : BitVec 32 := 1#32
  ⟨v121, v131, c1_i32_73⟩

def k0_mult2 (i : grid0.Coords) (v125 : BitVec 32) (k0_t1 : Fin (k0_t1_loop i v125).trips) : BitVec 32 :=
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let c512_i32_92 : BitVec 32 := 512#32
  let v170 : BitVec 32 := Scalar.muli arg14 c512_i32_92
  v170
def k0_off10 (i : grid0.Coords) (v125 : BitVec 32) (k0_t1 : Fin (k0_t1_loop i v125).trips) : Fin 3 → Nat :=
  let c0_93 : Index := 0#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let c512_i32_92 : BitVec 32 := 512#32
  let v170 : BitVec 32 := Scalar.muli arg14 c512_i32_92
  let v171 : BitVec 32 := v170
  let v172 : Index := Scalar.indexCast v171
  let c0_94 : Index := 0#32
  ![0, v172.toNat, 0]
def k0_off11 (i : grid0.Coords) (v125 : BitVec 32) (k0_t1 : Fin (k0_t1_loop i v125).trips) : Fin 4 → Nat :=
  let c0_101 : Index := 0#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v181 : Index := Scalar.indexCast arg14
  let c0_102 : Index := 0#32
  let c0_103 : Index := 0#32
  ![0, v181.toNat, 0, 0]
def k0_off12 (i : grid0.Coords) (v125 : BitVec 32) (k0_t1 : Fin (k0_t1_loop i v125).trips) : Fin 4 → Nat :=
  let c0_110 : Index := 0#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v197 : Index := Scalar.indexCast arg14
  let c0_111 : Index := 0#32
  let c0_112 : Index := 0#32
  ![0, v197.toNat, 0, 0]
def k0_off13 (i : grid0.Coords) (v125 : BitVec 32) (k0_t1 : Fin (k0_t1_loop i v125).trips) : Fin 4 → Nat :=
  let c0_121 : Index := 0#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v216 : Index := Scalar.indexCast arg14
  let c0_122 : Index := 0#32
  let c0_123 : Index := 0#32
  ![0, v216.toNat, 0, 0]
def k0_off14 (i : grid0.Coords) (v125 : BitVec 32) (k0_t1 : Fin (k0_t1_loop i v125).trips) : Fin 3 → Nat :=
  let c1_128 : Index := 1#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let c512_i32_92 : BitVec 32 := 512#32
  let v170 : BitVec 32 := Scalar.muli arg14 c512_i32_92
  let v171 : BitVec 32 := v170
  let v226 : Index := Scalar.indexCast v171
  let c0_129 : Index := 0#32
  ![1, v226.toNat, 0]
def k0_off15 (i : grid0.Coords) (v125 : BitVec 32) (k0_t1 : Fin (k0_t1_loop i v125).trips) : Fin 4 → Nat :=
  let c0_136 : Index := 0#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v235 : Index := Scalar.indexCast arg14
  let c1_137 : Index := 1#32
  let c0_138 : Index := 0#32
  ![0, v235.toNat, 1, 0]
def k0_off16 (i : grid0.Coords) (v125 : BitVec 32) (k0_t1 : Fin (k0_t1_loop i v125).trips) : Fin 4 → Nat :=
  let c1_145 : Index := 1#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v251 : Index := Scalar.indexCast arg14
  let c0_146 : Index := 0#32
  let c0_147 : Index := 0#32
  ![1, v251.toNat, 0, 0]
def k0_off17 (i : grid0.Coords) (v125 : BitVec 32) (k0_t1 : Fin (k0_t1_loop i v125).trips) : Fin 4 → Nat :=
  let c1_156 : Index := 1#32
  let arg1 : BitVec 32 := BitVec.ofNat 32 (i 1).val
  let c1_i32 : BitVec 32 := 1#32
  let v121 : BitVec 32 := Scalar.addi arg1 c1_i32
  let c1_i32_73 : BitVec 32 := 1#32
  let arg14 : BitVec 32 := Scf.iv v121 c1_i32_73 k0_t1
  let v270 : Index := Scalar.indexCast arg14
  let c0_157 : Index := 0#32
  let c0_158 : Index := 0#32
  ![1, v270.toNat, 0, 0]
@[reducible] def k0_t2_loop (i : grid0.Coords) (v125 : BitVec 32) : Scf.Loop 32 :=
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let v128 : BitVec 32 := Scalar.addi v121 v127
  let c1_i32_74 : BitVec 32 := 1#32
  ⟨v131, v128, c1_i32_74⟩
def k0_mult3 (i : grid0.Coords) (v125 : BitVec 32) (k0_t2 : Fin (k0_t2_loop i v125).trips) : BitVec 32 :=
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let c512_i32_92 : BitVec 32 := 512#32
  let v170 : BitVec 32 := Scalar.muli arg14 c512_i32_92
  v170
def k0_off18 (i : grid0.Coords) (v125 : BitVec 32) (k0_t2 : Fin (k0_t2_loop i v125).trips) : Fin 3 → Nat :=
  let c0_93 : Index := 0#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let c512_i32_92 : BitVec 32 := 512#32
  let v170 : BitVec 32 := Scalar.muli arg14 c512_i32_92
  let v171 : BitVec 32 := v170
  let v172 : Index := Scalar.indexCast v171
  let c0_94 : Index := 0#32
  ![0, v172.toNat, 0]
def k0_off19 (i : grid0.Coords) (v125 : BitVec 32) (k0_t2 : Fin (k0_t2_loop i v125).trips) : Fin 4 → Nat :=
  let c0_101 : Index := 0#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v181 : Index := Scalar.indexCast arg14
  let c0_102 : Index := 0#32
  let c0_103 : Index := 0#32
  ![0, v181.toNat, 0, 0]
def k0_off20 (i : grid0.Coords) (v125 : BitVec 32) (k0_t2 : Fin (k0_t2_loop i v125).trips) : Fin 4 → Nat :=
  let c0_110 : Index := 0#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v197 : Index := Scalar.indexCast arg14
  let c0_111 : Index := 0#32
  let c0_112 : Index := 0#32
  ![0, v197.toNat, 0, 0]
def k0_off21 (i : grid0.Coords) (v125 : BitVec 32) (k0_t2 : Fin (k0_t2_loop i v125).trips) : Fin 4 → Nat :=
  let c0_121 : Index := 0#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v216 : Index := Scalar.indexCast arg14
  let c0_122 : Index := 0#32
  let c0_123 : Index := 0#32
  ![0, v216.toNat, 0, 0]
def k0_off22 (i : grid0.Coords) (v125 : BitVec 32) (k0_t2 : Fin (k0_t2_loop i v125).trips) : Fin 3 → Nat :=
  let c1_128 : Index := 1#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let c512_i32_92 : BitVec 32 := 512#32
  let v170 : BitVec 32 := Scalar.muli arg14 c512_i32_92
  let v171 : BitVec 32 := v170
  let v226 : Index := Scalar.indexCast v171
  let c0_129 : Index := 0#32
  ![1, v226.toNat, 0]
def k0_off23 (i : grid0.Coords) (v125 : BitVec 32) (k0_t2 : Fin (k0_t2_loop i v125).trips) : Fin 4 → Nat :=
  let c0_136 : Index := 0#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v235 : Index := Scalar.indexCast arg14
  let c1_137 : Index := 1#32
  let c0_138 : Index := 0#32
  ![0, v235.toNat, 1, 0]
def k0_off24 (i : grid0.Coords) (v125 : BitVec 32) (k0_t2 : Fin (k0_t2_loop i v125).trips) : Fin 4 → Nat :=
  let c1_145 : Index := 1#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v251 : Index := Scalar.indexCast arg14
  let c0_146 : Index := 0#32
  let c0_147 : Index := 0#32
  ![1, v251.toNat, 0, 0]
def k0_off25 (i : grid0.Coords) (v125 : BitVec 32) (k0_t2 : Fin (k0_t2_loop i v125).trips) : Fin 4 → Nat :=
  let c1_156 : Index := 1#32
  let arg1 : BitVec 32 := BitVec.ofNat 32 (i 1).val
  let c1_i32 : BitVec 32 := 1#32
  let v121 : BitVec 32 := Scalar.addi arg1 c1_i32
  let c1_i32_71 : BitVec 32 := 1#32
  let v126 : BitVec 32 := Scalar.addi v125 c1_i32_71
  let v127 : BitVec 32 := Scalar.subi v126 v121
  let c1_i32_72 : BitVec 32 := 1#32
  let v129 : BitVec 32 := Scalar.divsi v127 c1_i32_72
  let v130 : BitVec 32 := Scalar.muli v129 c1_i32_72
  let v131 : BitVec 32 := Scalar.addi v121 v130
  let c1_i32_74 : BitVec 32 := 1#32
  let arg14 : BitVec 32 := Scf.iv v131 c1_i32_74 k0_t2
  let v270 : Index := Scalar.indexCast arg14
  let c0_157 : Index := 0#32
  let c0_158 : Index := 0#32
  ![1, v270.toNat, 0, 0]

def k0_chk1 (i : grid0.Coords) (v125 : BitVec 32) : Prop :=
  ((k0_t1_loop i v125).OK) ∧
  (∀ k0_t1 : Fin (k0_t1_loop i v125).trips, 512 ∣ (k0_mult2 i v125 k0_t1).toNat) ∧
  (∀ k0_t1 : Fin (k0_t1_loop i v125).trips, ∀ a, (k0_off10 i v125 k0_t1) a + S1x512x128.size a ≤ S2x8192x128.size a) ∧
  (∀ k0_t1 : Fin (k0_t1_loop i v125).trips, ∀ a, (k0_off11 i v125 k0_t1) a + S1x1x1x512.size a ≤ S1x16x8x512.size a) ∧
  (∀ k0_t1 : Fin (k0_t1_loop i v125).trips, ∀ a, (k0_off12 i v125 k0_t1) a + S1x1x128x512.size a ≤ S2x16x128x512.size a) ∧
  (∀ k0_t1 : Fin (k0_t1_loop i v125).trips, ∀ a, (k0_off13 i v125 k0_t1) a + S1x1x8x512.size a ≤ S2x16x8x512.size a) ∧
  (∀ k0_t1 : Fin (k0_t1_loop i v125).trips, ∀ a, (k0_off14 i v125 k0_t1) a + S1x512x128.size a ≤ S2x8192x128.size a) ∧
  (∀ k0_t1 : Fin (k0_t1_loop i v125).trips, ∀ a, (k0_off15 i v125 k0_t1) a + S1x1x1x512.size a ≤ S1x16x8x512.size a) ∧
  (∀ k0_t1 : Fin (k0_t1_loop i v125).trips, ∀ a, (k0_off16 i v125 k0_t1) a + S1x1x128x512.size a ≤ S2x16x128x512.size a) ∧
  (∀ k0_t1 : Fin (k0_t1_loop i v125).trips, ∀ a, (k0_off17 i v125 k0_t1) a + S1x1x8x512.size a ≤ S2x16x8x512.size a) ∧
  ((k0_t2_loop i v125).OK) ∧
  (∀ k0_t2 : Fin (k0_t2_loop i v125).trips, 512 ∣ (k0_mult3 i v125 k0_t2).toNat) ∧
  (∀ k0_t2 : Fin (k0_t2_loop i v125).trips, ∀ a, (k0_off18 i v125 k0_t2) a + S1x512x128.size a ≤ S2x8192x128.size a) ∧
  (∀ k0_t2 : Fin (k0_t2_loop i v125).trips, ∀ a, (k0_off19 i v125 k0_t2) a + S1x1x1x512.size a ≤ S1x16x8x512.size a) ∧
  (∀ k0_t2 : Fin (k0_t2_loop i v125).trips, ∀ a, (k0_off20 i v125 k0_t2) a + S1x1x128x512.size a ≤ S2x16x128x512.size a) ∧
  (∀ k0_t2 : Fin (k0_t2_loop i v125).trips, ∀ a, (k0_off21 i v125 k0_t2) a + S1x1x8x512.size a ≤ S2x16x8x512.size a) ∧
  (∀ k0_t2 : Fin (k0_t2_loop i v125).trips, ∀ a, (k0_off22 i v125 k0_t2) a + S1x512x128.size a ≤ S2x8192x128.size a) ∧
  (∀ k0_t2 : Fin (k0_t2_loop i v125).trips, ∀ a, (k0_off23 i v125 k0_t2) a + S1x1x1x512.size a ≤ S1x16x8x512.size a) ∧
  (∀ k0_t2 : Fin (k0_t2_loop i v125).trips, ∀ a, (k0_off24 i v125 k0_t2) a + S1x1x128x512.size a ≤ S2x16x128x512.size a) ∧
  (∀ k0_t2 : Fin (k0_t2_loop i v125).trips, ∀ a, (k0_off25 i v125 k0_t2) a + S1x1x8x512.size a ≤ S2x16x8x512.size a)
theorem k0_t1_ok : ∀ (i : grid0.Coords) (v125 : BitVec 32) (k0_hw1 : k0_chk1 i v125), (k0_t1_loop i v125).OK := fun i v125 k0_hw1 => k0_hw1.1
theorem k0_mult2_dvd : ∀ (i : grid0.Coords) (v125 : BitVec 32) (k0_hw1 : k0_chk1 i v125) (k0_t1 : Fin (k0_t1_loop i v125).trips), 512 ∣ (k0_mult2 i v125 k0_t1).toNat := fun i v125 k0_hw1 k0_t1 => k0_hw1.2.1 k0_t1
theorem k0_off10_inb : ∀ (i : grid0.Coords) (v125 : BitVec 32) (k0_hw1 : k0_chk1 i v125) (k0_t1 : Fin (k0_t1_loop i v125).trips), ∀ a, (k0_off10 i v125 k0_t1) a + S1x512x128.size a ≤ S2x8192x128.size a := fun i v125 k0_hw1 k0_t1 => k0_hw1.2.2.1 k0_t1
theorem k0_off11_inb : ∀ (i : grid0.Coords) (v125 : BitVec 32) (k0_hw1 : k0_chk1 i v125) (k0_t1 : Fin (k0_t1_loop i v125).trips), ∀ a, (k0_off11 i v125 k0_t1) a + S1x1x1x512.size a ≤ S1x16x8x512.size a := fun i v125 k0_hw1 k0_t1 => k0_hw1.2.2.2.1 k0_t1
theorem k0_off12_inb : ∀ (i : grid0.Coords) (v125 : BitVec 32) (k0_hw1 : k0_chk1 i v125) (k0_t1 : Fin (k0_t1_loop i v125).trips), ∀ a, (k0_off12 i v125 k0_t1) a + S1x1x128x512.size a ≤ S2x16x128x512.size a := fun i v125 k0_hw1 k0_t1 => k0_hw1.2.2.2.2.1 k0_t1
theorem k0_off13_inb : ∀ (i : grid0.Coords) (v125 : BitVec 32) (k0_hw1 : k0_chk1 i v125) (k0_t1 : Fin (k0_t1_loop i v125).trips), ∀ a, (k0_off13 i v125 k0_t1) a + S1x1x8x512.size a ≤ S2x16x8x512.size a := fun i v125 k0_hw1 k0_t1 => k0_hw1.2.2.2.2.2.1 k0_t1
theorem k0_off14_inb : ∀ (i : grid0.Coords) (v125 : BitVec 32) (k0_hw1 : k0_chk1 i v125) (k0_t1 : Fin (k0_t1_loop i v125).trips), ∀ a, (k0_off14 i v125 k0_t1) a + S1x512x128.size a ≤ S2x8192x128.size a := fun i v125 k0_hw1 k0_t1 => k0_hw1.2.2.2.2.2.2.1 k0_t1
theorem k0_off15_inb : ∀ (i : grid0.Coords) (v125 : BitVec 32) (k0_hw1 : k0_chk1 i v125) (k0_t1 : Fin (k0_t1_loop i v125).trips), ∀ a, (k0_off15 i v125 k0_t1) a + S1x1x1x512.size a ≤ S1x16x8x512.size a := fun i v125 k0_hw1 k0_t1 => k0_hw1.2.2.2.2.2.2.2.1 k0_t1
theorem k0_off16_inb : ∀ (i : grid0.Coords) (v125 : BitVec 32) (k0_hw1 : k0_chk1 i v125) (k0_t1 : Fin (k0_t1_loop i v125).trips), ∀ a, (k0_off16 i v125 k0_t1) a + S1x1x128x512.size a ≤ S2x16x128x512.size a := fun i v125 k0_hw1 k0_t1 => k0_hw1.2.2.2.2.2.2.2.2.1 k0_t1
theorem k0_off17_inb : ∀ (i : grid0.Coords) (v125 : BitVec 32) (k0_hw1 : k0_chk1 i v125) (k0_t1 : Fin (k0_t1_loop i v125).trips), ∀ a, (k0_off17 i v125 k0_t1) a + S1x1x8x512.size a ≤ S2x16x8x512.size a := fun i v125 k0_hw1 k0_t1 => k0_hw1.2.2.2.2.2.2.2.2.2.1 k0_t1
theorem k0_t2_ok : ∀ (i : grid0.Coords) (v125 : BitVec 32) (k0_hw1 : k0_chk1 i v125), (k0_t2_loop i v125).OK := fun i v125 k0_hw1 => k0_hw1.2.2.2.2.2.2.2.2.2.2.1
theorem k0_mult3_dvd : ∀ (i : grid0.Coords) (v125 : BitVec 32) (k0_hw1 : k0_chk1 i v125) (k0_t2 : Fin (k0_t2_loop i v125).trips), 512 ∣ (k0_mult3 i v125 k0_t2).toNat := fun i v125 k0_hw1 k0_t2 => k0_hw1.2.2.2.2.2.2.2.2.2.2.2.1 k0_t2
theorem k0_off18_inb : ∀ (i : grid0.Coords) (v125 : BitVec 32) (k0_hw1 : k0_chk1 i v125) (k0_t2 : Fin (k0_t2_loop i v125).trips), ∀ a, (k0_off18 i v125 k0_t2) a + S1x512x128.size a ≤ S2x8192x128.size a := fun i v125 k0_hw1 k0_t2 => k0_hw1.2.2.2.2.2.2.2.2.2.2.2.2.1 k0_t2
theorem k0_off19_inb : ∀ (i : grid0.Coords) (v125 : BitVec 32) (k0_hw1 : k0_chk1 i v125) (k0_t2 : Fin (k0_t2_loop i v125).trips), ∀ a, (k0_off19 i v125 k0_t2) a + S1x1x1x512.size a ≤ S1x16x8x512.size a := fun i v125 k0_hw1 k0_t2 => k0_hw1.2.2.2.2.2.2.2.2.2.2.2.2.2.1 k0_t2
theorem k0_off20_inb : ∀ (i : grid0.Coords) (v125 : BitVec 32) (k0_hw1 : k0_chk1 i v125) (k0_t2 : Fin (k0_t2_loop i v125).trips), ∀ a, (k0_off20 i v125 k0_t2) a + S1x1x128x512.size a ≤ S2x16x128x512.size a := fun i v125 k0_hw1 k0_t2 => k0_hw1.2.2.2.2.2.2.2.2.2.2.2.2.2.2.1 k0_t2
theorem k0_off21_inb : ∀ (i : grid0.Coords) (v125 : BitVec 32) (k0_hw1 : k0_chk1 i v125) (k0_t2 : Fin (k0_t2_loop i v125).trips), ∀ a, (k0_off21 i v125 k0_t2) a + S1x1x8x512.size a ≤ S2x16x8x512.size a := fun i v125 k0_hw1 k0_t2 => k0_hw1.2.2.2.2.2.2.2.2.2.2.2.2.2.2.2.1 k0_t2
theorem k0_off22_inb : ∀ (i : grid0.Coords) (v125 : BitVec 32) (k0_hw1 : k0_chk1 i v125) (k0_t2 : Fin (k0_t2_loop i v125).trips), ∀ a, (k0_off22 i v125 k0_t2) a + S1x512x128.size a ≤ S2x8192x128.size a := fun i v125 k0_hw1 k0_t2 => k0_hw1.2.2.2.2.2.2.2.2.2.2.2.2.2.2.2.2.1 k0_t2
theorem k0_off23_inb : ∀ (i : grid0.Coords) (v125 : BitVec 32) (k0_hw1 : k0_chk1 i v125) (k0_t2 : Fin (k0_t2_loop i v125).trips), ∀ a, (k0_off23 i v125 k0_t2) a + S1x1x1x512.size a ≤ S1x16x8x512.size a := fun i v125 k0_hw1 k0_t2 => k0_hw1.2.2.2.2.2.2.2.2.2.2.2.2.2.2.2.2.2.1 k0_t2
theorem k0_off24_inb : ∀ (i : grid0.Coords) (v125 : BitVec 32) (k0_hw1 : k0_chk1 i v125) (k0_t2 : Fin (k0_t2_loop i v125).trips), ∀ a, (k0_off24 i v125 k0_t2) a + S1x1x128x512.size a ≤ S2x16x128x512.size a := fun i v125 k0_hw1 k0_t2 => k0_hw1.2.2.2.2.2.2.2.2.2.2.2.2.2.2.2.2.2.2.1 k0_t2
theorem k0_off25_inb : ∀ (i : grid0.Coords) (v125 : BitVec 32) (k0_hw1 : k0_chk1 i v125) (k0_t2 : Fin (k0_t2_loop i v125).trips), ∀ a, (k0_off25 i v125 k0_t2) a + S1x1x8x512.size a ≤ S2x16x8x512.size a := fun i v125 k0_hw1 k0_t2 => k0_hw1.2.2.2.2.2.2.2.2.2.2.2.2.2.2.2.2.2.2.2 k0_t2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x16x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩

abbrev nBuf : Space → Nat
  | .hbm => 125
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x8x64, .f32⟩
  | .hbm, ⟨9, _⟩ => ⟨S8192x8x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S1x8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .i1⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S8x8192, .i1⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x1, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S8192x8x64, .f32⟩
  | .hbm, ⟨74, _⟩ => ⟨S8x64x8192, .f32⟩
  | .hbm, ⟨75, _⟩ => ⟨S8192x8x64, .f32⟩
  | .hbm, ⟨76, _⟩ => ⟨S8192x512, .f32⟩
  | .hbm, ⟨77, _⟩ => ⟨S8192x8x64, .f32⟩
  | .hbm, ⟨78, _⟩ => ⟨S8x64x8192, .f32⟩
  | .hbm, ⟨79, _⟩ => ⟨S8x8192x8192, .f32⟩
  | .hbm, ⟨80, _⟩ => ⟨S8x64x8192, .f32⟩
  | .hbm, ⟨81, _⟩ => ⟨S8192x8x64, .f32⟩
  | .hbm, ⟨82, _⟩ => ⟨S8192x512, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x1, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192x8192, .f32⟩
  | .hbm, ⟨99, _⟩ => ⟨S8x8192x8192, .f32⟩
  | .hbm, ⟨100, _⟩ => ⟨S8x8192x8192, .f32⟩
  | .hbm, ⟨101, _⟩ => ⟨S_, .f32⟩
  | .hbm, ⟨102, _⟩ => ⟨S8x8192, .f32⟩
  | .hbm, ⟨103, _⟩ => ⟨S8x1x8192, .f32⟩
  | .hbm, ⟨104, _⟩ => ⟨S_, .f32⟩
  | .hbm, ⟨105, _⟩ => ⟨S8x8192, .f32⟩
  | .hbm, ⟨106, _⟩ => ⟨S_, .f32⟩
  | .hbm, ⟨107, _⟩ => ⟨S8x8192, .f32⟩
  | .hbm, ⟨108, _⟩ => ⟨S8x8192x1, .f32⟩
  | .hbm, ⟨109, _⟩ => ⟨S_, .f32⟩
  | .hbm, ⟨110, _⟩ => ⟨S8x8192, .f32⟩
  | .hbm, ⟨111, _⟩ => ⟨S8x8192, .f32⟩
  | .hbm, ⟨112, _⟩ => ⟨S8192x8, .f32⟩
  | .hbm, ⟨113, _⟩ => ⟨S_, .f32⟩
  | .hbm, ⟨114, _⟩ => ⟨S8x8192x8192, .f32⟩
  | .hbm, ⟨115, _⟩ => ⟨S8x8192x8192, .f32⟩
  | .hbm, ⟨116, _⟩ => ⟨S8x8192x64, .f32⟩
  | .hbm, ⟨117, _⟩ => ⟨S8192x8x64, .f32⟩
  | .hbm, ⟨118, _⟩ => ⟨S8x8192x64, .f32⟩
  | .hbm, ⟨119, _⟩ => ⟨S8192x8x64, .f32⟩
  | .hbm, ⟨120, _⟩ => ⟨S8192x512, .f32⟩
  | .hbm, ⟨121, _⟩ => ⟨S8192x512, .f32⟩
  | .hbm, ⟨122, _⟩ => ⟨S8192x512, .bf16⟩
  | .hbm, ⟨123, _⟩ => ⟨S8192x512, .bf16⟩
  | .hbm, ⟨124, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== KernelUp.lean ====
abbrev S8192x1024 : Shape := ⟨2, ![8192, 1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S8192x2x2816 : Shape := ⟨3, ![8192, 2, 2816]⟩
abbrev S2x8192x2816 : Shape := ⟨3, ![2, 8192, 2816]⟩
abbrev S1x1024x1408 : Shape := ⟨3, ![1, 1024, 1408]⟩
abbrev S1024x1408 : Shape := ⟨2, ![1024, 1408]⟩
abbrev S1x512x1408 : Shape := ⟨3, ![1, 512, 1408]⟩
abbrev S1024x512 : Shape := ⟨2, ![1024, 512]⟩
abbrev S512x1408 : Shape := ⟨2, ![512, 1408]⟩
abbrev S1024x1024 : Shape := ⟨2, ![1024, 1024]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S1024x4x1408, .bf16⟩
  | .hbm, ⟨4, _⟩ => ⟨S4x1024x1408, .bf16⟩
  | .hbm, ⟨5, _⟩ => ⟨S8192x2x2816, .bf16⟩
  | .hbm, ⟨6, _⟩ => ⟨S2x8192x2816, .bf16⟩
  | .hbm, ⟨7, _⟩ => ⟨S1x1024x1408, .bf16⟩
  | .hbm, ⟨8, _⟩ => ⟨S1024x1408, .bf16⟩
  | .hbm, ⟨9, _⟩ => ⟨S8192x1024, .f32⟩
  | .hbm, ⟨10, _⟩ => ⟨S4x1024x1408, .f32⟩
  | .hbm, ⟨11, _⟩ => ⟨S1024x4x1408, .f32⟩
  | .hbm, ⟨12, _⟩ => ⟨S1024x5632, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S1x512x1408, .bf16⟩
  | .local _ .vmem, ⟨13, _⟩ => ⟨S1x512x1408, .bf16⟩
  | .local _ .vmem, ⟨14, _⟩ => ⟨S1x512x1408, .bf16⟩
  | .local _ .vmem, ⟨15, _⟩ => ⟨S1x512x1408, .bf16⟩
  | .local _ .vmem, ⟨16, _⟩ => ⟨S1024x512, .f32⟩
  | .local _ .vmem, ⟨17, _⟩ => ⟨S1024x512, .f32⟩
  | .local _ .vmem, ⟨18, _⟩ => ⟨S1024x1024, .bf16⟩
  | .local _ .vmem, ⟨19, _⟩ => ⟨S1024x1024, .bf16⟩
  | .local _ .vmem, ⟨20, _⟩ => ⟨S1x1024x1408, .bf16⟩
  | .local _ .vmem, ⟨21, _⟩ => ⟨S1x1024x1408, .bf16⟩
  | .local _ .vmem, ⟨22, _⟩ => ⟨S1x1024x1408, .f32⟩
  | .local _ .vmem, ⟨23, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, arg0.toNat, c1_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![1, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceUpIdeal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .bf16⟩
  | .hbm, ⟨4, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1408x1024, .f32⟩
  | .local _ .vmem, ⟨11, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceDownIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![1, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== ReferenceOutIdeal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInW.lean ====
abbrev S8192x1024 : Shape := ⟨2, ![8192, 1024]⟩
abbrev S8192x3080 : Shape := ⟨2, ![8192, 3080]⟩
abbrev S8192x1536 : Shape := ⟨2, ![8192, 1536]⟩
abbrev S8192x512 : Shape := ⟨2, ![8192, 512]⟩
abbrev S8192x8 : Shape := ⟨2, ![8192, 8]⟩
abbrev S_ : Shape := ⟨0, ![]⟩
abbrev S8192x128 : Shape := ⟨2, ![8192, 128]⟩
abbrev S1024x1536 : Shape := ⟨2, ![1024, 1536]⟩
abbrev S1024x1024 : Shape := ⟨2, ![1024, 1024]⟩
abbrev S1024x512 : Shape := ⟨2, ![1024, 512]⟩
abbrev S1024x128 : Shape := ⟨2, ![1024, 128]⟩
abbrev S1024x8 : Shape := ⟨2, ![1024, 8]⟩
abbrev S1024x3080 : Shape := ⟨2, ![1024, 3080]⟩

abbrev nBuf : Space → Nat
  | .hbm => 17
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x3080, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x8, .bf16⟩
  | .hbm, ⟨7, _⟩ => ⟨S_, .i32⟩
  | .hbm, ⟨8, _⟩ => ⟨S_, .bf16⟩
  | .hbm, ⟨9, _⟩ => ⟨S8192x128, .bf16⟩
  | .hbm, ⟨10, _⟩ => ⟨S1024x1536, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x128, .f32⟩
  | .hbm, ⟨15, _⟩ => ⟨S1024x8, .f32⟩
  | .hbm, ⟨16, _⟩ => ⟨S1024x3080, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x1024, .bf16⟩
  | .local _ .vmem, ⟨16, _⟩ => ⟨S1024x1024, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x1024, .bf16⟩
  | .local _ .vmem, ⟨21, _⟩ => ⟨S1024x1024, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 8], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]
-- ==== ReferenceInWIdeal.lean ====
abbrev S8192x1024 : Shape := ⟨2, ![8192, 1024]⟩
abbrev S8192x3080 : Shape := ⟨2, ![8192, 3080]⟩
abbrev S_ : Shape := ⟨0, ![]⟩
abbrev S1024x3080 : Shape := ⟨2, ![1024, 3080]⟩
abbrev S3080x1024 : Shape := ⟨2, ![3080, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3080, .bf16⟩
  | .hbm, ⟨2, _⟩ => ⟨S_, .f32⟩
  | .hbm, ⟨3, _⟩ => ⟨S1024x3080, .f32⟩
  | .hbm, ⟨4, _⟩ => ⟨S8192x1024, .f32⟩
  | .hbm, ⟨5, _⟩ => ⟨S8192x3080, .f32⟩
  | .hbm, ⟨6, _⟩ => ⟨S8192x3080, .f32⟩
  | .hbm, ⟨7, _⟩ => ⟨S3080x1024, .f32⟩
  | .hbm, ⟨8, _⟩ => ⟨S1024x3080, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInX.lean ====
abbrev S1024x3080 : Shape := ⟨2, ![1024, 3080]⟩
abbrev S8192x3080 : Shape := ⟨2, ![8192, 3080]⟩
abbrev S8192x1536 : Shape := ⟨2, ![8192, 1536]⟩
abbrev S8192x512 : Shape := ⟨2, ![8192, 512]⟩
abbrev S8192x8 : Shape := ⟨2, ![8192, 8]⟩
abbrev S_ : Shape := ⟨0, ![]⟩
abbrev S8192x128 : Shape := ⟨2, ![8192, 128]⟩
abbrev S1024x1536 : Shape := ⟨2, ![1024, 1536]⟩
abbrev S1024x512 : Shape := ⟨2, ![1024, 512]⟩
abbrev S1024x8 : Shape := ⟨2, ![1024, 8]⟩
abbrev S1024x128 : Shape := ⟨2, ![1024, 128]⟩
abbrev S8192x1024 : Shape := ⟨2, ![8192, 1024]⟩
abbrev S512x1536 : Shape := ⟨2, ![512, 1536]⟩
abbrev S512x512 : Shape := ⟨2, ![512, 512]⟩
abbrev S512x128 : Shape := ⟨2, ![512, 128]⟩

abbrev nBuf : Space → Nat
  | .hbm => 19
  | .vmem => 22
  | .smem => 0
  | _ => 0

abbrev bufTy : (tb : Table) → Fin (tcTables nBuf tb) → BufTy
  | .hbm, ⟨0, _⟩ => ⟨S1024x3080, .bf16⟩
  | .hbm, ⟨1, _⟩ => ⟨S8192x3080, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x8, .bf16⟩
  | .hbm, ⟨7, _⟩ => ⟨S_, .i32⟩
  | .hbm, ⟨8, _⟩ => ⟨S_, .bf16⟩
  | .hbm, ⟨9, _⟩ => ⟨S8192x128, .bf16⟩
  | .hbm, ⟨10, _⟩ => ⟨S1024x1536, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x8, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S512x1536, .bf16⟩
  | .local _ .vmem, ⟨11, _⟩ => ⟨S512x1536, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S1024x512, .f32⟩
  | .local _ .vmem, ⟨21, _⟩ => ⟨S1024x512, .f32⟩
  | _, _ => ⟨S1024x3080, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceInXIdeal.lean ====
abbrev S1024x3080 : Shape := ⟨2, ![1024, 3080]⟩
abbrev S8192x3080 : Shape := ⟨2, ![8192, 3080]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x3080, .bf16⟩
  | .hbm, ⟨1, _⟩ => ⟨S8192x3080, .bf16⟩
  | .hbm, ⟨2, _⟩ => ⟨S_, .f32⟩
  | .hbm, ⟨3, _⟩ => ⟨S8192x1024, .f32⟩
  | .hbm, ⟨4, _⟩ => ⟨S1024x3080, .f32⟩
  | .hbm, ⟨5, _⟩ => ⟨S8192x3080, .f32⟩
  | .hbm, ⟨6, _⟩ => ⟨S8192x3080, .f32⟩
  | .hbm, ⟨7, _⟩ => ⟨S8192x1024, .f32⟩
  | _, _ => ⟨S1024x3080, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpFwd.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpFwdIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelNorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelNormMix.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormMixIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Points.lean ====
/- The grid points of the call and where each window is fetched, held and flushed. -/
module

public import proofs.«01_k».proof.Proof.Gen.Kernel
public import Idealize.ShloMosaic.Lib.Pipeline.Kit

@[expose] public section

noncomputable section

namespace Cert.Kernel.Hand

open Cert.Kernel Cert.Kernel.Gen Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%73)) is fetched at the points ≡ 0 (mod 16), at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 0 (fun _ => rfl) (by decide)) (P := 16) (by decide) t : ∀ t : Fin grid0.N, Pipeline.Window.fetchOf grid0 false cc0_transform_0 t = true ↔ t.val % 16 = 0)
/-- Window 1 (operand 2 (%85)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 0 (fun _ => rfl) (by decide)) (P := 16) (by decide) t : ∀ t : Fin grid0.N, Pipeline.Window.fetchOf grid0 false cc0_transform_1 t = true ↔ t.val % 16 = 0)
/-- Window 2 (operand 3 (%90)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
/-- Window 3 (operand 4 (%77)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 5 (%87)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 6 (%81)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 6 (result 0 (%92#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)
/-- Window 7 (result 1 (%92#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)
/-- Window 8 (result 2 (%92#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 3 (%92#3)) is written back at the points ≡ 15 (mod 16), at any contents of the tables (its index map reads none). -/
theorem flush0_9 (a : (pcfg0 (F := F)).Adm) : ∀ t : Fin (cfg0 a).N, ((cfg0 a).win 9).flush t = true ↔ t.val % 16 = 15 :=
  (fun t => Pipeline.Window.flushOf_reads cc0_transform_9 reads0_9 hreads0_9 0 (by decide) (by decide) (Pipeline.Window.sep_of_coord cc0_transform_9 0 0 (fun _ => rfl) (by decide)) (P := 16) (m := 15) (by decide) rfl t : ∀ t : Fin grid0.N, Pipeline.Window.flushOf grid0 true cc0_transform_9 t = true ↔ t.val % 16 = 15)
/-- Window 10 (result 4 (%92#4)) is written back at the points ≡ 15 (mod 16), at any contents of the tables (its index map reads none). -/
theorem flush0_10 (a : (pcfg0 (F := F)).Adm) : ∀ t : Fin (cfg0 a).N, ((cfg0 a).win 10).flush t = true ↔ t.val % 16 = 15 :=
  (fun t => Pipeline.Window.flushOf_reads cc0_transform_10 reads0_10 hreads0_10 0 (by decide) (by decide) (Pipeline.Window.sep_of_coord cc0_transform_10 0 0 (fun _ => rfl) (by decide)) (P := 16) (m := 15) (by decide) rfl t : ∀ t : Fin grid0.N, Pipeline.Window.flushOf grid0 true cc0_transform_10 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn_bwd (grid0.coords t) (Memref.whole main_v91) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

end Cert.Kernel.Hand

end
-- ==== Proof.Runs.lean ====
/- What the runs of the kernel body share: the buffers as the region finds them, the table, the staging buffers at a grid point, and the frame out of a run. -/
module

public import proofs.«01_k».proof.Proof.Gen.Kernel.Launch
public import proofs.«01_k».proof.Proof.Gen.Kernel.Skeleton
public import proofs.«01_k».proof.Proof.Gen.Kernel.Loops
public import proofs.«01_k».proof.Proof.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 330000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_cst_10, main_cst_9, main_v100, main_v101, main_v102, main_v103, main_v104, main_v105, main_v93, main_v94, main_v95, main_v96, main_v97, main_v98, main_v99}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_v91
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      ((h c).2 main_arg4 (by decide : main_arg4 ∈ Pipeline.restRefs sig spec0 \ T0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin grid0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2x8192x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x8192x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16x8x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2x512x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x1x128x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2x512x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x8x512 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S2x16x128x512 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S2x16x8x512 .f32 := spec0_10.stage ((cfgM m hO).slots t 10)
abbrev hs0_10 (hO : Ok m) (t : Fin (cfgM m hO).N) : (ms0_10 m hO t).IsWhole := hstage0_10 (((cfgM m hO).slots t 10).cast nbuf0_10)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S64) (k0_off9 (grid0.coords t)) S1.size (k0_off9_inb (grid0.coords t))).toLoadRect (tbl m 0) (Shape.Idx.first (numel1_S1.symm ▸ Nat.one_pos)))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S64) (k0_off9 (grid0.coords t)) S1.size (k0_off9_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S64) (k0_off9 (grid0.coords t)) S1.size (k0_off9_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.Kernel.Hand

end
-- ==== Proof.Step.lean ====
/- One query block of the attention backward as a function of the blocks: what a trip of the loop does to the carried sums and to the two query-side accumulators. -/
module

public import proofs.«01_k».proof.Proof.Runs
public import Idealize.ShloMosaic.Lib.VecWindow

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The carried sums: for each of the two heads the sums of `dk`, `dv` and of the columns' lane groups. -/
abbrev Carry (F : FTy → Type) := FVec F S512x128 .f32 × FVec F S512x128 .f32 × FVec F S512x128 .f32 × FVec F S512x128 .f32 × FVec F S512x128 .f32 × FVec F S512x128 .f32

/-- The carried sums with the two query-side accumulators. -/
abbrev St (F : FTy → Type) := Carry F × Vec F S2x16x128x512 .f32 × Vec F S2x16x8x512 .f32

/-- The first rows of a key block's operand: head 0 of the pair. -/
def kv0 (x : Vec F S2x512x128 .bf16) : Vec F S1x512x128 .bf16 := window x ![0, 0, 0] S1x512x128.size inb_S2x512x128_S1x512x128_0_0_0
/-- Head 1 of the pair. -/
def kv1 (x : Vec F S2x512x128 .bf16) : Vec F S1x512x128 .bf16 := window x ![1, 0, 0] S1x512x128.size inb_S2x512x128_S1x512x128_1_0_0
/-- The transposed keys of head 0. -/
def kt0 (x : Vec F S2x1x128x512 .bf16) : Vec F S1x1x128x512 .bf16 := window x ![0, 0, 0, 0] S1x1x128x512.size inb_S2x1x128x512_S1x1x128x512_0_0_0_0
/-- The transposed keys of head 1. -/
def kt1 (x : Vec F S2x1x128x512 .bf16) : Vec F S1x1x128x512 .bf16 := window x ![1, 0, 0, 0] S1x1x128x512.size inb_S2x1x128x512_S1x1x128x512_1_0_0_0

section Windows

variable {sig : RefSig} {κ : Kind} {sp : Space} {s : Shape} {e : EltTy} {Val : EltTy → Type}

/-- A load at a rectangle reads a window of what the buffer holds. -/
theorem readAt_win (v : View sig κ sp s e) (f : v.ty.Contents Val) {off size : Fin s.rank → ℕ} (inb : ∀ a, off a + size a ≤ s.size a) :
    v.readAt Val (Rect.unit off size inb).toLoadRect f = window (v.read Val f) off size inb := rfl

/-- A store at a rectangle puts its payload over that window. -/
theorem read_put (v : View sig κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

end Windows

/-- One unmasked query block, its rows and accumulator blocks at the given offsets. -/
def step (x0 x1 : Vec F S2x8192x128 .bf16) (x2 : Vec F S1x16x8x512 .f32) (x3 : Vec F S2x512x128 .bf16) (x4 : Vec F S2x1x128x512 .bf16) (x5 : Vec F S2x512x128 .bf16)
    (oq oq' : Fin 3 → ℕ) (ol ol' od od' oe oe' : Fin 4 → ℕ)
    (hq : ∀ a, oq a + S1x512x128.size a ≤ S2x8192x128.size a) (hq' : ∀ a, oq' a + S1x512x128.size a ≤ S2x8192x128.size a)
    (hl : ∀ a, ol a + S1x1x1x512.size a ≤ S1x16x8x512.size a) (hl' : ∀ a, ol' a + S1x1x1x512.size a ≤ S1x16x8x512.size a)
    (hd : ∀ a, od a + S1x1x128x512.size a ≤ S2x16x128x512.size a) (hd' : ∀ a, od' a + S1x1x128x512.size a ≤ S2x16x128x512.size a)
    (he : ∀ a, oe a + S1x1x8x512.size a ≤ S2x16x8x512.size a) (he' : ∀ a, oe' a + S1x1x8x512.size a ≤ S2x16x8x512.size a)
    (s : St F) : St F :=
  let q : Vec F S1x512x128 .bf16 := window x0 oq S1x512x128.size hq
  let d : Vec F S1x512x128 .bf16 := window x1 oq S1x512x128.size hq
  let l : Vec F S1x1x1x512 .f32 := window x2 ol S1x1x1x512.size hl
  let q' : Vec F S1x512x128 .bf16 := window x0 oq' S1x512x128.size hq'
  let d' : FVec F S512x128 .bf16 := k0_pay15 (window x1 oq' S1x512x128.size hq')
  let t : FVec F S512x512 .f32 := k0_pay16 q' (kv1 x3) (window x2 ol' S1x1x1x512.size hl')
  let D1 : Vec F S2x16x128x512 .f32 := put s.2.1 od S1x1x128x512.size (k0_pay11 (k0_pay9 (window s.2.1 od S1x1x128x512.size hd)) (k0_pay10 q d (kv0 x3) l (kv0 x5) (kt0 x4)))
  let E1 : Vec F S2x16x8x512 .f32 := put s.2.2 oe S1x1x8x512.size (k0_pay13 (k0_pay5 q d (kv0 x3) l (kv0 x5)) (window s.2.2 oe S1x1x8x512.size he))
  ((k0_pay8 s.1.1 q d (kv0 x3) l (kv0 x5), k0_pay7 s.1.2.1 q d (kv0 x3) l, k0_pay12 s.1.2.2.1 (k0_pay5 q d (kv0 x3) l (kv0 x5)),
      k0_pay21 s.1.2.2.2.1 (k0_pay14 q') d' t (kv1 x5), k0_pay20 s.1.2.2.2.2.1 d' t, k0_pay23 s.1.2.2.2.2.2 d' t (kv1 x5)),
    put D1 od' S1x1x128x512.size (k0_pay22 d' t (kv1 x5) (window D1 od' S1x1x128x512.size hd') (kt1 x4)),
    put E1 oe' S1x1x8x512.size (k0_pay74 (k0_pay24 d' t (kv1 x5) (window E1 oe' S1x1x8x512.size he'))))

/-- Before trip `k`, from `s`: the trips before it, at the program's own offsets. -/
def stR (x0 x1 : Vec F S2x8192x128 .bf16) (x2 : Vec F S1x16x8x512 .f32) (x3 : Vec F S2x512x128 .bf16) (x4 : Vec F S2x1x128x512 .bf16) (x5 : Vec F S2x512x128 .bf16)
    (i : grid0.Coords) (v125 : BitVec 32) (hw : k0_chk1 i v125) (s : St F) : ℕ → St F
  | 0 => s
  | k + 1 => if h : k < (k0_t1_loop i v125).trips then
      step x0 x1 x2 x3 x4 x5 (k0_off10 i v125 ⟨k, h⟩) (k0_off14 i v125 ⟨k, h⟩) (k0_off11 i v125 ⟨k, h⟩) (k0_off15 i v125 ⟨k, h⟩)
        (k0_off12 i v125 ⟨k, h⟩) (k0_off16 i v125 ⟨k, h⟩) (k0_off13 i v125 ⟨k, h⟩) (k0_off17 i v125 ⟨k, h⟩)
        (k0_off10_inb i v125 hw _) (k0_off14_inb i v125 hw _) (k0_off11_inb i v125 hw _) (k0_off15_inb i v125 hw _)
        (k0_off12_inb i v125 hw _) (k0_off16_inb i v125 hw _) (k0_off13_inb i v125 hw _) (k0_off17_inb i v125 hw _)
        (stR x0 x1 x2 x3 x4 x5 i v125 hw s k)
    else stR x0 x1 x2 x3 x4 x5 i v125 hw s k

theorem stR_succ (x0 x1 : Vec F S2x8192x128 .bf16) (x2 : Vec F S1x16x8x512 .f32) (x3 : Vec F S2x512x128 .bf16) (x4 : Vec F S2x1x128x512 .bf16) (x5 : Vec F S2x512x128 .bf16)
    (i : grid0.Coords) (v125 : BitVec 32) (hw : k0_chk1 i v125) (s : St F) (k : Fin (k0_t1_loop i v125).trips) :
    stR x0 x1 x2 x3 x4 x5 i v125 hw s (k.val + 1) =
      step x0 x1 x2 x3 x4 x5 (k0_off10 i v125 k) (k0_off14 i v125 k) (k0_off11 i v125 k) (k0_off15 i v125 k)
        (k0_off12 i v125 k) (k0_off16 i v125 k) (k0_off13 i v125 k) (k0_off17 i v125 k)
        (k0_off10_inb i v125 hw k) (k0_off14_inb i v125 hw k) (k0_off11_inb i v125 hw k) (k0_off15_inb i v125 hw k)
        (k0_off12_inb i v125 hw k) (k0_off16_inb i v125 hw k) (k0_off13_inb i v125 hw k) (k0_off17_inb i v125 hw k)
        (stR x0 x1 x2 x3 x4 x5 i v125 hw s k.val) := by
  rw [stR]; exact dif_pos k.isLt

end Cert.Kernel.Hand

end
-- ==== Proof.Loop.lean ====
/- The loop over the later query blocks, by its invariant. -/
module

public import proofs.«01_k».proof.Proof.Step
public import Idealize.ShloMosaic.Lib.VecWindow

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄" => MT nD τ sig Unit (Elt F) ℕ (UR sig nD τ) ℕ

set_option maxHeartbeats 4000000

/-- One trip: the two accumulators and the carried sums move by `step`. -/
theorem trip_t1 (𝒱 : Variants) (c : Dev nD) (bd : Option 𝒱.V) (E : Set ℕ) (i : grid0.Coords) (arg2 : Memref sig .tc .smem S64 .i32) (harg2 : arg2.IsWhole) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (arg0 : BitVec 32) (arg1 : BitVec 32) (v33 : FVec F S512x128 .f32) (v35 : FVec F S512x128 .f32) (v54 : FVec F S512x128 .f32) (v85 : FVec F S512x512 .f32) (v89 : FVec F S512x128 .f32) (v91 : FVec F S512x128 .f32) (v104 : FVec F S512x128 .f32) (v121 : BitVec 32) (v125 : Elt F .i32) (k0_hw1 : k0_chk1 i v125) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (k : Fin (k0_t1_loop i v125).trips) (s : St F) (f12 : BufTy.Contents (Elt F) arg12.view.ty) (f13 : BufTy.Contents (Elt F) arg13.view.ty)
    (h12 : arg12.view.read (Elt F) f12 = s.2.1) (h13 : arg13.view.read (Elt F) f13 = s.2.2) :
    iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg12.view.loc (c : Thread nD τ) ↦[arg12.view.set]{fullShare} f12) ∗ (arg13.view.loc (c : Thread nD τ) ↦[arg13.view.set]{fullShare} f13))
    ⊢ wp (M := 𝕄) frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg0 arg1 v33 v35 v54 v85 v89 v91 v104 v121 v125 k0_hw1 k s.1)
      (fun yld => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8)
        ∗ (∃ f, (arg12.view.loc (c : Thread nD τ) ↦[arg12.view.set]{fullShare} f) ∗ ⌜arg12.view.read (Elt F) f = (step (arg3.view.read (Elt F) X_arg3) (arg4.view.read (Elt F) X_arg4) (arg5.view.read (Elt F) X_arg5) (arg6.view.read (Elt F) X_arg6) (arg7.view.read (Elt F) X_arg7) (arg8.view.read (Elt F) X_arg8) (k0_off10 i v125 k) (k0_off14 i v125 k) (k0_off11 i v125 k) (k0_off15 i v125 k)
        (k0_off12 i v125 k) (k0_off16 i v125 k) (k0_off13 i v125 k) (k0_off17 i v125 k)
        (k0_off10_inb i v125 k0_hw1 k) (k0_off14_inb i v125 k0_hw1 k) (k0_off11_inb i v125 k0_hw1 k) (k0_off15_inb i v125 k0_hw1 k)
        (k0_off12_inb i v125 k0_hw1 k) (k0_off16_inb i v125 k0_hw1 k) (k0_off13_inb i v125 k0_hw1 k) (k0_off17_inb i v125 k0_hw1 k) s).2.1⌝)
        ∗ (∃ f, (arg13.view.loc (c : Thread nD τ) ↦[arg13.view.set]{fullShare} f) ∗ ⌜arg13.view.read (Elt F) f = (step (arg3.view.read (Elt F) X_arg3) (arg4.view.read (Elt F) X_arg4) (arg5.view.read (Elt F) X_arg5) (arg6.view.read (Elt F) X_arg6) (arg7.view.read (Elt F) X_arg7) (arg8.view.read (Elt F) X_arg8) (k0_off10 i v125 k) (k0_off14 i v125 k) (k0_off11 i v125 k) (k0_off15 i v125 k)
        (k0_off12 i v125 k) (k0_off16 i v125 k) (k0_off13 i v125 k) (k0_off17 i v125 k)
        (k0_off10_inb i v125 k0_hw1 k) (k0_off14_inb i v125 k0_hw1 k) (k0_off11_inb i v125 k0_hw1 k) (k0_off15_inb i v125 k0_hw1 k)
        (k0_off12_inb i v125 k0_hw1 k) (k0_off16_inb i v125 k0_hw1 k) (k0_off13_inb i v125 k0_hw1 k) (k0_off17_inb i v125 k0_hw1 k) s).2.2⌝)
        ∗ ⌜yld = (step (arg3.view.read (Elt F) X_arg3) (arg4.view.read (Elt F) X_arg4) (arg5.view.read (Elt F) X_arg5) (arg6.view.read (Elt F) X_arg6) (arg7.view.read (Elt F) X_arg7) (arg8.view.read (Elt F) X_arg8) (k0_off10 i v125 k) (k0_off14 i v125 k) (k0_off11 i v125 k) (k0_off15 i v125 k)
        (k0_off12 i v125 k) (k0_off16 i v125 k) (k0_off13 i v125 k) (k0_off17 i v125 k)
        (k0_off10_inb i v125 k0_hw1 k) (k0_off14_inb i v125 k0_hw1 k) (k0_off11_inb i v125 k0_hw1 k) (k0_off15_inb i v125 k0_hw1 k)
        (k0_off12_inb i v125 k0_hw1 k) (k0_off16_inb i v125 k0_hw1 k) (k0_off13_inb i v125 k0_hw1 k) (k0_off17_inb i v125 k0_hw1 k) s).1⌝)) := by
  unfold k0_t1_body
  simp only [k0_part1_eq_skeleton, k0_part2_eq_skeleton, k0_part3_eq_skeleton]
  iintro ⟨HR3, HR4, HR5, HR6, HR7, HR8, HW12, HW13⟩
  sl_exec
  sl_step
  isplitl [HR3]; · iexact HR3
  isplitl [HR4]; · iexact HR4
  isplitl [HR5]; · iexact HR5
  isplitl [HR6]; · iexact HR6
  isplitl [HR7]; · iexact HR7
  isplitl [HR8]; · iexact HR8
  isplitl [HW12]
  · iexists _; isplitl [HW12]; · iexact HW12
    ipureintro
    sl_unfold_run_names
    simp only [readAt_win, read_put, View.writes_nil, h12, h13]
    rfl
  isplitl [HW13]
  · iexists _; isplitl [HW13]; · iexact HW13
    ipureintro
    sl_unfold_run_names
    simp only [readAt_win, read_put, View.writes_nil, h12, h13]
    rfl
  ipureintro
  sl_unfold_run_names
  simp only [readAt_win, read_put, View.writes_nil, h12, h13]
  rfl

/-- The invariant before trip `k`: the reads as they were, the accumulators and the carried sums at the state before trip `k`. -/
abbrev inv_t1 (𝒱 : Variants) (c : Dev nD) (bd : Option 𝒱.V) (i : grid0.Coords) (arg2 : Memref sig .tc .smem S64 .i32) (harg2 : arg2.IsWhole) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (arg0 : BitVec 32) (arg1 : BitVec 32) (v33 : FVec F S512x128 .f32) (v35 : FVec F S512x128 .f32) (v54 : FVec F S512x128 .f32) (v85 : FVec F S512x512 .f32) (v89 : FVec F S512x128 .f32) (v91 : FVec F S512x128 .f32) (v104 : FVec F S512x128 .f32) (v121 : BitVec 32) (v125 : Elt F .i32) (k0_hw1 : k0_chk1 i v125) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg12 : BufTy.Contents (Elt F) arg12.view.ty) (G_arg13 : BufTy.Contents (Elt F) arg13.view.ty) (init : Carry F) (k : ℕ) (acc : Carry F) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8)
    ∗ (∃ f, (arg12.view.loc (c : Thread nD τ) ↦[arg12.view.set]{fullShare} f) ∗ ⌜arg12.view.read (Elt F) f = (stR (arg3.view.read (Elt F) X_arg3) (arg4.view.read (Elt F) X_arg4) (arg5.view.read (Elt F) X_arg5) (arg6.view.read (Elt F) X_arg6) (arg7.view.read (Elt F) X_arg7) (arg8.view.read (Elt F) X_arg8) i v125 k0_hw1 (init, arg12.view.read (Elt F) G_arg12, arg13.view.read (Elt F) G_arg13) k).2.1⌝)
    ∗ (∃ f, (arg13.view.loc (c : Thread nD τ) ↦[arg13.view.set]{fullShare} f) ∗ ⌜arg13.view.read (Elt F) f = (stR (arg3.view.read (Elt F) X_arg3) (arg4.view.read (Elt F) X_arg4) (arg5.view.read (Elt F) X_arg5) (arg6.view.read (Elt F) X_arg6) (arg7.view.read (Elt F) X_arg7) (arg8.view.read (Elt F) X_arg8) i v125 k0_hw1 (init, arg12.view.read (Elt F) G_arg12, arg13.view.read (Elt F) G_arg13) k).2.2⌝)
    ∗ ⌜acc = (stR (arg3.view.read (Elt F) X_arg3) (arg4.view.read (Elt F) X_arg4) (arg5.view.read (Elt F) X_arg5) (arg6.view.read (Elt F) X_arg6) (arg7.view.read (Elt F) X_arg7) (arg8.view.read (Elt F) X_arg8) i v125 k0_hw1 (init, arg12.view.read (Elt F) G_arg12, arg13.view.read (Elt F) G_arg13) k).1⌝)

set_option warn.classDefReducibility false in
/-- The loop by its invariant. -/
@[sl_loop] def loop_t1 (𝒱 : Variants) (c : Dev nD) (bd : Option 𝒱.V) (E : Set ℕ) (i : grid0.Coords) (arg2 : Memref sig .tc .smem S64 .i32) (harg2 : arg2.IsWhole) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (arg0 : BitVec 32) (arg1 : BitVec 32) (v33 : FVec F S512x128 .f32) (v35 : FVec F S512x128 .f32) (v54 : FVec F S512x128 .f32) (v85 : FVec F S512x512 .f32) (v89 : FVec F S512x128 .f32) (v91 : FVec F S512x128 .f32) (v104 : FVec F S512x128 .f32) (v121 : BitVec 32) (v125 : Elt F .i32) (k0_hw1 : k0_chk1 i v125) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg12 : BufTy.Contents (Elt F) arg12.view.ty) (G_arg13 : BufTy.Contents (Elt F) arg13.view.ty) (init : Carry F) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg0 arg1 v33 v35 v54 v85 v89 v91 v104 v121 v125 k0_hw1 init where
  inv := inv_t1 (F := F) 𝒱 c bd i arg2 harg2 arg3 harg3 arg4 harg4 arg5 harg5 arg6 harg6 arg7 harg7 arg8 harg8 arg9 harg9 arg10 harg10 arg11 harg11 arg12 harg12 arg13 harg13 arg0 arg1 v33 v35 v54 v85 v89 v91 v104 v121 v125 k0_hw1 X_arg3 X_arg4 X_arg5 X_arg6 X_arg7 X_arg8 G_arg12 G_arg13 init
  step k acc := by
    iintro ⟨HR_arg3, HR_arg4, HR_arg5, HR_arg6, HR_arg7, HR_arg8, ⟨%f_arg12, HW_arg12, %h_arg12⟩, ⟨%f_arg13, HW_arg13, %h_arg13⟩, %h_acc⟩
    subst h_acc
    iapply (wp_wand_r Idealize.ShloMosaic.frame (wpE (defs₀ (F := F)) 𝒱 (c : Thread nD τ) bd) E)
    isplitl [HR_arg3 HR_arg4 HR_arg5 HR_arg6 HR_arg7 HR_arg8 HW_arg12 HW_arg13]
    · iapply (trip_t1 (F := F) 𝒱 c bd E i arg2 harg2 arg3 harg3 arg4 harg4 arg5 harg5 arg6 harg6 arg7 harg7 arg8 harg8 arg9 harg9 arg10 harg10 arg11 harg11 arg12 harg12 arg13 harg13 arg0 arg1 v33 v35 v54 v85 v89 v91 v104 v121 v125 k0_hw1 X_arg3 X_arg4 X_arg5 X_arg6 X_arg7 X_arg8 k (stR (arg3.view.read (Elt F) X_arg3) (arg4.view.read (Elt F) X_arg4) (arg5.view.read (Elt F) X_arg5) (arg6.view.read (Elt F) X_arg6) (arg7.view.read (Elt F) X_arg7) (arg8.view.read (Elt F) X_arg8) i v125 k0_hw1 (init, arg12.view.read (Elt F) G_arg12, arg13.view.read (Elt F) G_arg13) k.val) f_arg12 f_arg13 h_arg12 h_arg13)
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HW_arg12]; · iexact HW_arg12
      iexact HW_arg13
    · iintro %yld ⟨HR_arg3, HR_arg4, HR_arg5, HR_arg6, HR_arg7, HR_arg8, ⟨%f_12, HW_arg12, %h_12⟩, ⟨%f_13, HW_arg13, %h_13⟩, %h_y⟩
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      simp only [stR_succ]
      isplitl [HW_arg12]
      · iexists _; isplitl [HW_arg12]; · iexact HW_arg12
        ipureintro; exact h_12
      isplitl [HW_arg13]
      · iexists _; isplitl [HW_arg13]; · iexact HW_arg13
        ipureintro; exact h_13
      ipureintro; exact h_y

end Cert.Kernel.Hand

end
-- ==== Proof.RunA.lean ====
/- The body run at the grid points where its first key block clears the query-side accumulators. -/
module

public import proofs.«01_k».proof.Proof.Loop

@[expose] public section

-- membership in a rectangle of production extents (`View.cover_of_tiled`): the elaborator's structural look
-- recurses once per coordinate of the long axes
set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 16, 32, 48): on whole staging memrefs — the inputs' at their contents,
    the FORGOTTEN outputs' (6, 7, 8, 9, 10) at anything, handed back at some contents nothing names —
    the body runs to the continuation holding the inputs' as they were: the printed functions are their skeletons (`*_eq_skeleton`),
    which `sl_exec` runs (Lib/Exec.lean) — each `scf.if` decided by the case's hypotheses `hc·`. -/
theorem kernelRun0_A (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : cond0_0 i)
    (x0 : Vec F S2x8192x128 .bf16) (x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (k0_hw1 : k0_chk1 i (tbM0_0.view.readAt (Elt F) (Rect.unit (s := S64) (k0_off9 i) S1.size (k0_off9_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexact HT0

end Cert.Kernel.Hand

end
-- ==== Proof.RunB.lean ====
/- The body run at the other grid points. -/
module

public import proofs.«01_k».proof.Proof.RunA

@[expose] public section

-- membership in a rectangle of production extents (`View.cover_of_tiled`): the elaborator's structural look
-- recurses once per coordinate of the long axes
set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 63: 60 of 64): on whole staging memrefs — the inputs' at their contents,
    the FORGOTTEN outputs' (6, 7, 8, 9, 10) at anything, handed back at some contents nothing names —
    the body runs to the continuation holding the inputs' as they were: the printed functions are their skeletons (`*_eq_skeleton`),
    which `sl_exec` runs (Lib/Exec.lean) — each `scf.if` decided by the case's hypotheses `hc·`. -/
theorem kernelRun0_B (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : ¬cond0_0 i)
    (x0 : Vec F S2x8192x128 .bf16) (x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (k0_hw1 : k0_chk1 i (tbM0_0.view.readAt (Elt F) (Rect.unit (s := S64) (k0_off9 i) S1.size (k0_off9_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexact HT0

end Cert.Kernel.Hand

end
-- ==== Proof.FrameRun.lean ====
/- The run of the whole program with the outputs left unnamed, and the frame. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq]
  have hN : t.val < 64 := lt_of_lt_of_eq t.isLt (show (cfgM m hO).N = 64 from N_0)
  by_cases h0 : t.val % 16 = 0
  · iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (Hyps.c0 hH c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) T0 (V m)) r ∧ r.2.sem = fun _ => 0) :=
  Pipeline.θ_run_frameP_around_T_forget (Q' := _) pcfgs (fun _ => adm m hO) (dats m hO hH) (0 : Fin 1) launch0 defs₀ Variants.none forgets0 T0 m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePostR` over the proof data with those windows
    forgotten, Dat.lean `Dat.toRForget`), and every other unscoped buffer outside `T0` at its region-entry contents. -/
theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) T0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO hH 0 c).toRForget forgets0) (A_eq m hO hH) (run_main m ρ hO hH)

/-- The frame claim's statement at any `F`, from the table's two facts. -/
theorem framed (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.Kernel.Hand

end
-- ==== Proof.Table.lean ====
/- The prefetched table of the attention backward call: every entry is the last query block's number, so the side
   conditions that the body checks of the entry it reads hold at every grid point. -/
module

public import proofs.«01_k».proof.Proof.FrameRun
public import Idealize.ShloMosaic.Lib.Claim

@[expose] public section

set_option maxRecDepth 16384

noncomputable section

namespace Cert.Kernel.Hand

open Idealize.ShloMosaic Idealize.ShloMosaic.TcCoe Idealize.ShloMosaic.Tactic Idealize.SL.Sem
open Cert.Kernel Cert.Kernel.Gen

variable {F : FTy → Type} [FloatOps F]
variable (m : (ℓ : Loc nD τ sig) → Buf (Elt F) ℓ)

/-- No window's index map reads the table. -/
theorem ok : Ok m := True.intro

set_option maxHeartbeats 1000000 in
/-- The table as the region finds it: the constant 15 everywhere. -/
theorem tbl_eq : tbl m 0 = (fun _ => 15#32 : S64.Idx → BitVec 32) := by
  show StableHlo.after (List.flatten [hostOps0, hostOps0_1, hostOps0_2, hostOps0_3, hostOps0_4]) (fun b => m ((0 : Dev nD), b)) (Proc.devRef .tc main_v91) = _
  simp only [hostOps0, hostOps0_1, hostOps0_2, hostOps0_3, hostOps0_4, List.flatten_cons, List.flatten_nil, List.append_nil,
    List.cons_append, List.nil_append]
  after_results
  rfl

/-- The body's checks hold of the word 15 at every grid point. -/
theorem chk_15 : ∀ t : Fin grid0.N, k0_chk1 (grid0.coords t) 15#32 := by
  decide +kernel

theorem hyps : Hyps m (ok m) := by
  intro c t
  have h : ∀ x, tbM0_0.view.readAt (Elt F) (Rect.unit (s := S64) (k0_off9 (grid0.coords t)) S1.size (k0_off9_inb (grid0.coords t))).toLoadRect (tbl m 0) x = 15#32 := by
    intro x
    rw [tbl_eq]; rfl
  rw [h]
  exact chk_15 t

end Cert.Kernel.Hand

end
-- ==== Proof.RefRun.lean ====
/- The reference as a straight line of host operations, cut into five stretches, and its run. -/
module

public import proofs.«01_k».proof.Defs
public import proofs.«01_k».proof.Proof.Gen.ReferenceIdeal
public import Idealize.ShloMosaic.Lib.Claim

@[expose] public section

set_option maxRecDepth 8192

noncomputable section

namespace Cert.ReferenceIdeal.Hand

open Idealize.ShloMosaic Idealize.ShloMosaic.TcCoe Idealize.ShloMosaic.Tactic Idealize.ShloMosaic.StableHlo Idealize.SL.Sem
open Cert.ReferenceIdeal Cert.ReferenceIdeal.Gen

variable {F : FTy → Type} [FloatOps F]

/-- The scores and the causal mask. -/
abbrev ops1 : List (HloOp τ sig (Elt F)) :=
  [ unary main_arg0 main_v0 ((extf .f32 · bitsLt_bf16_f32) : (⟨S8192x512, .bf16⟩ : BufTy).Contents (Elt F) → (⟨S8192x512, .f32⟩ : BufTy).Contents (Elt F)),
    unary main_arg1 main_v1 ((extf .f32 · bitsLt_bf16_f32) : (⟨S8192x512, .bf16⟩ : BufTy).Contents (Elt F) → (⟨S8192x512, .f32⟩ : BufTy).Contents (Elt F)),
    unary main_arg2 main_v2 ((extf .f32 · bitsLt_bf16_f32) : (⟨S8192x512, .bf16⟩ : BufTy).Contents (Elt F) → (⟨S8192x512, .f32⟩ : BufTy).Contents (Elt F)),
    reshape main_v0 main_v3 (rfl : (.f32 : EltTy) = .f32) shapeCasts_S8192x512_S8192x8x64,
    reshape main_v1 main_v4 (rfl : (.f32 : EltTy) = .f32) shapeCasts_S8192x512_S8192x8x64,
    binary main_v3 main_v4 main_v5 ((fun l r => Host.dotGeneral dot_S8192x8x64_S8192x8x64_S8x8192x8192_2_2_0_0_1_1 none l r) : (⟨S8192x8x64, .f32⟩ : BufTy).Contents (Elt F) → (⟨S8192x8x64, .f32⟩ : BufTy).Contents (Elt F) → (⟨S8x8192x8192, .f32⟩ : BufTy).Contents (Elt F)),
    nullary main_cst (constant S_ .f32 0x3E000000#32),
    unary main_cst main_v6 (broadcastInDim S8x8192x8192 ![] bcast_S_S8x8192x8192 : (⟨S_, .f32⟩ : BufTy).Contents (Elt F) → (⟨S8x8192x8192, .f32⟩ : BufTy).Contents (Elt F)),
    binary main_v5 main_v6 main_v7 (mulf : (⟨S8x8192x8192, .f32⟩ : BufTy).Contents (Elt F) → (⟨S8x8192x8192, .f32⟩ : BufTy).Contents (Elt F) → (⟨S8x8192x8192, .f32⟩ : BufTy).Contents (Elt F)),
    unary main_arg3 main_v8 ((transpose S8x8192 [1, 0] · transposes_S8192x8_S8x8192_1_0) : (⟨S8192x8, .f32⟩ : BufTy).Contents (Elt F) → (⟨S8x8192, .f32⟩ : BufTy).Contents (Elt F)),
    unary main_v8 main_v9 (broadcastInDim S8x8192x1 ![0, 1] bcast_S8x8192_S8x8192x1_0_1 : (⟨S8x8192, .f32⟩ : BufTy).Contents (Elt F) → (⟨S8x8192x1, .f32⟩ : BufTy).Contents (Elt F)),
    unary main_v9 main_v10 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v7 main_v10 main_v11 (addf : (⟨S8x8192x8192, .f32⟩ : BufTy).Contents (Elt F) → (⟨S8x8192x8192, .f32⟩ : BufTy).Contents (Elt F) → (⟨S8x8192x8192, .f32⟩ : BufTy).Contents (Elt F)),
    unary main_v8 main_v12 (broadcastInDim S8x1x8192 ![0, 2] bcast_S8x8192_S8x1x8192_0_2 : (⟨S8x8192, .f32⟩ : BufTy).Contents (Elt F) → (⟨S8x1x8192, .f32⟩ : BufTy).Contents (Elt F)),
    unary main_v12 main_v13 (broadcastInDim S8x8192x8192 ![0, 1, 2] bcast_S8x1x8192_S8x8192x8192_0_1_2 : (⟨S8x1x8192, .f32⟩ : BufTy).Contents (Elt F) → (⟨S8x8192x8192, .f32⟩ : BufTy).Contents (Elt F)),
    binary main_v11 main_v13 main_v14 (subf : (⟨S8x8192x8192, .f32⟩ : BufTy).Contents (Elt F) → (⟨S8x8192x8192, .f32⟩ : BufTy).Contents (Elt F) → (⟨S8x8192x8192, .f32⟩ : BufTy).Contents (Elt F)),
    nullary main_v15 (iotaInDim S8192 32 0),
    unary main_v15 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x1 ![0] bcast_S8192_S8192x1_0 : (⟨S8192, .i32⟩ : BufTy).Contents (Elt F) → (⟨S8192x1, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    unary main_v17 main_v19 (broadcastInDim S8192x8192 ![0, 1] bcast_S8192x1_S8192x8192_0_1 : (⟨S8192x1, .i32⟩ : BufTy).Contents (Elt F) → (⟨S8192x8192, .i32⟩ : BufTy).Contents (Elt F)),
    binary main_v18 main_v19 main_v20 (cmpi .sle : (⟨S8192x8192, .i32⟩ : BufTy).Contents (Elt F) → (⟨S8192x8192, .i32⟩ : BufTy).Contents (Elt F) → (⟨S8192x8192, .i1⟩ : BufTy).Contents (Elt F)),
    unary main_v20 main_v21 (broadcastInDim S1x8192x8192 ![1, 2] bcast_S8192x8192_S1x8192x8192_1_2 : (⟨S8192x8192, .i1⟩ : BufTy).Contents (Elt F) → (⟨S1x8192x8192, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S1x8192x8192, .i1⟩) main_v21) (TRef.of (T := ⟨S8x8192x8192, .i1⟩) main_v22_1) (broadcastInDim S8x8192x8192 ![0, 1, 2] bcast_S1x8192x8192_S8x8192x8192_0_1_2),
    TRef.unary (TRef.of (T := ⟨S_, .f32⟩) main_call0_v0) (TRef.of (T := ⟨S8x8192x8192, .f32⟩) main_call0_v2) (broadcastInDim S8x8192x8192 ![] bcast_S_S8x8192x8192),
    TRef.ternary (TRef.of (T := ⟨S8x8192x8192, .i1⟩) main_v22_1) (TRef.of (T := ⟨S8x8192x8192, .f32⟩) main_v14) (TRef.of (T := ⟨S8x8192x8192, .f32⟩) main_call0_v2) (TRef.of (T := ⟨S8x8192x8192, .f32⟩) main_v22_0) select,
    TRef.nullary (TRef.of (T := ⟨S_, .f32⟩) main_call0_cst) (constant S_ .f32 0x00000000#32),
    TRef.unary (TRef.of (T := ⟨S_, .f32⟩) main_call0_cst) (TRef.of (T := ⟨S8x8192x8192, .f32⟩) main_v22_2) (broadcastInDim S8x8192x8192 ![] bcast_S_S8x8192x8192) ]

/-- The softmax. -/
abbrev ops2 : List (HloOp τ sig (Elt F)) :=
  [ nullary main_cst_1 (constant S_ .f32 0xFF800000#32),
    binary main_v22_0 main_cst_1 main_v23 ((fun x v => Host.reduce FloatOps.maximumf x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    reshape main_v23 main_v24 (rfl : (.f32 : EltTy) = .f32) shapeCasts_S8x8192_S8x8192x1,
    unary main_v24 main_v25 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22_0 main_v25 main_v26 (cmpf .oeq : (⟨S8x8192x8192, .f32⟩ : BufTy).Contents (Elt F) → (⟨S8x8192x8192, .f32⟩ : BufTy).Contents (Elt F) → (⟨S8x8192x8192, .i1⟩ : BufTy).Contents (Elt F)),
    unary main_v26 main_v27 (uitofp .f32 : (⟨S8x8192x8192, .i1⟩ : BufTy).Contents (Elt F) → (⟨S8x8192x8192, .f32⟩ : BufTy).Contents (Elt F)),
    nullary main_cst_2 (constant S_ .f32 0x00000000#32),
    binary main_v27 main_cst_2 main_v28 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    nullary main_cst_3 (constant S_ .f32 0xFF800000#32),
    unary main_cst_3 main_v29 (broadcastInDim S8x8192 ![] bcast_S_S8x8192 : (⟨S_, .f32⟩ : BufTy).Contents (Elt F) → (⟨S8x8192, .f32⟩ : BufTy).Contents (Elt F)),
    binary main_v29 main_v23 main_v30 (maximumf : (⟨S8x8192, .f32⟩ : BufTy).Contents (Elt F) → (⟨S8x8192, .f32⟩ : BufTy).Contents (Elt F) → (⟨S8x8192, .f32⟩ : BufTy).Contents (Elt F)),
    nullary main_cst_4 (constant S_ .f32 0xFF800000#32),
    unary main_cst_4 main_v31 (broadcastInDim S8x8192 ![] bcast_S_S8x8192 : (⟨S_, .f32⟩ : BufTy).Contents (Elt F) → (⟨S8x8192, .f32⟩ : BufTy).Contents (Elt F)),
    binary main_v23 main_v31 main_v32 (cmpf .ogt : (⟨S8x8192, .f32⟩ : BufTy).Contents (Elt F) → (⟨S8x8192, .f32⟩ : BufTy).Contents (Elt F) → (⟨S8x8192, .i1⟩ : BufTy).Contents (Elt F)),
    nullary main_cst_5 (constant S_ .f32 0xFF800000#32),
    unary main_cst_5 main_v33 (broadcastInDim S8x8192 ![] bcast_S_S8x8192 : (⟨S_, .f32⟩ : BufTy).Contents (Elt F) → (⟨S8x8192, .f32⟩ : BufTy).Contents (Elt F)),
    binary main_v23 main_v33 main_v34 (cmpf .oeq : (⟨S8x8192, .f32⟩ : BufTy).Contents (Elt F) → (⟨S8x8192, .f32⟩ : BufTy).Contents (Elt F) → (⟨S8x8192, .i1⟩ : BufTy).Contents (Elt F)),
    nullary main_cst_6 (constant S_ .f32 0x3F800000#32),
    unary main_cst_6 main_v35 (broadcastInDim S8x8192 ![] bcast_S_S8x8192 : (⟨S_, .f32⟩ : BufTy).Contents (Elt F) → (⟨S8x8192, .f32⟩ : BufTy).Contents (Elt F)),
    nullary main_cst_7 (constant S_ .f32 0x00000000#32),
    unary main_cst_7 main_v36 (broadcastInDim S8x8192 ![] bcast_S_S8x8192 : (⟨S_, .f32⟩ : BufTy).Contents (Elt F) → (⟨S8x8192, .f32⟩ : BufTy).Contents (Elt F)),
    nullary main_cst_8 (constant S_ .f32 0x3F000000#32),
    unary main_cst_8 main_v37 (broadcastInDim S8x8192 ![] bcast_S_S8x8192 : (⟨S_, .f32⟩ : BufTy).Contents (Elt F) → (⟨S8x8192, .f32⟩ : BufTy).Contents (Elt F)),
    ternary main_v34 main_v37 main_v36 main_v38 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    ternary main_v32 main_v35 main_v38 main_v39 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    unary main_v30 main_v40 (broadcastInDim S8x8192x1 ![0, 1] bcast_S8x8192_S8x8192x1_0_1 : (⟨S8x8192, .f32⟩ : BufTy).Contents (Elt F) → (⟨S8x8192x1, .f32⟩ : BufTy).Contents (Elt F)),
    unary main_v40 main_v41 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22_0 main_v41 main_v42 (subf : (⟨S8x8192x8192, .f32⟩ : BufTy).Contents (Elt F) → (⟨S8x8192x8192, .f32⟩ : BufTy).Contents (Elt F) → (⟨S8x8192x8192, .f32⟩ : BufTy).Contents (Elt F)),
    unary main_v42 main_v43 (Host.exp : (⟨S8x8192x8192, .f32⟩ : BufTy).Contents (Elt F) → (⟨S8x8192x8192, .f32⟩ : BufTy).Contents (Elt F)),
    nullary main_cst_9 (constant S_ .f32 0x00000000#32),
    binary main_v43 main_cst_9 main_v44 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    unary main_v44 main_v45 (broadcastInDim S8x8192x1 ![0, 1] bcast_S8x8192_S8x8192x1_0_1 : (⟨S8x8192, .f32⟩ : BufTy).Contents (Elt F) → (⟨S8x8192x1, .f32⟩ : BufTy).Contents (Elt F)),
    unary main_v45 main_v46 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v43 main_v46 main_v47 (Host.divf : (⟨S8x8192x8192, .f32⟩ : BufTy).Contents (Elt F) → (⟨S8x8192x8192, .f32⟩ : BufTy).Contents (Elt F) → (⟨S8x8192x8192, .f32⟩ : BufTy).Contents (Elt F)),
    binary main_v45 main_v45 main_v48 (mulf : (⟨S8x8192x1, .f32⟩ : BufTy).Contents (Elt F) → (⟨S8x8192x1, .f32⟩ : BufTy).Contents (Elt F) → (⟨S8x8192x1, .f32⟩ : BufTy).Contents (Elt F)) ]

/-- The derivative of the weighted sum. -/
abbrev ops3 : List (HloOp τ sig (Elt F)) :=
  [ nullary main_cst_10 (constant S_ .f32 0x3F800000#32),
    unary main_cst_10 main_v49 (broadcastInDim S8x8192x1 ![] bcast_S_S8x8192x1 : (⟨S_, .f32⟩ : BufTy).Contents (Elt F) → (⟨S8x8192x1, .f32⟩ : BufTy).Contents (Elt F)),
    binary main_v49 main_v48 main_v50 (Host.divf : (⟨S8x8192x1, .f32⟩ : BufTy).Contents (Elt F) → (⟨S8x8192x1, .f32⟩ : BufTy).Contents (Elt F) → (⟨S8x8192x1, .f32⟩ : BufTy).Contents (Elt F)),
    reshape main_v2 main_v51 (rfl : (.f32 : EltTy) = .f32) shapeCasts_S8192x512_S8192x8x64,
    binary main_v51 main_v47 main_v52 ((fun l r => Host.dotGeneral dot_S8192x8x64_S8x8192x8192_S8x64x8192_0_2_2_1_1_0 none l r) : (⟨S8192x8x64, .f32⟩ : BufTy).Contents (Elt F) → (⟨S8x8192x8192, .f32⟩ : BufTy).Contents (Elt F) → (⟨S8x64x8192, .f32⟩ : BufTy).Contents (Elt F)),
    unary main_v52 main_v53 ((transpose S8192x8x64 [2, 0, 1] · transposes_S8x64x8192_S8192x8x64_2_0_1) : (⟨S8x64x8192, .f32⟩ : BufTy).Contents (Elt F) → (⟨S8192x8x64, .f32⟩ : BufTy).Contents (Elt F)),
    reshape main_v53 main_v54 (rfl : (.f32 : EltTy) = .f32) shapeCasts_S8192x8x64_S8192x512,
    reshape main_arg4 main_v55 (rfl : (.f32 : EltTy) = .f32) shapeCasts_S8192x512_S8192x8x64,
    unary main_v55 main_v56 ((transpose S8x64x8192 [1, 2, 0] · transposes_S8192x8x64_S8x64x8192_1_2_0) : (⟨S8192x8x64, .f32⟩ : BufTy).Contents (Elt F) → (⟨S8x64x8192, .f32⟩ : BufTy).Contents (Elt F)),
    binary main_v56 main_v51 main_v57 ((fun l r => Host.dotGeneral dot_S8x64x8192_S8192x8x64_S8x8192x8192_1_2_2_0_0_1 none l r) : (⟨S8x64x8192, .f32⟩ : BufTy).Contents (Elt F) → (⟨S8192x8x64, .f32⟩ : BufTy).Contents (Elt F) → (⟨S8x8192x8192, .f32⟩ : BufTy).Contents (Elt F)),
    binary main_v56 main_v47 main_v58 ((fun l r => Host.dotGeneral dot_S8x64x8192_S8x8192x8192_S8x64x8192_2_1_1_2_0_0 none l r) : (⟨S8x64x8192, .f32⟩ : BufTy).Contents (Elt F) → (⟨S8x8192x8192, .f32⟩ : BufTy).Contents (Elt F) → (⟨S8x64x8192, .f32⟩ : BufTy).Contents (Elt F)),
    unary main_v58 main_v59 ((transpose S8192x8x64 [2, 0, 1] · transposes_S8x64x8192_S8192x8x64_2_0_1) : (⟨S8x64x8192, .f32⟩ : BufTy).Contents (Elt F) → (⟨S8192x8x64, .f32⟩ : BufTy).Contents (Elt F)),
    reshape main_v59 main_v60 (rfl : (.f32 : EltTy) = .f32) shapeCasts_S8192x8x64_S8192x512 ]

/-- The derivative of the softmax. -/
abbrev ops4 : List (HloOp τ sig (Elt F)) :=
  [ unary main_v50 main_v61 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v57 main_v61 main_v62 (mulf : (⟨S8x8192x8192, .f32⟩ : BufTy).Contents (Elt F) → (⟨S8x8192x8192, .f32⟩ : BufTy).Contents (Elt F) → (⟨S8x8192x8192, .f32⟩ : BufTy).Contents (Elt F)),
    binary main_v62 main_v43 main_v63 (mulf : (⟨S8x8192x8192, .f32⟩ : BufTy).Contents (Elt F) → (⟨S8x8192x8192, .f32⟩ : BufTy).Contents (Elt F) → (⟨S8x8192x8192, .f32⟩ : BufTy).Contents (Elt F)),
    nullary main_cst_11 (constant S_ .f32 0x00000000#32),
    binary main_v63 main_cst_11 main_v64 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    reshape main_v64 main_v65 (rfl : (.f32 : EltTy) = .f32) shapeCasts_S8x8192_S8x8192x1,
    unary main_v65 main_v66 (Host.negf : (⟨S8x8192x1, .f32⟩ : BufTy).Contents (Elt F) → (⟨S8x8192x1, .f32⟩ : BufTy).Contents (Elt F)),
    unary main_v45 main_v67 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v57 main_v67 main_v68 (Host.divf : (⟨S8x8192x8192, .f32⟩ : BufTy).Contents (Elt F) → (⟨S8x8192x8192, .f32⟩ : BufTy).Contents (Elt F) → (⟨S8x8192x8192, .f32⟩ : BufTy).Contents (Elt F)),
    nullary main_cst_12 (constant S_ .f32 0x00000000#32),
    binary main_v66 main_cst_12 main_v69 ((fun x v => Host.reduceAdd x v reducesTo_S8x8192x1_S8x8192_d2 h_S_) : (⟨S8x8192x1, .f32⟩ : BufTy).Contents (Elt F) → (⟨S_, .f32⟩ : BufTy).Contents (Elt F) → (⟨S8x8192, .f32⟩ : BufTy).Contents (Elt F)),
    unary main_v69 main_v70 (broadcastInDim S8x8192x8192 ![0, 1] bcast_S8x8192_S8x8192x8192_0_1 : (⟨S8x8192, .f32⟩ : BufTy).Contents (Elt F) → (⟨S8x8192x8192, .f32⟩ : BufTy).Contents (Elt F)),
    binary main_v68 main_v70 main_v71 (addf : (⟨S8x8192x8192, .f32⟩ : BufTy).Contents (Elt F) → (⟨S8x8192x8192, .f32⟩ : BufTy).Contents (Elt F) → (⟨S8x8192x8192, .f32⟩ : BufTy).Contents (Elt F)),
    binary main_v71 main_v43 main_v72 (mulf : (⟨S8x8192x8192, .f32⟩ : BufTy).Contents (Elt F) → (⟨S8x8192x8192, .f32⟩ : BufTy).Contents (Elt F) → (⟨S8x8192x8192, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x8192x8192, .f32⟩) main_call1_v0) (broadcastInDim S8x8192x8192 ![] bcast_S_S8x8192x8192),
    TRef.ternary (TRef.of (T := ⟨S8x8192x8192, .i1⟩) main_v22_1) (TRef.of (T := ⟨S8x8192x8192, .f32⟩) main_v72) (TRef.of (T := ⟨S8x8192x8192, .f32⟩) main_call1_v0) (TRef.of (T := ⟨S8x8192x8192, .f32⟩) main_v73) select ]

/-- The four derivatives. -/
abbrev ops5 : List (HloOp τ sig (Elt F)) :=
  [ unary main_v73 main_v74 (Host.negf : (⟨S8x8192x8192, .f32⟩ : BufTy).Contents (Elt F) → (⟨S8x8192x8192, .f32⟩ : BufTy).Contents (Elt F)),
    nullary main_cst_13 (constant S_ .f32 0x00000000#32),
    binary main_v74 main_cst_13 main_v75 ((fun x v => Host.reduceAdd x v reducesTo_S8x8192x8192_S8x8192_d1 h_S_) : (⟨S8x8192x8192, .f32⟩ : BufTy).Contents (Elt F) → (⟨S_, .f32⟩ : BufTy).Contents (Elt F) → (⟨S8x8192, .f32⟩ : BufTy).Contents (Elt F)),
    reshape main_v75 main_v76 (rfl : (.f32 : EltTy) = .f32) shapeCasts_S8x8192_S8x1x8192,
    nullary main_cst_14 (constant S_ .f32 0x00000000#32),
    binary main_v76 main_cst_14 main_v77 ((fun x v => Host.reduceAdd x v reducesTo_S8x1x8192_S8x8192_d1 h_S_) : (⟨S8x1x8192, .f32⟩ : BufTy).Contents (Elt F) → (⟨S_, .f32⟩ : BufTy).Contents (Elt F) → (⟨S8x8192, .f32⟩ : BufTy).Contents (Elt F)),
    nullary main_cst_15 (constant S_ .f32 0x00000000#32),
    binary main_v73 main_cst_15 main_v78 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    reshape main_v78 main_v79 (rfl : (.f32 : EltTy) = .f32) shapeCasts_S8x8192_S8x8192x1,
    nullary main_cst_16 (constant S_ .f32 0x00000000#32),
    binary main_v79 main_cst_16 main_v80 ((fun x v => Host.reduceAdd x v reducesTo_S8x8192x1_S8x8192_d2 h_S_) : (⟨S8x8192x1, .f32⟩ : BufTy).Contents (Elt F) → (⟨S_, .f32⟩ : BufTy).Contents (Elt F) → (⟨S8x8192, .f32⟩ : BufTy).Contents (Elt F)),
    binary main_v77 main_v80 main_v81 (addf : (⟨S8x8192, .f32⟩ : BufTy).Contents (Elt F) → (⟨S8x8192, .f32⟩ : BufTy).Contents (Elt F) → (⟨S8x8192, .f32⟩ : BufTy).Contents (Elt F)),
    unary main_v81 main_v82 ((transpose S8192x8 [1, 0] · transposes_S8x8192_S8192x8_1_0) : (⟨S8x8192, .f32⟩ : BufTy).Contents (Elt F) → (⟨S8192x8, .f32⟩ : BufTy).Contents (Elt F)),
    nullary main_cst_17 (constant S_ .f32 0x3E000000#32),
    unary main_cst_17 main_v83 (broadcastInDim S8x8192x8192 ![] bcast_S_S8x8192x8192 : (⟨S_, .f32⟩ : BufTy).Contents (Elt F) → (⟨S8x8192x8192, .f32⟩ : BufTy).Contents (Elt F)),
    binary main_v73 main_v83 main_v84 (mulf : (⟨S8x8192x8192, .f32⟩ : BufTy).Contents (Elt F) → (⟨S8x8192x8192, .f32⟩ : BufTy).Contents (Elt F) → (⟨S8x8192x8192, .f32⟩ : BufTy).Contents (Elt F)),
    binary main_v84 main_v3 main_v85 ((fun l r => Host.dotGeneral dot_S8x8192x8192_S8192x8x64_S8x8192x64_1_0_2_2_0_1 none l r) : (⟨S8x8192x8192, .f32⟩ : BufTy).Contents (Elt F) → (⟨S8192x8x64, .f32⟩ : BufTy).Contents (Elt F) → (⟨S8x8192x64, .f32⟩ : BufTy).Contents (Elt F)),
    unary main_v85 main_v86 ((transpose S8192x8x64 [1, 0, 2] · transposes_S8x8192x64_S8192x8x64_1_0_2) : (⟨S8x8192x64, .f32⟩ : BufTy).Contents (Elt F) → (⟨S8192x8x64, .f32⟩ : BufTy).Contents (Elt F)),
    binary main_v84 main_v4 main_v87 ((fun l r => Host.dotGeneral dot_S8x8192x8192_S8192x8x64_S8x8192x64_2_0_1_2_0_1 none l r) : (⟨S8x8192x8192, .f32⟩ : BufTy).Contents (Elt F) → (⟨S8192x8x64, .f32⟩ : BufTy).Contents (Elt F) → (⟨S8x8192x64, .f32⟩ : BufTy).Contents (Elt F)),
    unary main_v87 main_v88 ((transpose S8192x8x64 [1, 0, 2] · transposes_S8x8192x64_S8192x8x64_1_0_2) : (⟨S8x8192x64, .f32⟩ : BufTy).Contents (Elt F) → (⟨S8192x8x64, .f32⟩ : BufTy).Contents (Elt F)),
    reshape main_v86 main_v89 (rfl : (.f32 : EltTy) = .f32) shapeCasts_S8192x8x64_S8192x512,
    reshape main_v88 main_v90 (rfl : (.f32 : EltTy) = .f32) shapeCasts_S8192x8x64_S8192x512,
    unary main_v90 main_v91 ((truncf .bf16 · bitsLt_bf16_f32) : (⟨S8192x512, .f32⟩ : BufTy).Contents (Elt F) → (⟨S8192x512, .bf16⟩ : BufTy).Contents (Elt F)),
    unary main_v89 main_v92 ((truncf .bf16 · bitsLt_bf16_f32) : (⟨S8192x512, .f32⟩ : BufTy).Contents (Elt F) → (⟨S8192x512, .bf16⟩ : BufTy).Contents (Elt F)),
    unary main_v60 main_v93 ((truncf .bf16 · bitsLt_bf16_f32) : (⟨S8192x512, .f32⟩ : BufTy).Contents (Elt F) → (⟨S8192x512, .bf16⟩ : BufTy).Contents (Elt F)) ]

theorem seq_both {p q : Prog (TpuEff nD τ sig (Elt F) (Pipeline.Sig Λ₀ (Fin 0) fun p => (pcfgs (F := F) p).Adm) .tc) PUnit}
    {a b : List (HloOp τ sig (Elt F))} (hp : IsSeq p a) (hq : IsSeq q b) : IsSeq (p >>= fun _ => q) (a ++ b) := by
  unfold IsSeq at *
  rw [hp, hq, seq_append]

set_option maxHeartbeats 4000000 in
theorem part0_seq (c : Dev nD) : IsSeq (main_part0 (F := F) c) (ops1 ++ ops2) := by
  simp only [ops1, ops2, List.cons_append, List.nil_append]
  hlo_seq

set_option maxHeartbeats 4000000 in
theorem part1_seq (c : Dev nD) : IsSeq (main_part1 (F := F) c) (ops3 ++ (ops4 ++ ops5)) := by
  simp only [ops3, ops4, ops5, List.cons_append, List.nil_append]
  hlo_seq

/-- The whole program, stretch by stretch. -/
theorem main_seq (c : Dev nD) : IsSeq (main (F := F) c) ((ops1 ++ ops2) ++ (ops3 ++ (ops4 ++ ops5))) :=
  seq_both (part0_seq c) (part1_seq c)

theorem after_both (a b : List (HloOp τ sig (Elt F))) (V : Valuation τ sig (Elt F)) :
    after (a ++ b) V = after b (after a V) := by
  induction a generalizing V with
  | nil => rfl
  | cons x a ih => exact ih _

variable (m : (ℓ : Loc nD τ sig) → Buf (Elt F) ℓ) (c : Dev nD)

/-- The buffers after each stretch. -/
def W0 : Valuation τ sig (Elt F) := launchContents m c
def W1 : Valuation τ sig (Elt F) := after ops1 (W0 m c)
def W2 : Valuation τ sig (Elt F) := after ops2 (W1 m c)
def W3 : Valuation τ sig (Elt F) := after ops3 (W2 m c)
def W4 : Valuation τ sig (Elt F) := after ops4 (W3 m c)
def W5 : Valuation τ sig (Elt F) := after ops5 (W4 m c)

set_option maxHeartbeats 4000000 in
theorem ops_sub : ((ops1 ++ ops2) ++ (ops3 ++ (ops4 ++ ops5)) : List (HloOp τ sig (Elt F))).Forall fun op => op.bufs ⊆ tcRefs τ sig := by
  simp

theorem ops_fresh : ∀ op ∈ ((ops1 ++ ops2) ++ (ops3 ++ (ops4 ++ ops5)) : List (HloOp τ sig (Elt F))), op.fresh = ∅ := by
  simp only [List.mem_append]
  rintro op ((h | h) | (h | (h | h))) <;>
  · (repeat (cases h with | head => rfl | tail _ h => ?_))
    exact nomatch h

/-- The run: every buffer ends at its contents after the five stretches. -/
theorem run (ρ : Dev nD → PrngReg) :
    θ_run defs (onTc (τ := τ) (main (F := F))) ⟨m, fun _ => 0, ρ⟩ fun r =>
      ∀ (d : Dev nD) (b : Ref sig .tc), r.2.mem ((d.tc : Thread nD τ).loc b) = W5 m d (Proc.devRef .tc b) :=
  θ_run_mono (run_hlo defs main main_seq (by decide) (by decide) ops_sub ops_fresh m ρ) fun r h d b => by
    rw [h d b]
    simp only [after_both]
    rfl

/-- No stretch writes an argument. -/
theorem W5_arg (b : Ref sig .tc) (hb : b = main_arg0 ∨ b = main_arg1 ∨ b = main_arg2 ∨ b = main_arg3 ∨ b = main_arg4) :
    W5 m c (Proc.devRef .tc b) = m ((c.tc : Thread nD τ).loc b) := by
  have key : ∀ ops : List (HloOp τ sig (Elt F)), ∀ V : Valuation τ sig (Elt F),
      (ops = ops1 ∨ ops = ops2 ∨ ops = ops3 ∨ ops = ops4 ∨ ops = ops5) → after ops V (Proc.devRef .tc b) = V (Proc.devRef .tc b) := by
    intro ops V h
    rcases h with rfl | rfl | rfl | rfl | rfl <;> rcases hb with rfl | rfl | rfl | rfl | rfl <;> after_results
  unfold W5; rw [key _ _ (by simp)]
  unfold W4; rw [key _ _ (by simp)]
  unfold W3; rw [key _ _ (by simp)]
  unfold W2; rw [key _ _ (by simp)]
  unfold W1; rw [key _ _ (by simp)]
  rfl

end Cert.ReferenceIdeal.Hand

end
-- ==== Proof.Frames.lean ====
/- The frames: the kernel's at both readings of the floats, from one run of it, and the reference's. -/
module

public import proofs.«01_k».proof.Defs
public import proofs.«01_k».proof.Proof.Table
public import proofs.«01_k».proof.Proof.Gen.KernelIdeal
public import proofs.«01_k».proof.Proof.Gen.ReferenceIdeal
public import proofs.«01_k».proof.Proof.RefRun
public import proofs.«01_k».proof.Proof.Gen.Pre_finite

@[expose] public section

noncomputable section

namespace Cert.Hand

open Idealize.ShloMosaic Idealize.ShloMosaic.Tactic Idealize.SL.Sem

/-- The kernel leaves its arguments and its semaphores alone, at the bit reading. -/
theorem frame_bits : quiescent_Kernel (hKernel := Cert.Kernel.Gen.facts) :=
  fun m ρ _ => Cert.Kernel.Hand.framed m ρ (Cert.Kernel.Hand.ok m) (Cert.Kernel.Hand.hyps m)

/-- The frame of the kernel over the reals, said of the program printed for the bit reading. -/
def FrameAtIdeal : Prop :=
  ∀ (m : (ℓ : Loc Cert.Kernel.nD Cert.Kernel.τ Cert.Kernel.sig) → Buf (Elt Ideal) ℓ) (g : Dev Cert.Kernel.nD → PrngReg), True →
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

/-- The two printed programs are one text, so the two statements are one. -/
theorem frameAtIdeal_eq : FrameAtIdeal = quiescent_KernelIdeal (hKernelIdeal := Cert.KernelIdeal.Gen.facts) := by
  sl_kernel_rfl

/-- The same over the reals. -/
theorem frame_ideal : quiescent_KernelIdeal (hKernelIdeal := Cert.KernelIdeal.Gen.facts) := by
  have h : FrameAtIdeal := fun m ρ _ => Cert.Kernel.Hand.framed m ρ (Cert.Kernel.Hand.ok m) (Cert.Kernel.Hand.hyps m)
  exact Eq.mp frameAtIdeal_eq h

theorem frame_ideal_finite : quiescent_KernelIdeal_pre_finite (hKernelIdeal := Cert.KernelIdeal.Gen.facts) (hPre_finite := Cert.Pre_finite.Gen.facts) :=
  fun m ρ _ => frame_ideal m ρ True.intro

set_option maxHeartbeats 4000000 in
/-- The reference leaves its arguments alone. -/
theorem frame_ref : quiescent_ReferenceIdeal (hReferenceIdeal := Cert.ReferenceIdeal.Gen.facts) := by
  intro m ρ _
  have h := Cert.ReferenceIdeal.Hand.run m ρ
  refine θ_run_mono h fun r hr => ⟨fun c => ?_, ?_⟩
  · exact ⟨(hr c _).trans (Cert.ReferenceIdeal.Hand.W5_arg m c _ (by simp)), (hr c _).trans (Cert.ReferenceIdeal.Hand.W5_arg m c _ (by simp)),
      (hr c _).trans (Cert.ReferenceIdeal.Hand.W5_arg m c _ (by simp)), (hr c _).trans (Cert.ReferenceIdeal.Hand.W5_arg m c _ (by simp)),
      (hr c _).trans (Cert.ReferenceIdeal.Hand.W5_arg m c _ (by simp))⟩
  · exact sem_eq_zero_of_no_sems (by decide) _

theorem frame_ref_finite : quiescent_ReferenceIdeal_pre_finite (hReferenceIdeal := Cert.ReferenceIdeal.Gen.facts) (hPre_finite := Cert.Pre_finite.Gen.facts) :=
  fun m ρ _ => frame_ref m ρ True.intro

end Cert.Hand

end
-- ==== Proof.Model.lean ====
/- The derivative of the forgetting attention over the reals: the arrays that both programs are held to. -/
module

public import Idealize.ShloMosaic.Lib.Pointwise
public import Idealize.ShloMosaic.Lib.WordCmp

@[expose] public section

noncomputable section

namespace Cert.Fox

open Idealize.ShloMosaic

/-- A real as an extended real. -/
abbrev cE (x : ℝ) : EReal := (x : EReal)

theorem cE_sum {n : ℕ} (f : Fin n → ℝ) : (∑ i, cE (f i)) = cE (∑ i, f i) := by
  have := map_sum (⟨⟨cE, EReal.coe_zero⟩, EReal.coe_add⟩ : ℝ →+ EReal) f Finset.univ
  exact this.symm
theorem cE_mul (x y : ℝ) : cE x * cE y = cE (x * y) := (EReal.coe_mul x y).symm
theorem cE_add (x y : ℝ) : cE x + cE y = cE (x + y) := (EReal.coe_add x y).symm
theorem cE_sub (x y : ℝ) : cE x - cE y = cE (x - y) := (EReal.coe_sub x y).symm
theorem cE_neg (x : ℝ) : - cE x = cE (-x) := (EReal.coe_neg x).symm
theorem cE_ite (p : Prop) [Decidable p] (x y : ℝ) : (if p then cE x else cE y) = cE (if p then x else y) := by
  split <;> rfl
theorem cE_div (x y : ℝ) (h : y ≠ 0) : Ideal.div (cE x) (cE y) = cE (x / y) := by
  unfold cE; rw [Ideal.div_coe h, ← EReal.coe_mul, mul_one_div]

/-- Column `d` of head `h`. -/
def col (h : Fin 8) (d : Fin 64) : Fin 512 := ⟨h.val * 64 + d.val, by omega⟩

/-- The arguments as reals: queries, keys, values, the cumulative log forget gates, and the gradient of the attention's output. -/
structure Args where
  q : Fin 8192 → Fin 512 → ℝ
  k : Fin 8192 → Fin 512 → ℝ
  v : Fin 8192 → Fin 512 → ℝ
  f : Fin 8192 → Fin 8 → ℝ
  g : Fin 8192 → Fin 512 → ℝ

variable (A : Args)

/-- The logit of query `t` and key `s` in head `h`. -/
def Args.L (h : Fin 8) (t s : Fin 8192) : ℝ := (∑ d, A.q t (col h d) * A.k s (col h d)) * 0.125 + A.f t h - A.f s h
/-- The causal exponentials relative to the row's shift `M`. -/
def Args.ex (M : ℝ) (h : Fin 8) (t s : Fin 8192) : ℝ := if s.val ≤ t.val then Real.exp (A.L h t s - M) else 0
/-- A row's sum of them. -/
def Args.S (M : ℝ) (h : Fin 8) (t : Fin 8192) : ℝ := ∑ s, A.ex M h t s
/-- The softmax weights. -/
def Args.P (h : Fin 8) (t s : Fin 8192) : ℝ := A.ex 0 h t s / A.S 0 h t
/-- The weights' gradient. -/
def Args.dp (h : Fin 8) (t s : Fin 8192) : ℝ := ∑ d, A.g t (col h d) * A.v s (col h d)
/-- The row's mean of it. -/
def Args.del (h : Fin 8) (t : Fin 8192) : ℝ := ∑ s, A.P h t s * A.dp h t s
/-- The scores' gradient. -/
def Args.ds (h : Fin 8) (t s : Fin 8192) : ℝ := A.P h t s * (A.dp h t s - A.del h t)
/-- The four results. -/
def Args.dq (h : Fin 8) (t : Fin 8192) (d : Fin 64) : ℝ := (∑ s, A.ds h t s * A.k s (col h d)) * 0.125
def Args.dk (h : Fin 8) (s : Fin 8192) (d : Fin 64) : ℝ := (∑ t, A.ds h t s * A.q t (col h d)) * 0.125
def Args.dv (h : Fin 8) (s : Fin 8192) (d : Fin 64) : ℝ := ∑ t, A.P h t s * A.g t (col h d)
def Args.df (h : Fin 8) (t : Fin 8192) : ℝ := (∑ s, A.ds h t s) - ∑ t', A.ds h t' t

theorem ex_nonneg (M : ℝ) (h : Fin 8) (t s : Fin 8192) : 0 ≤ A.ex M h t s := by
  unfold Args.ex; split
  · exact (Real.exp_pos _).le
  · exact le_refl _

theorem S_pos (M : ℝ) (h : Fin 8) (t : Fin 8192) : 0 < A.S M h t := by
  refine Finset.sum_pos' (fun s _ => ex_nonneg A M h t s) ⟨t, Finset.mem_univ _, ?_⟩
  unfold Args.ex; rw [if_pos (le_refl _)]; exact Real.exp_pos _

theorem ex_shift (M : ℝ) (h : Fin 8) (t s : Fin 8192) : A.ex M h t s = A.ex 0 h t s * Real.exp (-M) := by
  unfold Args.ex; split
  · rw [← Real.exp_add]; congr 1; ring
  · rw [zero_mul]

theorem S_shift (M : ℝ) (h : Fin 8) (t : Fin 8192) : A.S M h t = A.S 0 h t * Real.exp (-M) := by
  unfold Args.S; rw [Finset.sum_mul]; exact Finset.sum_congr rfl fun s _ => ex_shift A M h t s

/-- The weights whatever the shift. -/
theorem P_shift (M : ℝ) (h : Fin 8) (t s : Fin 8192) : A.ex M h t s / A.S M h t = A.P h t s := by
  rw [ex_shift, S_shift, mul_div_mul_right _ _ (Real.exp_ne_zero _)]; rfl

/-- The weights from the row's log-sum. -/
theorem P_lse (M : ℝ) (h : Fin 8) (t s : Fin 8192) (hs : s.val ≤ t.val) : Real.exp (A.L h t s - (M + Real.log (A.S M h t))) = A.P h t s := by
  rw [← P_shift A M]
  unfold Args.ex
  rw [if_pos hs, ← sub_sub, Real.exp_sub, Real.exp_log (S_pos A M h t)]

theorem P_zero (h : Fin 8) (t s : Fin 8192) (hs : ¬ s.val ≤ t.val) : A.P h t s = 0 := by
  unfold Args.P Args.ex; rw [if_neg hs, zero_div]

/-- The reference's form of the scores' gradient. -/
theorem ds_ref (M : ℝ) (h : Fin 8) (t s : Fin 8192) :
    (if s.val ≤ t.val then (A.dp h t s / A.S M h t + -(∑ s', A.dp h t s' * (1 / (A.S M h t * A.S M h t)) * A.ex M h t s')) * A.ex M h t s else 0) = A.ds h t s := by
  have hS := (S_pos A M h t).ne'
  have e : ∑ s', A.dp h t s' * (1 / (A.S M h t * A.S M h t)) * A.ex M h t s' = A.del h t / A.S M h t := by
    unfold Args.del
    rw [Finset.sum_div]
    refine Finset.sum_congr rfl fun s' _ => ?_
    rw [← P_shift A M h t s']
    field_simp
  rw [e]
  unfold Args.ds
  by_cases hs : s.val ≤ t.val
  · rw [if_pos hs, ← P_shift A M h t s]
    field_simp
    ring
  · rw [if_neg hs, P_zero A h t s hs, zero_mul]

/-- The row's mean is the product of the output's gradient with the output. -/
theorem del_out (h : Fin 8) (t : Fin 8192) : ∑ d, A.g t (col h d) * (∑ s, A.P h t s * A.v s (col h d)) = A.del h t := by
  unfold Args.del Args.dp
  simp only [Finset.mul_sum]
  rw [Finset.sum_comm]
  refine Finset.sum_congr rfl fun s _ => Finset.sum_congr rfl fun d _ => ?_
  ring

theorem lit_bot : Ideal.ofBits .f32 0xFF800000#32 = ⊥ := by
  simp [Ideal.ofBits, Ideal.ieee]
theorem lit_eighth : Ideal.ofBits .f32 0x3E000000#32 = cE 0.125 := by
  simp [Ideal.ofBits, Ideal.ieee]
  norm_num
  unfold cE
  rw [← EReal.coe_mul]
  norm_num

/-- The greatest logit of a row. -/
def Args.M (h : Fin 8) (t : Fin 8192) : ℝ := (Finset.univ.fold max (⊥ : EReal) fun s : Fin 8192 => if s.val ≤ t.val then cE (A.L h t s) else ⊥).toReal

/-- The greatest logit of a row is a real: the row sees its own key. -/
theorem fold_M (h : Fin 8) (t : Fin 8192) : (Finset.univ.fold max (⊥ : EReal) fun s : Fin 8192 => if s.val ≤ t.val then cE (A.L h t s) else ⊥) = cE (A.M h t) := by
  refine (EReal.coe_toReal ?_ ?_).symm
  · have key : ∀ T : Finset (Fin 8192), (T.fold max (⊥ : EReal) fun s : Fin 8192 => if s.val ≤ t.val then cE (A.L h t s) else ⊥) ≠ ⊤ := fun T => by
      induction T using Finset.induction_on with
      | empty => simp
      | insert a T ha ih =>
        rw [Finset.fold_insert ha]
        rcases max_choice (if a.val ≤ t.val then cE (A.L h t a) else ⊥) (T.fold max (⊥ : EReal) fun s : Fin 8192 => if s.val ≤ t.val then cE (A.L h t s) else ⊥) with e | e
        · rw [e]; split
          · exact EReal.coe_ne_top _
          · exact bot_ne_top
        · rw [e]; exact ih
    exact key _
  · have hle : cE (A.L h t t) ≤ (Finset.univ.fold max (⊥ : EReal) fun s : Fin 8192 => if s.val ≤ t.val then cE (A.L h t s) else ⊥) :=
      Finset.le_fold_max (cE (A.L h t t)) |>.mpr (.inr ⟨t, Finset.mem_univ _, by rw [if_pos (le_refl _)]⟩)
    exact fun e => absurd (e ▸ hle) (by rw [le_bot_iff]; exact EReal.coe_ne_bot _)

/-- A masked logit less the shift, exponentiated. -/
theorem exp_masked (M : ℝ) (h : Fin 8) (t s : Fin 8192) : Ideal.exp ((if s.val ≤ t.val then cE (A.L h t s) else ⊥) - cE M) = cE (A.ex M h t s) := by
  unfold Args.ex
  split
  · rw [cE_sub]; rfl
  · rw [show (⊥ : EReal) - cE M = ⊥ from EReal.bot_sub _]; exact EReal.coe_zero.symm

theorem sel_mask (a b : ℕ) (ha : a < 8192) (hb : b < 8192) {α : Type} (x y : α) : Scalar.select (IntOp.cmpi .sle (BitVec.ofNat 32 a) (BitVec.ofNat 32 b)) x y = if a ≤ b then x else y := by
  rw [WordCmp.cmpi_sle_ofNat (by omega) (by omega)]
  by_cases h : a ≤ b
  · simp [h, Scalar.select]
  · simp [h, Scalar.select]

end Cert.Fox

end
-- ==== Proof.HostVal1.lean ====
/- The operands' values at an index, over reals: what the host prepares for the launch. -/
module

public import proofs.«01_k».proof.Proof.Gen.Kernel.Launch
public import proofs.«01_k».proof.Proof.Model
public import Idealize.ShloMosaic.Lib.StableHlo.ReadAt
public import Idealize.ShloMosaic.Lib.Tactic

@[expose] public section

set_option maxRecDepth 16384

noncomputable section

/-- The attention's output. -/
def Cert.Fox.Args.o (A : Cert.Fox.Args) (t : Fin 8192) (c : Fin 512) : ℝ := ∑ s, A.P ⟨c.val / 64, by omega⟩ t s * A.v s (Cert.Fox.col ⟨c.val / 64, by omega⟩ ⟨c.val % 64, by omega⟩)

namespace Cert.Kernel.Hand

open Idealize.ShloMosaic Idealize.ShloMosaic.TcCoe Idealize.ShloMosaic.Tactic Idealize.ShloMosaic.StableHlo Idealize.SL.Sem
open Cert.Kernel Cert.Kernel.Gen Cert.Fox

section Lists
variable {F : FTy → Type} [FloatOps F]

set_option maxHeartbeats 4000000 in
/-- The rows' greatest logits. -/
abbrev opsA : List (HloOp τ sig (Elt F)) :=
  [ nullary main_cst_1 (constant S_ .f32 0xFF800000#32),
    binary main_v22 main_cst_1 main_v23 ((fun x v => Host.reduce FloatOps.maximumf x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)) ]

set_option maxHeartbeats 4000000 in
/-- The row sums and the attention's output. -/
abbrev opsB : List (HloOp τ sig (Elt F)) :=
  [ unary main_v23 main_v24 (broadcastInDim S8x8192x1 ![0, 1] bcast_S8x8192_S8x8192x1_0_1 : (⟨S8x8192, .f32⟩ : BufTy).Contents (Elt F) → (⟨S8x8192x1, .f32⟩ : BufTy).Contents (Elt F)),
    unary main_v24 main_v25 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22 main_v25 main_v26 (subf : (⟨S8x8192x8192, .f32⟩ : BufTy).Contents (Elt F) → (⟨S8x8192x8192, .f32⟩ : BufTy).Contents (Elt F) → (⟨S8x8192x8192, .f32⟩ : BufTy).Contents (Elt F)),
    unary main_v26 main_v27 (Host.exp : (⟨S8x8192x8192, .f32⟩ : BufTy).Contents (Elt F) → (⟨S8x8192x8192, .f32⟩ : BufTy).Contents (Elt F)),
    nullary main_cst_2 (constant S_ .f32 0x00000000#32),
    binary main_v27 main_cst_2 main_v28 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    unary main_v28 main_v29 (Host.log : (⟨S8x8192, .f32⟩ : BufTy).Contents (Elt F) → (⟨S8x8192, .f32⟩ : BufTy).Contents (Elt F)),
    binary main_v23 main_v29 main_v30 (addf : (⟨S8x8192, .f32⟩ : BufTy).Contents (Elt F) → (⟨S8x8192, .f32⟩ : BufTy).Contents (Elt F) → (⟨S8x8192, .f32⟩ : BufTy).Contents (Elt F)),
    unary main_v30 main_v31 (broadcastInDim S8x8192x1 ![0, 1] bcast_S8x8192_S8x8192x1_0_1 : (⟨S8x8192, .f32⟩ : BufTy).Contents (Elt F) → (⟨S8x8192x1, .f32⟩ : BufTy).Contents (Elt F)),
    unary main_v31 main_v32 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22 main_v32 main_v33 (subf : (⟨S8x8192x8192, .f32⟩ : BufTy).Contents (Elt F) → (⟨S8x8192x8192, .f32⟩ : BufTy).Contents (Elt F) → (⟨S8x8192x8192, .f32⟩ : BufTy).Contents (Elt F)),
    unary main_v33 main_v34 (Host.exp : (⟨S8x8192x8192, .f32⟩ : BufTy).Contents (Elt F) → (⟨S8x8192x8192, .f32⟩ : BufTy).Contents (Elt F)),
    reshape main_v2 main_v35 (rfl : (.f32 : EltTy) = .f32) shapeCasts_S8192x512_S8192x8x64,
    unary main_v35 main_v36 ((transpose S8x8192x64 [1, 0, 2] · transposes_S8192x8x64_S8x8192x64_1_0_2) : (⟨S8192x8x64, .f32⟩ : BufTy).Contents (Elt F) → (⟨S8x8192x64, .f32⟩ : BufTy).Contents (Elt F)),
    binary main_v34 main_v36 main_v37 ((fun l r => Host.dotGeneral dot_S8x8192x8192_S8x8192x64_S8x8192x64_2_1_1_2_0_0 none l r) : (⟨S8x8192x8192, .f32⟩ : BufTy).Contents (Elt F) → (⟨S8x8192x64, .f32⟩ : BufTy).Contents (Elt F) → (⟨S8x8192x64, .f32⟩ : BufTy).Contents (Elt F)),
    unary main_v37 main_v38 ((transpose S8192x8x64 [1, 0, 2] · transposes_S8x8192x64_S8192x8x64_1_0_2) : (⟨S8x8192x64, .f32⟩ : BufTy).Contents (Elt F) → (⟨S8192x8x64, .f32⟩ : BufTy).Contents (Elt F)),
    reshape main_v38 main_v39 (rfl : (.f32 : EltTy) = .f32) shapeCasts_S8192x8x64_S8192x512 ]

set_option maxHeartbeats 4000000 in
/-- The gates and the rows' means in three parts each, and the filling. -/
abbrev opsC : List (HloOp τ sig (Elt F)) :=
  [ unary main_arg3 main_v40 ((transpose S8x8192 [1, 0] · transposes_S8192x8_S8x8192_1_0) : (⟨S8192x8, .f32⟩ : BufTy).Contents (Elt F) → (⟨S8x8192, .f32⟩ : BufTy).Contents (Elt F)),
    unary main_v40 main_v41 (broadcastInDim S8x8192x1 ![0, 1] bcast_S8x8192_S8x8192x1_0_1 : (⟨S8x8192, .f32⟩ : BufTy).Contents (Elt F) → (⟨S8x8192x1, .f32⟩ : BufTy).Contents (Elt F)),
    unary main_v41 main_v42 ((truncf .bf16 · bitsLt_bf16_f32) : (⟨S8x8192x1, .f32⟩ : BufTy).Contents (Elt F) → (⟨S8x8192x1, .bf16⟩ : BufTy).Contents (Elt F)),
    unary main_v42 main_v43 ((extf .f32 · bitsLt_bf16_f32) : (⟨S8x8192x1, .bf16⟩ : BufTy).Contents (Elt F) → (⟨S8x8192x1, .f32⟩ : BufTy).Contents (Elt F)),
    binary main_v41 main_v43 main_v44 (subf : (⟨S8x8192x1, .f32⟩ : BufTy).Contents (Elt F) → (⟨S8x8192x1, .f32⟩ : BufTy).Contents (Elt F) → (⟨S8x8192x1, .f32⟩ : BufTy).Contents (Elt F)),
    unary main_v44 main_v45 ((truncf .bf16 · bitsLt_bf16_f32) : (⟨S8x8192x1, .f32⟩ : BufTy).Contents (Elt F) → (⟨S8x8192x1, .bf16⟩ : BufTy).Contents (Elt F)),
    unary main_v45 main_v46 ((extf .f32 · bitsLt_bf16_f32) : (⟨S8x8192x1, .bf16⟩ : BufTy).Contents (Elt F) → (⟨S8x8192x1, .f32⟩ : BufTy).Contents (Elt F)),
    binary main_v44 main_v46 main_v47 (subf : (⟨S8x8192x1, .f32⟩ : BufTy).Contents (Elt F) → (⟨S8x8192x1, .f32⟩ : BufTy).Contents (Elt F) → (⟨S8x8192x1, .f32⟩ : BufTy).Contents (Elt F)),
    unary main_v47 main_v48 ((truncf .bf16 · bitsLt_bf16_f32) : (⟨S8x8192x1, .f32⟩ : BufTy).Contents (Elt F) → (⟨S8x8192x1, .bf16⟩ : BufTy).Contents (Elt F)),
    unary main_v48 main_v49 ((extf .f32 · bitsLt_bf16_f32) : (⟨S8x8192x1, .bf16⟩ : BufTy).Contents (Elt F) → (⟨S8x8192x1, .f32⟩ : BufTy).Contents (Elt F)),
    binary main_arg4 main_v39 main_v50 (mulf : (⟨S8192x512, .f32⟩ : BufTy).Contents (Elt F) → (⟨S8192x512, .f32⟩ : BufTy).Contents (Elt F) → (⟨S8192x512, .f32⟩ : BufTy).Contents (Elt F)),
    reshape main_v50 main_v51 (rfl : (.f32 : EltTy) = .f32) shapeCasts_S8192x512_S8192x8x64,
    unary main_v51 main_v52 ((transpose S8x8192x64 [1, 0, 2] · transposes_S8192x8x64_S8x8192x64_1_0_2) : (⟨S8192x8x64, .f32⟩ : BufTy).Contents (Elt F) → (⟨S8x8192x64, .f32⟩ : BufTy).Contents (Elt F)),
    nullary main_cst_3 (constant S_ .f32 0x00000000#32),
    binary main_v52 main_cst_3 main_v53 ((fun x v => Host.reduceAdd x v reducesTo_S8x8192x64_S8x8192_d2 h_S_) : (⟨S8x8192x64, .f32⟩ : BufTy).Contents (Elt F) → (⟨S_, .f32⟩ : BufTy).Contents (Elt F) → (⟨S8x8192, .f32⟩ : BufTy).Contents (Elt F)),
    unary main_v53 main_v54 (broadcastInDim S8x8192x1 ![0, 1] bcast_S8x8192_S8x8192x1_0_1 : (⟨S8x8192, .f32⟩ : BufTy).Contents (Elt F) → (⟨S8x8192x1, .f32⟩ : BufTy).Contents (Elt F)),
    unary main_v54 main_v55 (Host.negf : (⟨S8x8192x1, .f32⟩ : BufTy).Contents (Elt F) → (⟨S8x8192x1, .f32⟩ : BufTy).Contents (Elt F)),
    unary main_v55 main_v56 ((truncf .bf16 · bitsLt_bf16_f32) : (⟨S8x8192x1, .f32⟩ : BufTy).Contents (Elt F) → (⟨S8x8192x1, .bf16⟩ : BufTy).Contents (Elt F)),
    unary main_v56 main_v57 ((extf .f32 · bitsLt_bf16_f32) : (⟨S8x8192x1, .bf16⟩ : BufTy).Contents (Elt F) → (⟨S8x8192x1, .f32⟩ : BufTy).Contents (Elt F)),
    binary main_v55 main_v57 main_v58 (subf : (⟨S8x8192x1, .f32⟩ : BufTy).Contents (Elt F) → (⟨S8x8192x1, .f32⟩ : BufTy).Contents (Elt F) → (⟨S8x8192x1, .f32⟩ : BufTy).Contents (Elt F)),
    unary main_v58 main_v59 ((truncf .bf16 · bitsLt_bf16_f32) : (⟨S8x8192x1, .f32⟩ : BufTy).Contents (Elt F) → (⟨S8x8192x1, .bf16⟩ : BufTy).Contents (Elt F)),
    unary main_v59 main_v60 ((extf .f32 · bitsLt_bf16_f32) : (⟨S8x8192x1, .bf16⟩ : BufTy).Contents (Elt F) → (⟨S8x8192x1, .f32⟩ : BufTy).Contents (Elt F)),
    binary main_v58 main_v60 main_v61 (subf : (⟨S8x8192x1, .f32⟩ : BufTy).Contents (Elt F) → (⟨S8x8192x1, .f32⟩ : BufTy).Contents (Elt F) → (⟨S8x8192x1, .f32⟩ : BufTy).Contents (Elt F)),
    unary main_v61 main_v62 ((truncf .bf16 · bitsLt_bf16_f32) : (⟨S8x8192x1, .f32⟩ : BufTy).Contents (Elt F) → (⟨S8x8192x1, .bf16⟩ : BufTy).Contents (Elt F)),
    unary main_v62 main_v63 ((extf .f32 · bitsLt_bf16_f32) : (⟨S8x8192x1, .bf16⟩ : BufTy).Contents (Elt F) → (⟨S8x8192x1, .f32⟩ : BufTy).Contents (Elt F)),
    nullary main_cst_4 (constant S_ .f32 0x3F800000#32),
    unary main_cst_4 main_v64 (broadcastInDim S8x8192x3 ![] bcast_S_S8x8192x3 : (⟨S_, .f32⟩ : BufTy).Contents (Elt F) → (⟨S8x8192x3, .f32⟩ : BufTy).Contents (Elt F)),
    nullary main_cst_5 (constant S_ .f32 0x00000000#32),
    unary main_cst_5 main_v65 (broadcastInDim S8x8192x61 ![] bcast_S_S8x8192x61 : (⟨S_, .f32⟩ : BufTy).Contents (Elt F) → (⟨S8x8192x61, .f32⟩ : BufTy).Contents (Elt F)),
    nullary main_cst_6 (constant S_ .f32 0x00000000#32),
    unary main_cst_6 main_v66 (broadcastInDim S8x8192x58 ![] bcast_S_S8x8192x58 : (⟨S_, .f32⟩ : BufTy).Contents (Elt F) → (⟨S8x8192x58, .f32⟩ : BufTy).Contents (Elt F)) ]

set_option maxHeartbeats 4000000 in
/-- The operands. -/
abbrev opsD : List (HloOp τ sig (Elt F)) :=
  [ reshape main_v0 main_v67 (rfl : (.f32 : EltTy) = .f32) shapeCasts_S8192x512_S8192x8x64,
    unary main_v67 main_v68 ((transpose S8x8192x64 [1, 0, 2] · transposes_S8192x8x64_S8x8192x64_1_0_2) : (⟨S8192x8x64, .f32⟩ : BufTy).Contents (Elt F) → (⟨S8x8192x64, .f32⟩ : BufTy).Contents (Elt F)),
    nullary main_cst_7 (constant S_ .f32 0x3E000000#32),
    unary main_cst_7 main_v69 (broadcastInDim S8x8192x64 ![] bcast_S_S8x8192x64 : (⟨S_, .f32⟩ : BufTy).Contents (Elt F) → (⟨S8x8192x64, .f32⟩ : BufTy).Contents (Elt F)),
    binary main_v68 main_v69 main_v70 (mulf : (⟨S8x8192x64, .f32⟩ : BufTy).Contents (Elt F) → (⟨S8x8192x64, .f32⟩ : BufTy).Contents (Elt F) → (⟨S8x8192x64, .f32⟩ : BufTy).Contents (Elt F)),
    unary main_v64 main_v71 (Host.negf : (⟨S8x8192x3, .f32⟩ : BufTy).Contents (Elt F) → (⟨S8x8192x3, .f32⟩ : BufTy).Contents (Elt F)),
    nary ![main_v70, main_v71, main_v43, main_v46, main_v49, main_v66] main_v72 (fun u => (concatenate S8x8192x128 2 [⟨S8x8192x64, (u 0 : (⟨S8x8192x64, .f32⟩ : BufTy).Contents (Elt F))⟩, ⟨S8x8192x3, (u 1 : (⟨S8x8192x3, .f32⟩ : BufTy).Contents (Elt F))⟩, ⟨S8x8192x1, (u 2 : (⟨S8x8192x1, .f32⟩ : BufTy).Contents (Elt F))⟩, ⟨S8x8192x1, (u 3 : (⟨S8x8192x1, .f32⟩ : BufTy).Contents (Elt F))⟩, ⟨S8x8192x1, (u 4 : (⟨S8x8192x1, .f32⟩ : BufTy).Contents (Elt F))⟩, ⟨S8x8192x58, (u 5 : (⟨S8x8192x58, .f32⟩ : BufTy).Contents (Elt F))⟩] concatenates_S8x8192x64_S8x8192x3_S8x8192x1_S8x8192x1_S8x8192x1_S8x8192x58_S8x8192x128_d2 : (⟨S8x8192x128, .f32⟩ : BufTy).Contents (Elt F))),
    unary main_v72 main_v73 ((truncf .bf16 · bitsLt_bf16_f32) : (⟨S8x8192x128, .f32⟩ : BufTy).Contents (Elt F) → (⟨S8x8192x128, .bf16⟩ : BufTy).Contents (Elt F)),
    reshape main_v1 main_v74 (rfl : (.f32 : EltTy) = .f32) shapeCasts_S8192x512_S8192x8x64,
    unary main_v74 main_v75 ((transpose S8x8192x64 [1, 0, 2] · transposes_S8192x8x64_S8x8192x64_1_0_2) : (⟨S8192x8x64, .f32⟩ : BufTy).Contents (Elt F) → (⟨S8x8192x64, .f32⟩ : BufTy).Contents (Elt F)),
    nary ![main_v75, main_v43, main_v46, main_v49, main_v64, main_v66] main_v76 (fun u => (concatenate S8x8192x128 2 [⟨S8x8192x64, (u 0 : (⟨S8x8192x64, .f32⟩ : BufTy).Contents (Elt F))⟩, ⟨S8x8192x1, (u 1 : (⟨S8x8192x1, .f32⟩ : BufTy).Contents (Elt F))⟩, ⟨S8x8192x1, (u 2 : (⟨S8x8192x1, .f32⟩ : BufTy).Contents (Elt F))⟩, ⟨S8x8192x1, (u 3 : (⟨S8x8192x1, .f32⟩ : BufTy).Contents (Elt F))⟩, ⟨S8x8192x3, (u 4 : (⟨S8x8192x3, .f32⟩ : BufTy).Contents (Elt F))⟩, ⟨S8x8192x58, (u 5 : (⟨S8x8192x58, .f32⟩ : BufTy).Contents (Elt F))⟩] concatenates_S8x8192x64_S8x8192x1_S8x8192x1_S8x8192x1_S8x8192x3_S8x8192x58_S8x8192x128_d2 : (⟨S8x8192x128, .f32⟩ : BufTy).Contents (Elt F))),
    unary main_v76 main_v77 ((truncf .bf16 · bitsLt_bf16_f32) : (⟨S8x8192x128, .f32⟩ : BufTy).Contents (Elt F) → (⟨S8x8192x128, .bf16⟩ : BufTy).Contents (Elt F)),
    reshape main_v2 main_v78 (rfl : (.f32 : EltTy) = .f32) shapeCasts_S8192x512_S8192x8x64,
    unary main_v78 main_v79 ((transpose S8x8192x64 [1, 0, 2] · transposes_S8192x8x64_S8x8192x64_1_0_2) : (⟨S8192x8x64, .f32⟩ : BufTy).Contents (Elt F) → (⟨S8x8192x64, .f32⟩ : BufTy).Contents (Elt F)),
    nary ![main_v79, main_v64, main_v65] main_v80 (fun u => (concatenate S8x8192x128 2 [⟨S8x8192x64, (u 0 : (⟨S8x8192x64, .f32⟩ : BufTy).Contents (Elt F))⟩, ⟨S8x8192x3, (u 1 : (⟨S8x8192x3, .f32⟩ : BufTy).Contents (Elt F))⟩, ⟨S8x8192x61, (u 2 : (⟨S8x8192x61, .f32⟩ : BufTy).Contents (Elt F))⟩] concatenates_S8x8192x64_S8x8192x3_S8x8192x61_S8x8192x128_d2 : (⟨S8x8192x128, .f32⟩ : BufTy).Contents (Elt F))),
    unary main_v80 main_v81 ((truncf .bf16 · bitsLt_bf16_f32) : (⟨S8x8192x128, .f32⟩ : BufTy).Contents (Elt F) → (⟨S8x8192x128, .bf16⟩ : BufTy).Contents (Elt F)),
    reshape main_arg4 main_v82 (rfl : (.f32 : EltTy) = .f32) shapeCasts_S8192x512_S8192x8x64,
    unary main_v82 main_v83 ((transpose S8x8192x64 [1, 0, 2] · transposes_S8192x8x64_S8x8192x64_1_0_2) : (⟨S8192x8x64, .f32⟩ : BufTy).Contents (Elt F) → (⟨S8x8192x64, .f32⟩ : BufTy).Contents (Elt F)),
    nary ![main_v83, main_v57, main_v60, main_v63, main_v65] main_v84 (fun u => (concatenate S8x8192x128 2 [⟨S8x8192x64, (u 0 : (⟨S8x8192x64, .f32⟩ : BufTy).Contents (Elt F))⟩, ⟨S8x8192x1, (u 1 : (⟨S8x8192x1, .f32⟩ : BufTy).Contents (Elt F))⟩, ⟨S8x8192x1, (u 2 : (⟨S8x8192x1, .f32⟩ : BufTy).Contents (Elt F))⟩, ⟨S8x8192x1, (u 3 : (⟨S8x8192x1, .f32⟩ : BufTy).Contents (Elt F))⟩, ⟨S8x8192x61, (u 4 : (⟨S8x8192x61, .f32⟩ : BufTy).Contents (Elt F))⟩] concatenates_S8x8192x64_S8x8192x1_S8x8192x1_S8x8192x1_S8x8192x61_S8x8192x128_d2 : (⟨S8x8192x128, .f32⟩ : BufTy).Contents (Elt F))),
    unary main_v84 main_v85 ((truncf .bf16 · bitsLt_bf16_f32) : (⟨S8x8192x128, .f32⟩ : BufTy).Contents (Elt F) → (⟨S8x8192x128, .bf16⟩ : BufTy).Contents (Elt F)) ]

set_option maxHeartbeats 4000000 in
/-- The operands laid out over blocks. -/
abbrev opsE : List (HloOp τ sig (Elt F)) :=
  [ reshape main_v77 main_v86 (rfl : (.bf16 : EltTy) = .bf16) shapeCasts_S8x8192x128_S8x16x512x128,
    unary main_v86 main_v87 ((transpose S8x16x128x512 [0, 1, 3, 2] · transposes_S8x16x512x128_S8x16x128x512_0_1_3_2) : (⟨S8x16x512x128, .bf16⟩ : BufTy).Contents (Elt F) → (⟨S8x16x128x512, .bf16⟩ : BufTy).Contents (Elt F)),
    reshape main_v30 main_v88 (rfl : (.f32 : EltTy) = .f32) shapeCasts_S8x8192_S4x2x16x512,
    unary main_v88 main_v89 ((transpose S4x16x2x512 [0, 2, 1, 3] · transposes_S4x2x16x512_S4x16x2x512_0_2_1_3) : (⟨S4x2x16x512, .f32⟩ : BufTy).Contents (Elt F) → (⟨S4x16x2x512, .f32⟩ : BufTy).Contents (Elt F)),
    nullary main_c (constantI S_ 32 0#32) ]

end Lists

theorem hostOps2_cut (V : Valuation τ sig (Elt Ideal)) : after hostOps0_2 V = after opsE (after opsD (after opsC (after opsB (after opsA V)))) := rfl

/-- The five arguments hold these reals. -/
structure KArgs (V : Valuation τ sig (Elt Ideal)) (A : Args) : Prop where
  q : ∀ t c, (V (Proc.devRef .tc main_arg0) : FVec Ideal S8192x512 .bf16) (ix2 t c) = cE (A.q t c)
  k : ∀ t c, (V (Proc.devRef .tc main_arg1) : FVec Ideal S8192x512 .bf16) (ix2 t c) = cE (A.k t c)
  v : ∀ t c, (V (Proc.devRef .tc main_arg2) : FVec Ideal S8192x512 .bf16) (ix2 t c) = cE (A.v t c)
  f : ∀ t c, (V (Proc.devRef .tc main_arg3) : FVec Ideal S8192x8 .f32) (ix2 t c) = cE (A.f t c)
  g : ∀ t c, (V (Proc.devRef .tc main_arg4) : FVec Ideal S8192x512 .f32) (ix2 t c) = cE (A.g t c)

section One

variable {V : Valuation τ sig (Elt Ideal)} {A : Args} (H : KArgs V A)

/-- The first stretch. -/
abbrev U1 (V : Valuation τ sig (Elt Ideal)) : Valuation τ sig (Elt Ideal) := after hostOps0_1 (after hostOps0 V)

include H in
set_option maxHeartbeats 1000000 in
theorem u1_v14 (h : Fin 8) (t s : Fin 8192) : (after hostOps0 V (Proc.devRef .tc main_v14) : FVec Ideal S8x8192x8192 .f32) (ix3 h t s) = cE (A.L h t s) := by
  after_reads_at
  simp only [H.q, H.k, H.f, lit_eighth, cE_mul, cE_sum, cE_add, cE_sub]
  rfl

theorem u1_v21 (V : Valuation τ sig (Elt Ideal)) (t s : Fin 8192) : (after hostOps0 V (Proc.devRef .tc main_v21) : IVec S1x8192x8192 1) (ix3 0 t s) = BitVec.ofBool (decide (s.val ≤ t.val)) := by
  after_reads_at
  exact WordCmp.cmpi_sle_ofNat (by omega) (by omega)

theorem u1_cst (V : Valuation τ sig (Elt Ideal)) : (after hostOps0 V (Proc.devRef .tc main_cst_0) : FVec Ideal S_ .f32) Idealize.ShloMosaic.ix0 = (⊥ : EReal) := by
  after_reads_at
  exact lit_bot

include H in
theorem u1_v22 (h : Fin 8) (t s : Fin 8192) : (U1 V (Proc.devRef .tc main_v22) : FVec Ideal S8x8192x8192 .f32) (ix3 h t s) = if s.val ≤ t.val then cE (A.L h t s) else ⊥ := by
  unfold U1
  have e : ∀ W : Valuation τ sig (Elt Ideal), (after hostOps0_1 W (Proc.devRef .tc main_v22) : FVec Ideal S8x8192x8192 .f32) (ix3 h t s) = Scalar.select ((W (Proc.devRef .tc main_v21) : IVec S1x8192x8192 1) (ix3 0 t s)) ((W (Proc.devRef .tc main_v14) : FVec Ideal S8x8192x8192 .f32) (ix3 h t s)) ((W (Proc.devRef .tc main_cst_0) : FVec Ideal S_ .f32) Idealize.ShloMosaic.ix0) := by
    intro W
    after_reads_at
    rfl
  rw [e, u1_v21, u1_v14 H, u1_cst]
  by_cases hs : s.val ≤ t.val
  · simp [hs, Scalar.select]
  · simp [hs, Scalar.select]

include H in
theorem u1_v0 (t : Fin 8192) (c : Fin 512) : (U1 V (Proc.devRef .tc main_v0) : FVec Ideal S8192x512 .f32) (ix2 t c) = cE (A.q t c) := by
  unfold U1
  after_reads_at
  exact H.q t c
include H in
theorem u1_v1 (t : Fin 8192) (c : Fin 512) : (U1 V (Proc.devRef .tc main_v1) : FVec Ideal S8192x512 .f32) (ix2 t c) = cE (A.k t c) := by
  unfold U1
  after_reads_at
  exact H.k t c
include H in
theorem u1_v2 (t : Fin 8192) (c : Fin 512) : (U1 V (Proc.devRef .tc main_v2) : FVec Ideal S8192x512 .f32) (ix2 t c) = cE (A.v t c) := by
  unfold U1
  after_reads_at
  exact H.v t c
include H in
theorem u1_arg3 (t : Fin 8192) (c : Fin 8) : (U1 V (Proc.devRef .tc main_arg3) : FVec Ideal S8192x8 .f32) (ix2 t c) = cE (A.f t c) := by
  unfold U1
  after_reads_at
  exact H.f t c
include H in
theorem u1_arg4 (t : Fin 8192) (c : Fin 512) : (U1 V (Proc.devRef .tc main_arg4) : FVec Ideal S8192x512 .f32) (ix2 t c) = cE (A.g t c) := by
  unfold U1
  after_reads_at
  exact H.g t c

end One

section Two

variable {V : Valuation τ sig (Elt Ideal)} {A : Args}
  (H : ∀ h t s, (V (Proc.devRef .tc main_v22) : FVec Ideal S8x8192x8192 .f32) (ix3 h t s) = if s.val ≤ t.val then cE (A.L h t s) else ⊥)

include H in
theorem ua_v23 (h : Fin 8) (t : Fin 8192) : (after opsA V (Proc.devRef .tc main_v23) : FVec Ideal S8x8192 .f32) (ix2 h t) = cE (A.M h t) := by
  have e : (after opsA V (Proc.devRef .tc main_v23) : FVec Ideal S8x8192 .f32) (ix2 h t) = Finset.univ.fold max (Ideal.ofBits .f32 0xFF800000#32) (fun x : Fin 8192 => (V (Proc.devRef .tc main_v22) : FVec Ideal S8x8192x8192 .f32) (ix3 h t x)) := by
    after_reads_at
  rw [e, lit_bot]
  have e2 : (fun x : Fin 8192 => (V (Proc.devRef .tc main_v22) : FVec Ideal S8x8192x8192 .f32) (ix3 h t x)) = fun x => if x.val ≤ t.val then cE (A.L h t x) else ⊥ := funext fun x => H h t x
  rw [e2]
  exact fold_M A h t

theorem ua_keep (V : Valuation τ sig (Elt Ideal)) (b : Ref sig .tc) (hb : b = main_v22 ∨ b = main_v0 ∨ b = main_v1 ∨ b = main_v2 ∨ b = main_arg3 ∨ b = main_arg4) : after opsA V (Proc.devRef .tc b) = V (Proc.devRef .tc b) := by
  rcases hb with rfl | rfl | rfl | rfl | rfl | rfl <;> after_results

variable (h23 : ∀ h t, (V (Proc.devRef .tc main_v23) : FVec Ideal S8x8192 .f32) (ix2 h t) = cE (A.M h t))
  (h2 : ∀ t c, (V (Proc.devRef .tc main_v2) : FVec Ideal S8192x512 .f32) (ix2 t c) = cE (A.v t c))

theorem log_S (A : Args) (M : ℝ) (h : Fin 8) (t : Fin 8192) : Ideal.log (cE (∑ s, A.ex M h t s)) = cE (Real.log (A.S M h t)) := by
  have := S_pos A M h t
  unfold cE
  rw [Ideal.log_coe, if_neg (by unfold Args.S at this; exact not_le.mpr this)]
  rfl

/-- A weight from the masked logit and the row's log-sum. -/
theorem exp_lse (A : Args) (h : Fin 8) (t s : Fin 8192) : Ideal.exp ((if s.val ≤ t.val then cE (A.L h t s) else ⊥) - cE (A.M h t + Real.log (A.S (A.M h t) h t))) = cE (A.P h t s) := by
  split
  · rename_i hs
    rw [cE_sub, ← P_lse A (A.M h t) h t s hs]; rfl
  · rename_i hs
    rw [show (⊥ : EReal) - cE (A.M h t + Real.log (A.S (A.M h t) h t)) = ⊥ from EReal.bot_sub _, P_zero A h t s hs]; exact EReal.coe_zero.symm

include H h23 in
theorem ub_v30 (h : Fin 8) (t : Fin 8192) : (after opsB V (Proc.devRef .tc main_v30) : FVec Ideal S8x8192 .f32) (ix2 h t) = cE (A.M h t + Real.log (A.S (A.M h t) h t)) := by
  after_reads_at
  simp only [H, h23, exp_masked, cE_sum, log_S, cE_add]

include H h23 h2 in
set_option maxHeartbeats 1000000 in
theorem ub_v39 (t : Fin 8192) (c : Fin 512) : (after opsB V (Proc.devRef .tc main_v39) : FVec Ideal S8192x512 .f32) (ix2 t c) = cE (A.o t c) := by
  after_reads_at
  simp only [H, h23, h2, exp_masked, cE_sum]
  have key : ∀ (h : Fin 8) (x : Fin 8192) (d : Fin 64), Ideal.exp ((if x.val ≤ t.val then cE (A.L h t x) else ⊥) - (cE (A.M h t) + Ideal.log (cE (∑ i, A.ex (A.M h t) h t i)))) * cE (A.v x (col h d)) = cE (A.P h t x * A.v x (col h d)) := by
    intro h x d
    rw [log_S, cE_add, exp_lse, cE_mul]
  exact (Finset.sum_congr rfl fun x _ => key ⟨c.val / 64, by omega⟩ x ⟨c.val % 64, by omega⟩).trans (cE_sum _)

theorem ub_keep (V : Valuation τ sig (Elt Ideal)) (b : Ref sig .tc) (hb : b = main_v0 ∨ b = main_v1 ∨ b = main_v2 ∨ b = main_arg3 ∨ b = main_arg4) : after opsB V (Proc.devRef .tc b) = V (Proc.devRef .tc b) := by
  rcases hb with rfl | rfl | rfl | rfl | rfl <;> after_results

end Two

end Cert.Kernel.Hand

end
-- ==== Proof.HostVal2.lean ====
/- The operands' values at an index, over reals: the layouts. -/
module

public import proofs.«01_k».proof.Proof.HostVal1

@[expose] public section

set_option maxRecDepth 16384

noncomputable section

namespace Cert.Fox

open Idealize.ShloMosaic

/-- A row's log-sum. -/
def Args.lse (A : Args) (h : Fin 8) (t : Fin 8192) : ℝ := A.M h t + Real.log (A.S (A.M h t) h t)

/-- The queries' operand, lane by lane. -/
def Args.qx (A : Args) (h : Fin 8) (t : Fin 8192) (x : Fin 128) : ℝ := if h1 : x.val < 64 then A.q t (col h ⟨x.val, h1⟩) * 0.125 else if x.val < 67 then -1 else if x.val < 68 then A.f t h else 0
/-- The keys' operand. -/
def Args.kx (A : Args) (h : Fin 8) (t : Fin 8192) (x : Fin 128) : ℝ := if h1 : x.val < 64 then A.k t (col h ⟨x.val, h1⟩) else if x.val < 65 then A.f t h else if x.val < 67 then 0 else if x.val < 70 then 1 else 0
/-- The values' operand. -/
def Args.vx (A : Args) (h : Fin 8) (t : Fin 8192) (x : Fin 128) : ℝ := if h1 : x.val < 64 then A.v t (col h ⟨x.val, h1⟩) else if x.val < 67 then 1 else 0
/-- The operand of the output's gradient. -/
def Args.gx (A : Args) (h : Fin 8) (t : Fin 8192) (x : Fin 128) : ℝ := if h1 : x.val < 64 then A.g t (col h ⟨x.val, h1⟩) else if x.val < 65 then -A.del h t else 0

/-- Head and lane of a column give the column back. -/
theorem head_lane (φ : Fin 8 → Fin 64 → ℝ) (h : Fin 8) (d : Fin 64) (p₁ : (col h d).val / 64 < 8) (p₂ : (col h d).val % 64 < 64) : φ ⟨(col h d).val / 64, p₁⟩ ⟨(col h d).val % 64, p₂⟩ = φ h d := by
  have e1 : (⟨(col h d).val / 64, p₁⟩ : Fin 8) = h := Fin.ext (by show (h.val * 64 + d.val) / 64 = h.val; omega)
  have e2 : (⟨(col h d).val % 64, p₂⟩ : Fin 64) = d := Fin.ext (by show (h.val * 64 + d.val) % 64 = d.val; omega)
  rw [e1, e2]

end Cert.Fox

namespace Cert.Kernel.Hand

open Idealize.ShloMosaic Idealize.ShloMosaic.TcCoe Idealize.ShloMosaic.Tactic Idealize.ShloMosaic.StableHlo Idealize.SL.Sem
open Cert.Kernel Cert.Kernel.Gen Cert.Fox

theorem lit_one : Ideal.ofBits .f32 0x3F800000#32 = cE 1 := by
  simp [Ideal.ofBits, Ideal.ieee]
  rw [← EReal.coe_mul]
  norm_num
theorem lit_zero : Ideal.ofBits .f32 0x00000000#32 = cE 0 := by
  simp [Ideal.ofBits, Ideal.ieee]

section Three

variable {V : Valuation τ sig (Elt Ideal)} {A : Args}
  (hf : ∀ t h, (V (Proc.devRef .tc main_arg3) : FVec Ideal S8192x8 .f32) (ix2 t h) = cE (A.f t h))
  (hg : ∀ t c, (V (Proc.devRef .tc main_arg4) : FVec Ideal S8192x512 .f32) (ix2 t c) = cE (A.g t c))
  (ho : ∀ (t : Fin 8192) (c : Fin 512), (V (Proc.devRef .tc main_v39) : FVec Ideal S8192x512 .f32) (ix2 t c) = cE (A.o t c))

include hf in
theorem uc_v43 (h : Fin 8) (t : Fin 8192) : (after opsC V (Proc.devRef .tc main_v43) : FVec Ideal S8x8192x1 .f32) (ix3 h t 0) = cE (A.f t h) := by
  after_reads_at
  exact hf t h
include hf in
theorem uc_v46 (h : Fin 8) (t : Fin 8192) : (after opsC V (Proc.devRef .tc main_v46) : FVec Ideal S8x8192x1 .f32) (ix3 h t 0) = cE 0 := by
  after_reads_at
  simp only [hf, cE_sub, sub_self]
include hf in
theorem uc_v49 (h : Fin 8) (t : Fin 8192) : (after opsC V (Proc.devRef .tc main_v49) : FVec Ideal S8x8192x1 .f32) (ix3 h t 0) = cE 0 := by
  after_reads_at
  simp only [hf, cE_sub, sub_self]

include hg ho in
theorem uc_v57 (h : Fin 8) (t : Fin 8192) : (after opsC V (Proc.devRef .tc main_v57) : FVec Ideal S8x8192x1 .f32) (ix3 h t 0) = cE (-A.del h t) := by
  after_reads_at
  simp only [hg, ho, cE_mul, cE_sum, cE_neg]
  refine congrArg (fun x => cE (-x)) (Eq.trans (Finset.sum_congr rfl fun d _ => ?_) (del_out A h t))
  exact congrArg (A.g t (col h d) * ·) (head_lane (fun h' d' => ∑ s, A.P h' t s * A.v s (col h' d')) h d _ _)
include hg ho in
theorem uc_v60 (h : Fin 8) (t : Fin 8192) : (after opsC V (Proc.devRef .tc main_v60) : FVec Ideal S8x8192x1 .f32) (ix3 h t 0) = cE 0 := by
  after_reads_at
  simp only [hg, ho, cE_mul, cE_sum, cE_neg, cE_sub, sub_self]
include hg ho in
theorem uc_v63 (h : Fin 8) (t : Fin 8192) : (after opsC V (Proc.devRef .tc main_v63) : FVec Ideal S8x8192x1 .f32) (ix3 h t 0) = cE 0 := by
  after_reads_at
  simp only [hg, ho, cE_mul, cE_sum, cE_neg, cE_sub, sub_self]
theorem uc_v64 (V : Valuation τ sig (Elt Ideal)) (h : Fin 8) (t : Fin 8192) (x : Fin 3) : (after opsC V (Proc.devRef .tc main_v64) : FVec Ideal S8x8192x3 .f32) (ix3 h t x) = cE 1 := by
  after_reads_at
  exact EReal.coe_one.symm
theorem uc_v65 (V : Valuation τ sig (Elt Ideal)) (h : Fin 8) (t : Fin 8192) (x : Fin 61) : (after opsC V (Proc.devRef .tc main_v65) : FVec Ideal S8x8192x61 .f32) (ix3 h t x) = cE 0 := by
  after_reads_at
  exact EReal.coe_zero.symm
theorem uc_v66 (V : Valuation τ sig (Elt Ideal)) (h : Fin 8) (t : Fin 8192) (x : Fin 58) : (after opsC V (Proc.devRef .tc main_v66) : FVec Ideal S8x8192x58 .f32) (ix3 h t x) = cE 0 := by
  after_reads_at
  exact EReal.coe_zero.symm

theorem uc_keep (V : Valuation τ sig (Elt Ideal)) (b : Ref sig .tc) (hb : b = main_v0 ∨ b = main_v1 ∨ b = main_v2 ∨ b = main_v30 ∨ b = main_arg4) : after opsC V (Proc.devRef .tc b) = V (Proc.devRef .tc b) := by
  rcases hb with rfl | rfl | rfl | rfl | rfl <;> after_results

end Three

section Four

variable {V : Valuation τ sig (Elt Ideal)} {A : Args}
  (h0 : ∀ t c, (V (Proc.devRef .tc main_v0) : FVec Ideal S8192x512 .f32) (ix2 t c) = cE (A.q t c))
  (h1 : ∀ t c, (V (Proc.devRef .tc main_v1) : FVec Ideal S8192x512 .f32) (ix2 t c) = cE (A.k t c))
  (h2 : ∀ t c, (V (Proc.devRef .tc main_v2) : FVec Ideal S8192x512 .f32) (ix2 t c) = cE (A.v t c))
  (hg : ∀ t c, (V (Proc.devRef .tc main_arg4) : FVec Ideal S8192x512 .f32) (ix2 t c) = cE (A.g t c))
  (h43 : ∀ h t (i : Fin 1), (V (Proc.devRef .tc main_v43) : FVec Ideal S8x8192x1 .f32) (ix3 h t i) = cE (A.f t h))
  (h46 : ∀ h t (i : Fin 1), (V (Proc.devRef .tc main_v46) : FVec Ideal S8x8192x1 .f32) (ix3 h t i) = cE 0)
  (h49 : ∀ h t (i : Fin 1), (V (Proc.devRef .tc main_v49) : FVec Ideal S8x8192x1 .f32) (ix3 h t i) = cE 0)
  (h57 : ∀ h t (i : Fin 1), (V (Proc.devRef .tc main_v57) : FVec Ideal S8x8192x1 .f32) (ix3 h t i) = cE (-A.del h t))
  (h60 : ∀ h t (i : Fin 1), (V (Proc.devRef .tc main_v60) : FVec Ideal S8x8192x1 .f32) (ix3 h t i) = cE 0)
  (h63 : ∀ h t (i : Fin 1), (V (Proc.devRef .tc main_v63) : FVec Ideal S8x8192x1 .f32) (ix3 h t i) = cE 0)
  (h64 : ∀ h t x, (V (Proc.devRef .tc main_v64) : FVec Ideal S8x8192x3 .f32) (ix3 h t x) = cE 1)
  (h65 : ∀ h t x, (V (Proc.devRef .tc main_v65) : FVec Ideal S8x8192x61 .f32) (ix3 h t x) = cE 0)
  (h66 : ∀ h t x, (V (Proc.devRef .tc main_v66) : FVec Ideal S8x8192x58 .f32) (ix3 h t x) = cE 0)

include h0 h43 h46 h49 h64 h66 in
set_option maxHeartbeats 1000000 in
theorem ud_v73 (h : Fin 8) (t : Fin 8192) (x : Fin 128) : (after opsD V (Proc.devRef .tc main_v73) : FVec Ideal S8x8192x128 .bf16) (ix3 h t x) = cE (A.qx h t x) := by
  after_reads_at
  unfold Args.qx
  split_ifs
  all_goals first | omega | after_reads_at
  · exact (congrArg₂ (fun a b : EReal => a * b) (h0 t (col h ⟨x.val, by assumption⟩)) lit_eighth).trans (cE_mul _ _)
  · exact ((congrArg (fun a : EReal => -a) (h64 h t _)).trans (cE_neg 1)).trans (congrArg cE (by split_ifs <;> first | rfl | omega))
  · exact (h43 h t _).trans (congrArg cE (by split_ifs <;> first | rfl | omega))
  · exact (h46 h t _).trans (congrArg cE (by split_ifs <;> first | rfl | omega))
  · exact (h49 h t _).trans (congrArg cE (by split_ifs <;> first | rfl | omega))
  · exact (h66 h t _).trans (congrArg cE (by split_ifs <;> first | rfl | omega))

include h1 h43 h46 h49 h64 h66 in
set_option maxHeartbeats 1000000 in
theorem ud_v77 (h : Fin 8) (t : Fin 8192) (x : Fin 128) : (after opsD V (Proc.devRef .tc main_v77) : FVec Ideal S8x8192x128 .bf16) (ix3 h t x) = cE (A.kx h t x) := by
  after_reads_at
  unfold Args.kx
  split_ifs
  all_goals first | omega | after_reads_at
  · exact h1 t (col h ⟨x.val, by assumption⟩)
  · exact (h43 h t _).trans (congrArg cE (by split_ifs <;> first | rfl | omega))
  · exact (h46 h t _).trans (congrArg cE (by split_ifs <;> first | rfl | omega))
  · exact (h49 h t _).trans (congrArg cE (by split_ifs <;> first | rfl | omega))
  · exact (h64 h t _).trans (congrArg cE (by split_ifs <;> first | rfl | omega))
  · exact (h66 h t _).trans (congrArg cE (by split_ifs <;> first | rfl | omega))

include h2 h64 h65 in
set_option maxHeartbeats 1000000 in
theorem ud_v81 (h : Fin 8) (t : Fin 8192) (x : Fin 128) : (after opsD V (Proc.devRef .tc main_v81) : FVec Ideal S8x8192x128 .bf16) (ix3 h t x) = cE (A.vx h t x) := by
  after_reads_at
  unfold Args.vx
  split_ifs
  all_goals first | omega | after_reads_at
  · exact h2 t (col h ⟨x.val, by assumption⟩)
  · exact (h64 h t _).trans (congrArg cE (by split_ifs <;> first | rfl | omega))
  · exact (h65 h t _).trans (congrArg cE (by split_ifs <;> first | rfl | omega))

include hg h57 h60 h63 h65 in
set_option maxHeartbeats 1000000 in
theorem ud_v85 (h : Fin 8) (t : Fin 8192) (x : Fin 128) : (after opsD V (Proc.devRef .tc main_v85) : FVec Ideal S8x8192x128 .bf16) (ix3 h t x) = cE (A.gx h t x) := by
  after_reads_at
  unfold Args.gx
  split_ifs
  all_goals first | omega | after_reads_at
  · exact hg t (col h ⟨x.val, by assumption⟩)
  · exact (h57 h t _).trans (congrArg cE (by split_ifs <;> first | rfl | omega))
  · exact (h60 h t _).trans (congrArg cE (by split_ifs <;> first | rfl | omega))
  · exact (h63 h t _).trans (congrArg cE (by split_ifs <;> first | rfl | omega))
  · exact (h65 h t _).trans (congrArg cE (by split_ifs <;> first | rfl | omega))

end Four

theorem ud_v30 (V : Valuation τ sig (Elt Ideal)) : after opsD V (Proc.devRef .tc main_v30) = V (Proc.devRef .tc main_v30) := by
  after_results

theorem ue_keep (V : Valuation τ sig (Elt Ideal)) (b : Ref sig .tc) (hb : b = main_v73 ∨ b = main_v77 ∨ b = main_v81 ∨ b = main_v85) : after opsE V (Proc.devRef .tc b) = V (Proc.devRef .tc b) := by
  rcases hb with rfl | rfl | rfl | rfl <;> after_results

theorem ue_v87 {V : Valuation τ sig (Elt Ideal)} {A : Args} (h77 : ∀ h t x, (V (Proc.devRef .tc main_v77) : FVec Ideal S8x8192x128 .bf16) (ix3 h t x) = cE (A.kx h t x))
    (h : Fin 8) (j : Fin 16) (x : Fin 128) (a : Fin 512) : (after opsE V (Proc.devRef .tc main_v87) : FVec Ideal S8x16x128x512 .bf16) (ix4 h j x a) = cE (A.kx h ⟨j.val * 512 + a.val, by omega⟩ x) := by
  after_reads_at
  exact h77 h _ x

theorem ue_v89 {V : Valuation τ sig (Elt Ideal)} {A : Args} (h30 : ∀ h t, (V (Proc.devRef .tc main_v30) : FVec Ideal S8x8192 .f32) (ix2 h t) = cE (A.M h t + Real.log (A.S (A.M h t) h t)))
    (p : Fin 4) (i : Fin 16) (u : Fin 2) (b : Fin 512) : (after opsE V (Proc.devRef .tc main_v89) : FVec Ideal S4x16x2x512 .f32) (ix4 p i u b) = cE (A.lse ⟨p.val * 2 + u.val, by omega⟩ ⟨i.val * 512 + b.val, by omega⟩) := by
  after_reads_at
  exact h30 _ _

end Cert.Kernel.Hand

end
-- ==== Proof.HostVal3.lean ====
/- The launch's operands at an index, over reals. -/
module

public import proofs.«01_k».proof.Proof.HostVal2
public import proofs.«01_k».proof.Proof.Runs

@[expose] public section

set_option maxRecDepth 16384

noncomputable section

namespace Cert.Kernel.Hand

open Idealize.ShloMosaic Idealize.ShloMosaic.TcCoe Idealize.ShloMosaic.Tactic Idealize.ShloMosaic.StableHlo Idealize.SL.Sem
open Cert.Kernel Cert.Kernel.Gen Cert.Fox

variable (m : (ℓ : Loc nD τ sig) → Buf (Elt Ideal) ℓ) (c : Dev nD)

/-- What the launch finds before the padding. -/
def X1 : Valuation τ sig (Elt Ideal) := U1 (fun b => m (c, b))
def X2 : Valuation τ sig (Elt Ideal) := after opsB (after opsA (X1 m c))
def X3 : Valuation τ sig (Elt Ideal) := after opsC (X2 m c)
def X4 : Valuation τ sig (Elt Ideal) := after opsD (X3 m c)
def X5 : Valuation τ sig (Elt Ideal) := after opsE (X4 m c)

theorem after_two (a b : List (HloOp τ sig (Elt Ideal))) (V : Valuation τ sig (Elt Ideal)) : after (a ++ b) V = after b (after a V) := by
  induction a generalizing V with
  | nil => rfl
  | cons o a ih => exact ih _

theorem V0_eq : V0 m c = after hostOps0_4 (after hostOps0_3 (X5 m c)) := by
  unfold V0
  simp only [List.flatten_cons, List.flatten_nil, List.append_nil]
  rw [after_two, after_two, after_two, after_two, hostOps2_cut]
  rfl

variable {A : Args} (H : KArgs (fun b => m (c, b)) A)

include H in
theorem XA_22 (h t s) : (after opsA (X1 m c) (Proc.devRef .tc main_v22) : FVec Ideal S8x8192x8192 .f32) (ix3 h t s) = if s.val ≤ t.val then cE (A.L h t s) else ⊥ := by
  rw [ua_keep _ _ (by simp)]; exact u1_v22 H h t s
include H in
theorem XA_2 (t d) : (after opsA (X1 m c) (Proc.devRef .tc main_v2) : FVec Ideal S8192x512 .f32) (ix2 t d) = cE (A.v t d) := by
  rw [ua_keep _ _ (by simp)]; exact u1_v2 H t d
include H in
theorem X2_30 (h t) : (X2 m c (Proc.devRef .tc main_v30) : FVec Ideal S8x8192 .f32) (ix2 h t) = cE (A.M h t + Real.log (A.S (A.M h t) h t)) :=
  ub_v30 (XA_22 m c H) (ua_v23 (u1_v22 H)) h t
include H in
theorem X2_39 (t : Fin 8192) (d : Fin 512) : (X2 m c (Proc.devRef .tc main_v39) : FVec Ideal S8192x512 .f32) (ix2 t d) = cE (A.o t d) :=
  ub_v39 (XA_22 m c H) (ua_v23 (u1_v22 H)) (XA_2 m c H) t d
include H in
theorem X2_f (t d) : (X2 m c (Proc.devRef .tc main_arg3) : FVec Ideal S8192x8 .f32) (ix2 t d) = cE (A.f t d) := by
  unfold X2; rw [ub_keep _ _ (by simp), ua_keep _ _ (by simp)]; exact u1_arg3 H t d
include H in
theorem X2_g (t d) : (X2 m c (Proc.devRef .tc main_arg4) : FVec Ideal S8192x512 .f32) (ix2 t d) = cE (A.g t d) := by
  unfold X2; rw [ub_keep _ _ (by simp), ua_keep _ _ (by simp)]; exact u1_arg4 H t d
theorem X3_keep (b : Ref sig .tc) (hb : b = main_v0 ∨ b = main_v1 ∨ b = main_v2 ∨ b = main_arg4) : X3 m c (Proc.devRef .tc b) = X1 m c (Proc.devRef .tc b) := by
  unfold X3 X2
  rw [uc_keep _ _ (by rcases hb with h | h | h | h <;> simp [h]), ub_keep _ _ (by rcases hb with h | h | h | h <;> simp [h]), ua_keep _ _ (by rcases hb with h | h | h | h <;> simp [h])]
include H in
theorem X3_q (t d) : (X3 m c (Proc.devRef .tc main_v0) : FVec Ideal S8192x512 .f32) (ix2 t d) = cE (A.q t d) := by
  rw [X3_keep _ _ _ (by simp)]; exact u1_v0 H t d
include H in
theorem X3_k (t d) : (X3 m c (Proc.devRef .tc main_v1) : FVec Ideal S8192x512 .f32) (ix2 t d) = cE (A.k t d) := by
  rw [X3_keep _ _ _ (by simp)]; exact u1_v1 H t d
include H in
theorem X3_v (t d) : (X3 m c (Proc.devRef .tc main_v2) : FVec Ideal S8192x512 .f32) (ix2 t d) = cE (A.v t d) := by
  rw [X3_keep _ _ _ (by simp)]; exact u1_v2 H t d
include H in
theorem X3_g (t d) : (X3 m c (Proc.devRef .tc main_arg4) : FVec Ideal S8192x512 .f32) (ix2 t d) = cE (A.g t d) := by
  rw [X3_keep _ _ _ (by simp)]; exact u1_arg4 H t d
include H in
theorem X3_30 (h t) : (X3 m c (Proc.devRef .tc main_v30) : FVec Ideal S8x8192 .f32) (ix2 h t) = cE (A.M h t + Real.log (A.S (A.M h t) h t)) := by
  unfold X3; rw [uc_keep _ _ (by simp)]; exact X2_30 m c H h t
include H in
theorem X3_43 (h t) (i : Fin 1) : (X3 m c (Proc.devRef .tc main_v43) : FVec Ideal S8x8192x1 .f32) (ix3 h t i) = cE (A.f t h) := by
  rw [Subsingleton.elim i 0]; exact uc_v43 (X2_f m c H) h t
include H in
theorem X3_46 (h t) (i : Fin 1) : (X3 m c (Proc.devRef .tc main_v46) : FVec Ideal S8x8192x1 .f32) (ix3 h t i) = cE 0 := by
  rw [Subsingleton.elim i 0]; exact uc_v46 (X2_f m c H) h t
include H in
theorem X3_49 (h t) (i : Fin 1) : (X3 m c (Proc.devRef .tc main_v49) : FVec Ideal S8x8192x1 .f32) (ix3 h t i) = cE 0 := by
  rw [Subsingleton.elim i 0]; exact uc_v49 (X2_f m c H) h t
include H in
theorem X3_57 (h t) (i : Fin 1) : (X3 m c (Proc.devRef .tc main_v57) : FVec Ideal S8x8192x1 .f32) (ix3 h t i) = cE (-A.del h t) := by
  rw [Subsingleton.elim i 0]; exact uc_v57 (X2_g m c H) (X2_39 m c H) h t
include H in
theorem X3_60 (h t) (i : Fin 1) : (X3 m c (Proc.devRef .tc main_v60) : FVec Ideal S8x8192x1 .f32) (ix3 h t i) = cE 0 := by
  rw [Subsingleton.elim i 0]; exact uc_v60 (X2_g m c H) (X2_39 m c H) h t
include H in
theorem X3_63 (h t) (i : Fin 1) : (X3 m c (Proc.devRef .tc main_v63) : FVec Ideal S8x8192x1 .f32) (ix3 h t i) = cE 0 := by
  rw [Subsingleton.elim i 0]; exact uc_v63 (X2_g m c H) (X2_39 m c H) h t

theorem tail_keep (V : Valuation τ sig (Elt Ideal)) (b : Ref sig .tc) (hb : b = main_v73 ∨ b = main_v77 ∨ b = main_v81 ∨ b = main_v85 ∨ b = main_v87) : after hostOps0_4 (after hostOps0_3 V) (Proc.devRef .tc b) = V (Proc.devRef .tc b) := by
  rcases hb with rfl | rfl | rfl | rfl | rfl <;> after_results

theorem tail_v90 (V : Valuation τ sig (Elt Ideal)) (p : Fin 4) (i : Fin 16) (u : Fin 8) (hu : u.val < 2) (b : Fin 512) : (after hostOps0_4 (after hostOps0_3 V) (Proc.devRef .tc main_v90) : FVec Ideal S4x16x8x512 .f32) (ix4 p i u b) = (V (Proc.devRef .tc main_v89) : FVec Ideal S4x16x2x512 .f32) (ix4 p i ⟨u.val, hu⟩ b) := by
  after_reads_at
  exact dif_pos hu

include H in
theorem V_qx (h t x) : (V m c main_v73 : FVec Ideal S8x8192x128 .bf16) (ix3 h t x) = cE (A.qx h t x) := by
  unfold V; rw [V0_eq, tail_keep _ _ (by simp), X5, ue_keep _ _ (by simp)]
  exact ud_v73 (X3_q m c H) (X3_43 m c H) (X3_46 m c H) (X3_49 m c H) (uc_v64 _) (uc_v66 _) h t x
include H in
theorem V_kx (h t x) : (V m c main_v77 : FVec Ideal S8x8192x128 .bf16) (ix3 h t x) = cE (A.kx h t x) := by
  unfold V; rw [V0_eq, tail_keep _ _ (by simp), X5, ue_keep _ _ (by simp)]
  exact ud_v77 (X3_k m c H) (X3_43 m c H) (X3_46 m c H) (X3_49 m c H) (uc_v64 _) (uc_v66 _) h t x
include H in
theorem V_vx (h t x) : (V m c main_v81 : FVec Ideal S8x8192x128 .bf16) (ix3 h t x) = cE (A.vx h t x) := by
  unfold V; rw [V0_eq, tail_keep _ _ (by simp), X5, ue_keep _ _ (by simp)]
  exact ud_v81 (X3_v m c H) (uc_v64 _) (uc_v65 _) h t x
include H in
theorem V_gx (h t x) : (V m c main_v85 : FVec Ideal S8x8192x128 .bf16) (ix3 h t x) = cE (A.gx h t x) := by
  unfold V; rw [V0_eq, tail_keep _ _ (by simp), X5, ue_keep _ _ (by simp)]
  exact ud_v85 (X3_g m c H) (X3_57 m c H) (X3_60 m c H) (X3_63 m c H) (uc_v65 _) h t x
include H in
theorem X4_k (h t x) : (X4 m c (Proc.devRef .tc main_v77) : FVec Ideal S8x8192x128 .bf16) (ix3 h t x) = cE (A.kx h t x) :=
  ud_v77 (X3_k m c H) (X3_43 m c H) (X3_46 m c H) (X3_49 m c H) (uc_v64 _) (uc_v66 _) h t x
include H in
theorem X4_30 (h t) : (X4 m c (Proc.devRef .tc main_v30) : FVec Ideal S8x8192 .f32) (ix2 h t) = cE (A.M h t + Real.log (A.S (A.M h t) h t)) := by
  unfold X4; rw [ud_v30]; exact X3_30 m c H h t
include H in
theorem V_tx (h j x a) : (V m c main_v87 : FVec Ideal S8x16x128x512 .bf16) (ix4 h j x a) = cE (A.kx h ⟨j.val * 512 + a.val, by omega⟩ x) := by
  unfold V; rw [V0_eq, tail_keep _ _ (by simp)]
  exact ue_v87 (X4_k m c H) h j x a
include H in
theorem V_lse (p : Fin 4) (i : Fin 16) (u : Fin 8) (hu : u.val < 2) (b : Fin 512) : (V m c main_v90 : FVec Ideal S4x16x8x512 .f32) (ix4 p i u b) = cE (A.lse ⟨p.val * 2 + u.val, by omega⟩ ⟨i.val * 512 + b.val, by omega⟩) := by
  unfold V; rw [V0_eq, tail_v90 _ _ _ _ hu]
  exact ue_v89 (X4_30 m c H) p i ⟨u.val, hu⟩ b

end Cert.Kernel.Hand

end
-- ==== Proof.Body.lean ====
/- The body of one grid point as a function of its blocks. -/
module

public import proofs.«01_k».proof.Proof.Loop
public import Idealize.ShloMosaic.Lib.VecWindow

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The diagonal query block, masked, the carried sums starting at zero. -/
def mstep (x0 x1 : Vec F S2x8192x128 .bf16) (x2 : Vec F S1x16x8x512 .f32) (x3 : Vec F S2x512x128 .bf16) (x4 : Vec F S2x1x128x512 .bf16) (x5 : Vec F S2x512x128 .bf16)
    (oq oq' : Fin 3 → ℕ) (ol ol' od od' oe oe' : Fin 4 → ℕ)
    (hq : ∀ a, oq a + S1x512x128.size a ≤ S2x8192x128.size a) (hq' : ∀ a, oq' a + S1x512x128.size a ≤ S2x8192x128.size a)
    (hl : ∀ a, ol a + S1x1x1x512.size a ≤ S1x16x8x512.size a) (hl' : ∀ a, ol' a + S1x1x1x512.size a ≤ S1x16x8x512.size a)
    (hd : ∀ a, od a + S1x1x128x512.size a ≤ S2x16x128x512.size a) (hd' : ∀ a, od' a + S1x1x128x512.size a ≤ S2x16x128x512.size a)
    (he : ∀ a, oe a + S1x1x8x512.size a ≤ S2x16x8x512.size a) (he' : ∀ a, oe' a + S1x1x8x512.size a ≤ S2x16x8x512.size a)
    (D : Vec F S2x16x128x512 .f32) (E : Vec F S2x16x8x512 .f32) : St F :=
  let q : Vec F S1x512x128 .bf16 := window x0 oq S1x512x128.size hq
  let d : Vec F S1x512x128 .bf16 := window x1 oq S1x512x128.size hq
  let l : Vec F S1x1x1x512 .f32 := window x2 ol S1x1x1x512.size hl
  let q' : FVec F S512x128 .bf16 := k0_pay63 (window x0 oq' S1x512x128.size hq')
  let d' : FVec F S512x128 .bf16 := k0_pay64 (window x1 oq' S1x512x128.size hq')
  let l' : Vec F S1x1x1x512 .f32 := window x2 ol' S1x1x1x512.size hl'
  let p : FVec F S512x512 .f32 := k0_pay55 q d (kv0 x3) l (kv0 x5)
  let p' : FVec F S512x512 .f32 := k0_pay66 k0_pay50 q' d' (kv1 x3) l' (kv1 x5)
  let D1 : Vec F S2x16x128x512 .f32 := put D od S1x1x128x512.size (k0_pay60 (k0_pay56 q d (kv0 x3) l (kv0 x5)) (window D od S1x1x128x512.size hd) (kt0 x4))
  let E1 : Vec F S2x16x8x512 .f32 := put E oe S1x1x8x512.size (k0_pay62 p (window E oe S1x1x8x512.size he))
  ((k0_pay59 k0_pay51 (k0_pay58 q d (kv0 x3) l (kv0 x5)), k0_pay57 q d (kv0 x3) l, k0_pay61 k0_pay51 p,
      k0_pay69 k0_pay50 k0_pay51 q' d' (kv1 x3) l' (kv1 x5), k0_pay68 k0_pay50 k0_pay51 q' d' (kv1 x3) l',
      k0_pay72 p' (k0_pay71 k0_pay50 k0_pay51 q' d' (kv1 x3) l' (kv1 x5))),
    put D1 od' S1x1x128x512.size (k0_pay70 k0_pay50 q' d' (kv1 x3) l' (kv1 x5) (window D od' S1x1x128x512.size hd') (kt1 x4)),
    put E1 oe' S1x1x8x512.size (k0_pay73 p' (window E oe' S1x1x8x512.size he')))

/-- The diagonal query block at the program's own offsets. -/
def mstepR (x0 x1 : Vec F S2x8192x128 .bf16) (x2 : Vec F S1x16x8x512 .f32) (x3 : Vec F S2x512x128 .bf16) (x4 : Vec F S2x1x128x512 .bf16) (x5 : Vec F S2x512x128 .bf16) (i : grid0.Coords) (D : Vec F S2x16x128x512 .f32) (E : Vec F S2x16x8x512 .f32) : St F :=
  mstep x0 x1 x2 x3 x4 x5 (k0_off1 i) (k0_off5 i) (k0_off2 i) (k0_off6 i) (k0_off3 i) (k0_off7 i) (k0_off4 i) (k0_off8 i)
    (k0_off1_inb i) (k0_off5_inb i) (k0_off2_inb i) (k0_off6_inb i) (k0_off3_inb i) (k0_off7_inb i) (k0_off4_inb i) (k0_off8_inb i) D E

/-- The state after the whole body: the diagonal block and the later ones. -/
def bodyR (x0 x1 : Vec F S2x8192x128 .bf16) (x2 : Vec F S1x16x8x512 .f32) (x3 : Vec F S2x512x128 .bf16) (x4 : Vec F S2x1x128x512 .bf16) (x5 : Vec F S2x512x128 .bf16) (i : grid0.Coords) (v125 : BitVec 32) (hw : k0_chk1 i v125) (D : Vec F S2x16x128x512 .f32) (E : Vec F S2x16x8x512 .f32) : St F :=
  stR x0 x1 x2 x3 x4 x5 i v125 hw (mstepR x0 x1 x2 x3 x4 x5 i D E) (k0_t1_loop i v125).trips

/-- Everything put over the whole is the payload. -/
theorem put_full {α : Type} {s : Shape} (x : s.Idx → α) (off : Fin s.rank → ℕ) (hoff : ∀ a, off a = 0) (w : ((a : Fin s.rank) → Fin (s.size a)) → α) :
    put x off s.size w = w := by
  funext y
  have h : ∀ a, off a ≤ (y a).val ∧ (y a).val < off a + s.size a := fun a => by
    have := (y a).isLt
    have := hoff a
    omega
  refine (dif_pos h).trans (congrArg w (funext fun a => Fin.ext ?_))
  show (y a).val - off a = (y a).val
  rw [hoff a]; omega

theorem full2 (x w : Vec F S512x128 .bf16) : put x ![0, 0] S512x128.size w = w := put_full x _ (by decide) w
theorem full8 (x w : Vec F S1x1x8x512 .f32) : put x ![0, 0, 0, 0] S1x1x8x512.size w = w := put_full x _ (by decide) w
theorem full12 (x w : Vec F S2x16x128x512 .f32) : put x ![0, 0, 0, 0] S2x16x128x512.size w = w := put_full x _ (by decide) w
theorem full13 (x w : Vec F S2x16x8x512 .f32) : put x ![0, 0, 0, 0] S2x16x8x512.size w = w := put_full x _ (by decide) w

/-- The second head's block is untouched by what was put over the first head's. -/
theorem apart12 (i : grid0.Coords) (x : Vec F S2x16x128x512 .f32) (w : Vec F S1x1x128x512 .f32) (h : ∀ a, k0_off7 i a + S1x1x128x512.size a ≤ S2x16x128x512.size a) :
    window (put x (k0_off3 i) S1x1x128x512.size w) (k0_off7 i) S1x1x128x512.size h = window x (k0_off7 i) S1x1x128x512.size h :=
  VecWindow.window_put_of_disjoint x _ _ _ _ h w 0 (.inr (show (0 : ℕ) + 1 ≤ 1 from le_refl 1))

theorem apart13 (i : grid0.Coords) (x : Vec F S2x16x8x512 .f32) (w : Vec F S1x1x8x512 .f32) (h : ∀ a, k0_off8 i a + S1x1x8x512.size a ≤ S2x16x8x512.size a) :
    window (put x (k0_off4 i) S1x1x8x512.size w) (k0_off8 i) S1x1x8x512.size h = window x (k0_off8 i) S1x1x8x512.size h :=
  VecWindow.window_put_of_disjoint x _ _ _ _ h w 0 (.inr (show (0 : ℕ) + 1 ≤ 1 from le_refl 1))

end Cert.Kernel.Hand

end
-- ==== Proof.Heads.lean ====
/- One head's share of a query block over the extended reals: the vector terms of the body, and what they hold at an index when the operands hold reals. -/
module

public import proofs.«01_k».proof.Proof.Body
public import Idealize.ShloMosaic.Lib.Pointwise

@[expose] public section

set_option maxRecDepth 16384

noncomputable section

namespace Cert.Kernel.Hand

open Cert.Kernel Cert.Kernel.Gen Idealize.ShloMosaic Idealize.ShloMosaic.TcCoe
open Idealize.SL Idealize.SL.Sem
open Idealize.ShloMosaic.VecWindow (window put)

/-- A real as an extended real. -/
abbrev cR (x : ℝ) : EReal := (x : EReal)

/-- A sum of reals, read among the extended reals. -/
theorem cR_sum {n : ℕ} (f : Fin n → ℝ) : (∑ i, cR (f i)) = cR (∑ i, f i) := by
  have := map_sum (⟨⟨cR, EReal.coe_zero⟩, EReal.coe_add⟩ : ℝ →+ EReal) f Finset.univ
  exact this.symm

theorem cR_mul (x y : ℝ) : cR x * cR y = cR (x * y) := (EReal.coe_mul x y).symm
theorem cR_add (x y : ℝ) : cR x + cR y = cR (x + y) := (EReal.coe_add x y).symm
theorem cR_sub (x y : ℝ) : cR x - cR y = cR (x - y) := (EReal.coe_sub x y).symm
theorem cR_zero : (0 : EReal) = cR 0 := EReal.coe_zero.symm

section Defs

variable {F : FTy → Type} [FloatOps F]

/-- The softmax weights of a block before the mask: keys down, queries across. -/
def hP (q k : Vec F S1x512x128 .bf16) (l : Vec F S1x1x1x512 .f32) : FVec F S512x512 .f32 := k0_pay4 q k l
/-- The weights on the diagonal block, zero above the diagonal. -/
def hPm (q k : Vec F S1x512x128 .bf16) (l : Vec F S1x1x1x512 .f32) : FVec F S512x512 .f32 := k0_pay54 q k l
/-- The scores' gradient: the weights times the shifted products of the values with the output's gradient. -/
def hS (P : FVec F S512x512 .f32) (v d : Vec F S1x512x128 .bf16) : FVec F S512x512 .f32 :=
  mulf P (matmul dot_S512x128_S512x128_S512x512_1_1_0_0_n_n none (shapeCast S512x128 v shapeCasts_S1x512x128_S512x128) (shapeCast S512x128 d shapeCasts_S1x512x128_S512x128) (constant S512x512 .f32 0x00000000#32))
/-- A sum over the query rows of a block, added to what was carried. -/
def hAcc (acc : FVec F S512x128 .f32) (P : FVec F S512x512 .f32) (d : Vec F S1x512x128 .bf16) : FVec F S512x128 .f32 :=
  addf acc (matmul dot_S512x512_S512x128_S512x128_1_0_0_1_n_n none (truncf .bf16 P bitsLt_bf16_f32) (shapeCast S512x128 d shapeCasts_S1x512x128_S512x128) (constant S512x128 .f32 0x00000000#32))
/-- The columns' lane groups, added to what was carried. -/
def hCol (acc : FVec F S512x128 .f32) (S : FVec F S512x512 .f32) : FVec F S512x128 .f32 := k0_pay12 acc S
/-- The query side: the transposed keys times the scores' gradient, added to what was there. -/
def hD (o : Vec F S1x1x128x512 .f32) (t : Vec F S1x1x128x512 .bf16) (S : FVec F S512x512 .f32) : FVec F S1x1x128x512 .f32 :=
  shapeCast S1x1x128x512 (addf (shapeCast S128x512 o shapeCasts_S1x1x128x512_S128x512) (matmul dot_S128x512_S512x512_S128x512_1_0_0_1_n_n none (shapeCast S128x512 t shapeCasts_S1x1x128x512_S128x512) (truncf .bf16 S bitsLt_bf16_f32) (constant S128x512 .f32 0x00000000#32))) shapeCasts_S128x512_S1x1x128x512
/-- The rows' groups of eight, added to what was there. -/
def hE (o : Vec F S1x1x8x512 .f32) (S : FVec F S512x512 .f32) : FVec F S1x1x8x512 .f32 := k0_pay13 S o

end Defs

section Values

theorem hP_at (q k : Vec Ideal S1x512x128 .bf16) (l : Vec Ideal S1x1x1x512 .f32) (Q K : Fin 512 → Fin 128 → ℝ) (L : Fin 512 → ℝ)
    (hq : ∀ b x, q (ix3 0 b x) = cR (Q b x)) (hk : ∀ a x, k (ix3 0 a x) = cR (K a x)) (hl : ∀ b, l (ix4 0 0 0 b) = cR (L b)) (a b : Fin 512) :
    hP q k l (ix2 a b) = cR (Real.exp ((∑ x, K a x * Q b x) - L b)) := by
  pointwise [hP, k0_pay4, k0_pay2]
  simp only [hq, hk, hl, cR_mul, cR_sum, cR_sub, Ideal.exp_coe]

theorem hS_at (P : FVec Ideal S512x512 .f32) (v d : Vec Ideal S1x512x128 .bf16) (p : Fin 512 → Fin 512 → ℝ) (V G : Fin 512 → Fin 128 → ℝ)
    (hP : ∀ a b, P (ix2 a b) = cR (p a b)) (hv : ∀ a x, v (ix3 0 a x) = cR (V a x)) (hd : ∀ b x, d (ix3 0 b x) = cR (G b x)) (a b : Fin 512) :
    hS P v d (ix2 a b) = cR (p a b * ∑ x, V a x * G b x) := by
  pointwise [hS]
  simp only [hP, hv, hd, cR_mul, cR_sum, cR_sub]

theorem hAcc_at (acc : FVec Ideal S512x128 .f32) (P : FVec Ideal S512x512 .f32) (d : Vec Ideal S1x512x128 .bf16) (A : Fin 512 → Fin 128 → ℝ) (p : Fin 512 → Fin 512 → ℝ) (G : Fin 512 → Fin 128 → ℝ)
    (hA : ∀ a x, acc (ix2 a x) = cR (A a x)) (hP : ∀ a b, P (ix2 a b) = cR (p a b)) (hd : ∀ b x, d (ix3 0 b x) = cR (G b x)) (a : Fin 512) (x : Fin 128) :
    hAcc acc P d (ix2 a x) = cR (A a x + ∑ b, p a b * G b x) := by
  pointwise [hAcc]
  simp only [hA, hP, hd, cR_mul, cR_sum, cR_add]

theorem hCol_at (acc : FVec Ideal S512x128 .f32) (S : FVec Ideal S512x512 .f32) (A : Fin 512 → Fin 128 → ℝ) (s : Fin 512 → Fin 512 → ℝ)
    (hA : ∀ a x, acc (ix2 a x) = cR (A a x)) (hS : ∀ a b, S (ix2 a b) = cR (s a b)) (a : Fin 512) (x : Fin 128) :
    hCol acc S (ix2 a x) = cR (A a x + ∑ g : Fin 4, s a ⟨128 * g.val + x.val, by omega⟩) := by
  pointwise [hCol, k0_pay12]
  simp only [hA, hS, cR_add, Fin.sum_univ_four]
  simp only [Fin.val_zero, Fin.val_one, Fin.val_two, mul_zero, mul_one, zero_add, Nat.reduceMul]
  have e3 : ((3 : Fin 4) : ℕ) = 3 := rfl
  simp only [e3, Nat.reduceMul, add_assoc]

theorem hD_at (o : Vec Ideal S1x1x128x512 .f32) (t : Vec Ideal S1x1x128x512 .bf16) (S : FVec Ideal S512x512 .f32) (O T : Fin 128 → Fin 512 → ℝ) (s : Fin 512 → Fin 512 → ℝ)
    (ho : ∀ x b, o (ix4 0 0 x b) = cR (O x b)) (ht : ∀ x a, t (ix4 0 0 x a) = cR (T x a)) (hS : ∀ a b, S (ix2 a b) = cR (s a b)) (x : Fin 128) (b : Fin 512) :
    hD o t S (ix4 0 0 x b) = cR (O x b + ∑ a, T x a * s a b) := by
  pointwise [hD]
  simp only [ho, ht, hS, cR_mul, cR_sum, cR_add]

theorem hE_at (o : Vec Ideal S1x1x8x512 .f32) (S : FVec Ideal S512x512 .f32) (O : Fin 8 → Fin 512 → ℝ) (s : Fin 512 → Fin 512 → ℝ)
    (ho : ∀ x b, o (ix4 0 0 x b) = cR (O x b)) (hS : ∀ a b, S (ix2 a b) = cR (s a b)) (x : Fin 8) (b : Fin 512) :
    hE o S (ix4 0 0 x b) = cR (O x b + ∑ g : Fin 64, s ⟨g.val * 8 + x.val, by omega⟩ b) := by
  pointwise [hE, k0_pay13]
  simp only [ho, hS, cR_mul, cR_sum, cR_add]

theorem hPm_at (q k : Vec Ideal S1x512x128 .bf16) (l : Vec Ideal S1x1x1x512 .f32) (Q K : Fin 512 → Fin 128 → ℝ) (L : Fin 512 → ℝ)
    (hq : ∀ b x, q (ix3 0 b x) = cR (Q b x)) (hk : ∀ a x, k (ix3 0 a x) = cR (K a x)) (hl : ∀ b, l (ix4 0 0 0 b) = cR (L b)) (a b : Fin 512) :
    hPm q k l (ix2 a b) = cR (if a.val ≤ b.val then Real.exp ((∑ x, K a x * Q b x) - L b) else 0) := by
  pointwise [hPm, k0_pay54, k0_pay52, k0_pay50]
  simp only [hq, hk, hl, cR_mul, cR_sum, cR_sub, Ideal.exp_coe]
  rw [WordCmp.cmpi_sle_ofNat (by omega) (by omega)]
  by_cases h : a.val ≤ b.val
  · simp [h, Scalar.select]
  · simp [h, Scalar.select]

end Values

section Steps

variable {F : FTy → Type} [FloatOps F]

/-- The unmasked query block in the heads' terms. -/
theorem step_eq (x0 x1 : Vec F S2x8192x128 .bf16) (x2 : Vec F S1x16x8x512 .f32) (x3 : Vec F S2x512x128 .bf16) (x4 : Vec F S2x1x128x512 .bf16) (x5 : Vec F S2x512x128 .bf16)
    (oq oq' : Fin 3 → ℕ) (ol ol' od od' oe oe' : Fin 4 → ℕ)
    (hq : ∀ a, oq a + S1x512x128.size a ≤ S2x8192x128.size a) (hq' : ∀ a, oq' a + S1x512x128.size a ≤ S2x8192x128.size a)
    (hl : ∀ a, ol a + S1x1x1x512.size a ≤ S1x16x8x512.size a) (hl' : ∀ a, ol' a + S1x1x1x512.size a ≤ S1x16x8x512.size a)
    (hd : ∀ a, od a + S1x1x128x512.size a ≤ S2x16x128x512.size a) (hd' : ∀ a, od' a + S1x1x128x512.size a ≤ S2x16x128x512.size a)
    (he : ∀ a, oe a + S1x1x8x512.size a ≤ S2x16x8x512.size a) (he' : ∀ a, oe' a + S1x1x8x512.size a ≤ S2x16x8x512.size a)
    (s : St F) : step x0 x1 x2 x3 x4 x5 oq oq' ol ol' od od' oe oe' hq hq' hl hl' hd hd' he he' s =
  let q : Vec F S1x512x128 .bf16 := window x0 oq S1x512x128.size hq
  let d : Vec F S1x512x128 .bf16 := window x1 oq S1x512x128.size hq
  let q' : Vec F S1x512x128 .bf16 := window x0 oq' S1x512x128.size hq'
  let d' : Vec F S1x512x128 .bf16 := window x1 oq' S1x512x128.size hq'
  let P := hP q (kv0 x3) (window x2 ol S1x1x1x512.size hl)
  let P' := hP q' (kv1 x3) (window x2 ol' S1x1x1x512.size hl')
  let Z := hS P (kv0 x5) d
  let Z' := hS P' (kv1 x5) d'
  let D1 : Vec F S2x16x128x512 .f32 := put s.2.1 od S1x1x128x512.size (hD (window s.2.1 od S1x1x128x512.size hd) (kt0 x4) Z)
  let E1 : Vec F S2x16x8x512 .f32 := put s.2.2 oe S1x1x8x512.size (hE (window s.2.2 oe S1x1x8x512.size he) Z)
  ((hAcc s.1.1 Z q, hAcc s.1.2.1 P d, hCol s.1.2.2.1 Z, hAcc s.1.2.2.2.1 Z' q', hAcc s.1.2.2.2.2.1 P' d', hCol s.1.2.2.2.2.2 Z'),
    put D1 od' S1x1x128x512.size (hD (window D1 od' S1x1x128x512.size hd') (kt1 x4) Z'),
    put E1 oe' S1x1x8x512.size (hE (window E1 oe' S1x1x8x512.size he') Z')) := rfl

/-- The diagonal query block in the heads' terms. -/
theorem mstep_eq (x0 x1 : Vec F S2x8192x128 .bf16) (x2 : Vec F S1x16x8x512 .f32) (x3 : Vec F S2x512x128 .bf16) (x4 : Vec F S2x1x128x512 .bf16) (x5 : Vec F S2x512x128 .bf16)
    (oq oq' : Fin 3 → ℕ) (ol ol' od od' oe oe' : Fin 4 → ℕ)
    (hq : ∀ a, oq a + S1x512x128.size a ≤ S2x8192x128.size a) (hq' : ∀ a, oq' a + S1x512x128.size a ≤ S2x8192x128.size a)
    (hl : ∀ a, ol a + S1x1x1x512.size a ≤ S1x16x8x512.size a) (hl' : ∀ a, ol' a + S1x1x1x512.size a ≤ S1x16x8x512.size a)
    (hd : ∀ a, od a + S1x1x128x512.size a ≤ S2x16x128x512.size a) (hd' : ∀ a, od' a + S1x1x128x512.size a ≤ S2x16x128x512.size a)
    (he : ∀ a, oe a + S1x1x8x512.size a ≤ S2x16x8x512.size a) (he' : ∀ a, oe' a + S1x1x8x512.size a ≤ S2x16x8x512.size a)
    (D : Vec F S2x16x128x512 .f32) (E : Vec F S2x16x8x512 .f32) : mstep x0 x1 x2 x3 x4 x5 oq oq' ol ol' od od' oe oe' hq hq' hl hl' hd hd' he he' D E =
  let q : Vec F S1x512x128 .bf16 := window x0 oq S1x512x128.size hq
  let d : Vec F S1x512x128 .bf16 := window x1 oq S1x512x128.size hq
  let q' : Vec F S1x512x128 .bf16 := window x0 oq' S1x512x128.size hq'
  let d' : Vec F S1x512x128 .bf16 := window x1 oq' S1x512x128.size hq'
  let P := hPm q (kv0 x3) (window x2 ol S1x1x1x512.size hl)
  let P' := hPm q' (kv1 x3) (window x2 ol' S1x1x1x512.size hl')
  let Z := hS P (kv0 x5) d
  let Z' := hS P' (kv1 x5) d'
  let D1 : Vec F S2x16x128x512 .f32 := put D od S1x1x128x512.size (hD (window D od S1x1x128x512.size hd) (kt0 x4) Z)
  let E1 : Vec F S2x16x8x512 .f32 := put E oe S1x1x8x512.size (hE (window E oe S1x1x8x512.size he) Z)
  ((hAcc k0_pay51 Z q, hAcc k0_pay51 P d, hCol k0_pay51 Z, hAcc k0_pay51 Z' q', hAcc k0_pay51 P' d', hCol k0_pay51 Z'),
    put D1 od' S1x1x128x512.size (hD (window D od' S1x1x128x512.size hd') (kt1 x4) Z'),
    put E1 oe' S1x1x8x512.size (hE (window E oe' S1x1x8x512.size he') Z')) := rfl

end Steps

end Cert.Kernel.Hand

end
-- ==== Proof.Holds.lean ====
/- What a query block does to reals: the carried sums and the query-side accumulators as real arrays, and the body's step among them. -/
module

public import proofs.«01_k».proof.Proof.Heads

@[expose] public section

set_option maxRecDepth 16384

noncomputable section

namespace Cert.Kernel.Hand

open Cert.Kernel Cert.Kernel.Gen Idealize.ShloMosaic Idealize.ShloMosaic.TcCoe
open Idealize.SL Idealize.SL.Sem
open Idealize.ShloMosaic.VecWindow (window put)

/-- The carried sums and the accumulators as reals: per head the sums of `dk`, `dv` and the columns' lane groups, and per head and query block the two query-side sums. -/
structure RSt where
  A : Fin 2 → Fin 512 → Fin 128 → ℝ
  B : Fin 2 → Fin 512 → Fin 128 → ℝ
  C : Fin 2 → Fin 512 → Fin 128 → ℝ
  D : Fin 2 → Fin 16 → Fin 128 → Fin 512 → ℝ
  E : Fin 2 → Fin 16 → Fin 8 → Fin 512 → ℝ

/-- The accumulators hold these reals. -/
structure HoldsDE (D : Vec Ideal S2x16x128x512 .f32) (E : Vec Ideal S2x16x8x512 .f32) (r : RSt) : Prop where
  d : ∀ h i x b, D (ix4 h i x b) = cR (r.D h i x b)
  e : ∀ h i x b, E (ix4 h i x b) = cR (r.E h i x b)

/-- The state holds these reals. -/
structure Holds (s : St Ideal) (r : RSt) : Prop where
  a0 : ∀ a x, s.1.1 (ix2 a x) = cR (r.A 0 a x)
  b0 : ∀ a x, s.1.2.1 (ix2 a x) = cR (r.B 0 a x)
  c0 : ∀ a x, s.1.2.2.1 (ix2 a x) = cR (r.C 0 a x)
  a1 : ∀ a x, s.1.2.2.2.1 (ix2 a x) = cR (r.A 1 a x)
  b1 : ∀ a x, s.1.2.2.2.2.1 (ix2 a x) = cR (r.B 1 a x)
  c1 : ∀ a x, s.1.2.2.2.2.2 (ix2 a x) = cR (r.C 1 a x)
  de : HoldsDE s.2.1 s.2.2 r

/-- The block operands of a key block as reals. -/
structure ROp where
  q : Fin 2 → Fin 8192 → Fin 128 → ℝ
  g : Fin 2 → Fin 8192 → Fin 128 → ℝ
  l : Fin 2 → Fin 16 → Fin 512 → ℝ
  k : Fin 2 → Fin 512 → Fin 128 → ℝ
  t : Fin 2 → Fin 128 → Fin 512 → ℝ
  v : Fin 2 → Fin 512 → Fin 128 → ℝ

/-- The blocks hold these reals. -/
structure HoldsOp (x0 x1 : Vec Ideal S2x8192x128 .bf16) (x2 : Vec Ideal S1x16x8x512 .f32) (x3 : Vec Ideal S2x512x128 .bf16) (x4 : Vec Ideal S2x1x128x512 .bf16) (x5 : Vec Ideal S2x512x128 .bf16) (o : ROp) : Prop where
  q : ∀ h r x, x0 (ix3 h r x) = cR (o.q h r x)
  g : ∀ h r x, x1 (ix3 h r x) = cR (o.g h r x)
  l0 : ∀ i b, x2 (ix4 0 i 0 b) = cR (o.l 0 i b)
  l1 : ∀ i b, x2 (ix4 0 i 1 b) = cR (o.l 1 i b)
  k : ∀ h r x, x3 (ix3 h r x) = cR (o.k h r x)
  t : ∀ h x r, x4 (ix4 h 0 x r) = cR (o.t h x r)
  v : ∀ h r x, x5 (ix3 h r x) = cR (o.v h r x)

/-- Row `b` of query block `i`. -/
def rowOf (i : Fin 16) (b : Fin 512) : Fin 8192 := ⟨512 * i.val + b.val, by omega⟩

/-- The weights of query block `i` against the key block. -/
def ROp.p (o : ROp) (i : Fin 16) (h : Fin 2) (a b : Fin 512) : ℝ := Real.exp ((∑ x, o.k h a x * o.q h (rowOf i b) x) - o.l h i b)
/-- The weights on the diagonal. -/
def ROp.pm (o : ROp) (i : Fin 16) (h : Fin 2) (a b : Fin 512) : ℝ := if a.val ≤ b.val then o.p i h a b else 0
/-- The scores' gradient from weights `p`. -/
def ROp.z (o : ROp) (i : Fin 16) (p : Fin 2 → Fin 512 → Fin 512 → ℝ) (h : Fin 2) (a b : Fin 512) : ℝ := p h a b * ∑ x, o.v h a x * o.g h (rowOf i b) x

/-- One query block's contribution with weights `p`, added to `r`. -/
def radd (o : ROp) (i : Fin 16) (p : Fin 2 → Fin 512 → Fin 512 → ℝ) (r : RSt) : RSt where
  A h a x := r.A h a x + ∑ b, o.z i p h a b * o.q h (rowOf i b) x
  B h a x := r.B h a x + ∑ b, p h a b * o.g h (rowOf i b) x
  C h a x := r.C h a x + ∑ u : Fin 4, o.z i p h a ⟨128 * u.val + x.val, by omega⟩
  D h i' x b := r.D h i' x b + if i' = i then ∑ a, o.t h x a * o.z i p h a b else 0
  E h i' x b := r.E h i' x b + if i' = i then ∑ u : Fin 64, o.z i p h ⟨u.val * 8 + x.val, by omega⟩ b else 0

/-- The carried sums at zero, the accumulators kept. -/
def rzero (r : RSt) : RSt := { r with A := fun _ _ _ => 0, B := fun _ _ _ => 0, C := fun _ _ _ => 0 }

section Windows

theorem win_rows (X : Vec Ideal S2x8192x128 .bf16) (h : Fin 2) (i : Fin 16) (off : Fin 3 → ℕ) (e : off = ![h.val, 512 * i.val, 0]) (hi : ∀ a, off a + S1x512x128.size a ≤ S2x8192x128.size a) (b : Fin 512) (x : Fin 128) :
    window X off S1x512x128.size hi (ix3 0 b x) = X (ix3 h (rowOf i b) x) := by
  subst e
  refine congrArg X (funext fun a => Fin.ext ?_)
  show (![h.val, 512 * i.val, 0] : Fin 3 → ℕ) a + 1 * (ix3 (0 : Fin 1) b x a).val = (ix3 h (rowOf i b) x a).val
  fin_cases a
  · show h.val + 1 * 0 = h.val; omega
  · show 512 * i.val + 1 * b.val = 512 * i.val + b.val; omega
  · show 0 + 1 * x.val = x.val; omega

theorem win_k (X : Vec Ideal S2x512x128 .bf16) (h : Fin 2) (off : Fin 3 → ℕ) (e : off = ![h.val, 0, 0]) (hi : ∀ a, off a + S1x512x128.size a ≤ S2x512x128.size a) (b : Fin 512) (x : Fin 128) :
    window X off S1x512x128.size hi (ix3 0 b x) = X (ix3 h b x) := by
  subst e
  refine congrArg X (funext fun a => Fin.ext ?_)
  show (![h.val, 0, 0] : Fin 3 → ℕ) a + 1 * (ix3 (0 : Fin 1) b x a).val = (ix3 h b x a).val
  fin_cases a
  · show h.val + 1 * 0 = h.val; omega
  · show 0 + 1 * b.val = b.val; omega
  · show 0 + 1 * x.val = x.val; omega

theorem win_t (X : Vec Ideal S2x1x128x512 .bf16) (h : Fin 2) (off : Fin 4 → ℕ) (e : off = ![h.val, 0, 0, 0]) (hi : ∀ a, off a + S1x1x128x512.size a ≤ S2x1x128x512.size a) (x : Fin 128) (b : Fin 512) :
    window X off S1x1x128x512.size hi (ix4 0 0 x b) = X (ix4 h 0 x b) := by
  subst e
  refine congrArg X (funext fun a => Fin.ext ?_)
  show (![h.val, 0, 0, 0] : Fin 4 → ℕ) a + 1 * (ix4 (0 : Fin 1) (0 : Fin 1) x b a).val = (ix4 h (0 : Fin 1) x b a).val
  fin_cases a
  · show h.val + 1 * 0 = h.val; omega
  · rfl
  · show 0 + 1 * x.val = x.val; omega
  · show 0 + 1 * b.val = b.val; omega

theorem win_l (X : Vec Ideal S1x16x8x512 .f32) (u : Fin 8) (i : Fin 16) (off : Fin 4 → ℕ) (e : off = ![0, i.val, u.val, 0]) (hi : ∀ a, off a + S1x1x1x512.size a ≤ S1x16x8x512.size a) (b : Fin 512) :
    window X off S1x1x1x512.size hi (ix4 0 0 0 b) = X (ix4 0 i u b) := by
  subst e
  refine congrArg X (funext fun a => Fin.ext ?_)
  show (![0, i.val, u.val, 0] : Fin 4 → ℕ) a + 1 * (ix4 (0 : Fin 1) (0 : Fin 1) (0 : Fin 1) b a).val = (ix4 (0 : Fin 1) i u b a).val
  fin_cases a
  · rfl
  · show i.val + 1 * 0 = i.val; omega
  · show u.val + 1 * 0 = u.val; omega
  · show 0 + 1 * b.val = b.val; omega

/-- A head's and query block's part of an accumulator of `N` rows. -/
theorem win_acc {N : ℕ} (X : (⟨4, ![2, 16, N, 512]⟩ : Shape).Idx → EReal) (h : Fin 2) (i : Fin 16) (off : Fin 4 → ℕ) (e : off = ![h.val, i.val, 0, 0])
    (hi : ∀ a, off a + (![1, 1, N, 512] : Fin 4 → ℕ) a ≤ (⟨4, ![2, 16, N, 512]⟩ : Shape).size a) (x : Fin N) (b : Fin 512) :
    window X off ![1, 1, N, 512] hi (ix4 (0 : Fin 1) (0 : Fin 1) x b) = X (ix4 h i x b) := by
  subst e
  refine congrArg X (funext fun a => Fin.ext ?_)
  show (![h.val, i.val, 0, 0] : Fin 4 → ℕ) a + 1 * (ix4 (0 : Fin 1) (0 : Fin 1) x b a).val = (ix4 h i x b a).val
  fin_cases a
  · show h.val + 1 * 0 = h.val; omega
  · show i.val + 1 * 0 = i.val; omega
  · show 0 + 1 * x.val = x.val; omega
  · show 0 + 1 * b.val = b.val; omega

/-- What an accumulator holds after one head's and query block's part was put. -/
theorem put_acc {N : ℕ} (X : (⟨4, ![2, 16, N, 512]⟩ : Shape).Idx → EReal) (h : Fin 2) (i : Fin 16) (off : Fin 4 → ℕ) (e : off = ![h.val, i.val, 0, 0])
    (w : (⟨4, ![1, 1, N, 512]⟩ : Shape).Idx → EReal) (h' : Fin 2) (i' : Fin 16) (x : Fin N) (b : Fin 512) :
    put X off ![1, 1, N, 512] w (ix4 h' i' x b) = if h' = h ∧ i' = i then w (ix4 (0 : Fin 1) (0 : Fin 1) x b) else X (ix4 h' i' x b) := by
  subst e
  by_cases hh : h' = h ∧ i' = i
  · rw [if_pos hh]
    obtain ⟨rfl, rfl⟩ := hh
    have hc : ∀ a, (![h'.val, i'.val, 0, 0] : Fin 4 → ℕ) a ≤ (ix4 h' i' x b a).val ∧ (ix4 h' i' x b a).val < (![h'.val, i'.val, 0, 0] : Fin 4 → ℕ) a + (![1, 1, N, 512] : Fin 4 → ℕ) a := fun a => by
      fin_cases a
      · exact ⟨le_refl h'.val, Nat.lt_succ_self h'.val⟩
      · exact ⟨le_refl i'.val, Nat.lt_succ_self i'.val⟩
      · exact ⟨Nat.zero_le _, (show x.val < 0 + N from by omega)⟩
      · exact ⟨Nat.zero_le _, (show b.val < 0 + 512 from by omega)⟩
    refine (dif_pos hc).trans (congrArg w (funext fun a => Fin.ext ?_))
    show (ix4 h' i' x b a).val - (![h'.val, i'.val, 0, 0] : Fin 4 → ℕ) a = (ix4 (0 : Fin 1) (0 : Fin 1) x b a).val
    fin_cases a
    · show h'.val - h'.val = 0; omega
    · show i'.val - i'.val = 0; omega
    · rfl
    · rfl
  · rw [if_neg hh]
    refine dif_neg fun hc => hh ⟨?_, ?_⟩
    · have := hc 0
      have e1 : h.val ≤ h'.val := this.1
      have e2 : h'.val < h.val + 1 := this.2
      exact Fin.ext (by omega)
    · have := hc 1
      have e1 : i.val ≤ i'.val := this.1
      have e2 : i'.val < i.val + 1 := this.2
      exact Fin.ext (by omega)

end Windows

section Step

variable {x0 x1 : Vec Ideal S2x8192x128 .bf16} {x2 : Vec Ideal S1x16x8x512 .f32} {x3 : Vec Ideal S2x512x128 .bf16} {x4 : Vec Ideal S2x1x128x512 .bf16} {x5 : Vec Ideal S2x512x128 .bf16} {o : ROp}

theorem zero128 (a : Fin 512) (x : Fin 128) : (k0_pay51 (F := Ideal)) (ix2 a x) = cR 0 := by
  pointwise [k0_pay51]
  exact EReal.coe_zero.symm

/-- The accumulators after both heads' parts of query block `i` were put. -/
theorem acc_holds {N : ℕ} (X : (⟨4, ![2, 16, N, 512]⟩ : Shape).Idx → EReal) (R : Fin 2 → Fin 16 → Fin N → Fin 512 → ℝ) (hX : ∀ h i x b, X (ix4 h i x b) = cR (R h i x b))
    (i : Fin 16) (off off' : Fin 4 → ℕ) (e : off = ![0, i.val, 0, 0]) (e' : off' = ![1, i.val, 0, 0]) (w w' : (⟨4, ![1, 1, N, 512]⟩ : Shape).Idx → EReal) (c : Fin 2 → Fin N → Fin 512 → ℝ)
    (hw : ∀ x b, w (ix4 (0 : Fin 1) (0 : Fin 1) x b) = cR (R 0 i x b + c 0 x b)) (hw' : ∀ x b, w' (ix4 (0 : Fin 1) (0 : Fin 1) x b) = cR (R 1 i x b + c 1 x b)) (h : Fin 2) (i' : Fin 16) (x : Fin N) (b : Fin 512) :
    put (put X off ![1, 1, N, 512] w) off' ![1, 1, N, 512] w' (ix4 h i' x b) = cR (R h i' x b + if i' = i then c h x b else 0) := by
  rw [put_acc _ 1 i off' e', put_acc _ 0 i off e]
  by_cases hi : i' = i
  · subst hi
    fin_cases h
    · rw [if_neg (fun hc => absurd hc.1 (by decide)), if_pos ⟨rfl, rfl⟩, if_pos rfl]; exact hw x b
    · rw [if_pos ⟨rfl, rfl⟩, if_pos rfl]; exact hw' x b
  · rw [if_neg (fun hc => hi hc.2), if_neg (fun hc => hi hc.2), if_neg hi, add_zero]; exact hX h i' x b

theorem kv0_at (hx : ∀ h r x, x3 (ix3 h r x) = cR (o.k h r x)) (a : Fin 512) (x : Fin 128) : kv0 x3 (ix3 0 a x) = cR (o.k 0 a x) :=
  (win_k x3 0 _ rfl _ a x).trans (hx 0 a x)
theorem kv1_at (hx : ∀ h r x, x3 (ix3 h r x) = cR (o.k h r x)) (a : Fin 512) (x : Fin 128) : kv1 x3 (ix3 0 a x) = cR (o.k 1 a x) :=
  (win_k x3 1 _ rfl _ a x).trans (hx 1 a x)
theorem vv0_at (hx : ∀ h r x, x5 (ix3 h r x) = cR (o.v h r x)) (a : Fin 512) (x : Fin 128) : kv0 x5 (ix3 0 a x) = cR (o.v 0 a x) :=
  (win_k x5 0 _ rfl _ a x).trans (hx 0 a x)
theorem vv1_at (hx : ∀ h r x, x5 (ix3 h r x) = cR (o.v h r x)) (a : Fin 512) (x : Fin 128) : kv1 x5 (ix3 0 a x) = cR (o.v 1 a x) :=
  (win_k x5 1 _ rfl _ a x).trans (hx 1 a x)
theorem kt0_at (hx : ∀ h x r, x4 (ix4 h 0 x r) = cR (o.t h x r)) (x : Fin 128) (a : Fin 512) : kt0 x4 (ix4 0 0 x a) = cR (o.t 0 x a) :=
  (win_t x4 0 _ rfl _ x a).trans (hx 0 x a)
theorem kt1_at (hx : ∀ h x r, x4 (ix4 h 0 x r) = cR (o.t h x r)) (x : Fin 128) (a : Fin 512) : kt1 x4 (ix4 0 0 x a) = cR (o.t 1 x a) :=
  (win_t x4 1 _ rfl _ x a).trans (hx 1 x a)

variable (H : HoldsOp x0 x1 x2 x3 x4 x5 o) (i : Fin 16)
    (oq oq' : Fin 3 → ℕ) (ol ol' od od' oe oe' : Fin 4 → ℕ)
    (eq : oq = ![0, 512 * i.val, 0]) (eq' : oq' = ![1, 512 * i.val, 0]) (el : ol = ![0, i.val, 0, 0]) (el' : ol' = ![0, i.val, 1, 0])
    (ed : od = ![0, i.val, 0, 0]) (ed' : od' = ![1, i.val, 0, 0]) (ee : oe = ![0, i.val, 0, 0]) (ee' : oe' = ![1, i.val, 0, 0])
    (hq : ∀ a, oq a + S1x512x128.size a ≤ S2x8192x128.size a) (hq' : ∀ a, oq' a + S1x512x128.size a ≤ S2x8192x128.size a)
    (hl : ∀ a, ol a + S1x1x1x512.size a ≤ S1x16x8x512.size a) (hl' : ∀ a, ol' a + S1x1x1x512.size a ≤ S1x16x8x512.size a)
    (hd : ∀ a, od a + S1x1x128x512.size a ≤ S2x16x128x512.size a) (hd' : ∀ a, od' a + S1x1x128x512.size a ≤ S2x16x128x512.size a)
    (he : ∀ a, oe a + S1x1x8x512.size a ≤ S2x16x8x512.size a) (he' : ∀ a, oe' a + S1x1x8x512.size a ≤ S2x16x8x512.size a)

include H eq eq' el el' ed ed' ee ee' in
/-- The unmasked query block adds its contribution. -/
theorem step_holds (s : St Ideal) (r : RSt) (hs : Holds s r) :
    Holds (step x0 x1 x2 x3 x4 x5 oq oq' ol ol' od od' oe oe' hq hq' hl hl' hd hd' he he' s) (radd o i (o.p i) r) := by
  rw [step_eq]
  have Q : ∀ b x, window x0 oq S1x512x128.size hq (ix3 0 b x) = cR (o.q 0 (rowOf i b) x) := fun b x => (win_rows x0 0 i oq eq hq b x).trans (H.q 0 _ x)
  have Q' : ∀ b x, window x0 oq' S1x512x128.size hq' (ix3 0 b x) = cR (o.q 1 (rowOf i b) x) := fun b x => (win_rows x0 1 i oq' eq' hq' b x).trans (H.q 1 _ x)
  have G : ∀ b x, window x1 oq S1x512x128.size hq (ix3 0 b x) = cR (o.g 0 (rowOf i b) x) := fun b x => (win_rows x1 0 i oq eq hq b x).trans (H.g 0 _ x)
  have G' : ∀ b x, window x1 oq' S1x512x128.size hq' (ix3 0 b x) = cR (o.g 1 (rowOf i b) x) := fun b x => (win_rows x1 1 i oq' eq' hq' b x).trans (H.g 1 _ x)
  have L : ∀ b, window x2 ol S1x1x1x512.size hl (ix4 0 0 0 b) = cR (o.l 0 i b) := fun b => (win_l x2 0 i ol el hl b).trans (H.l0 i b)
  have L' : ∀ b, window x2 ol' S1x1x1x512.size hl' (ix4 0 0 0 b) = cR (o.l 1 i b) := fun b => (win_l x2 1 i ol' el' hl' b).trans (H.l1 i b)
  have P : ∀ a b, hP (window x0 oq S1x512x128.size hq) (kv0 x3) (window x2 ol S1x1x1x512.size hl) (ix2 a b) = cR (o.p i 0 a b) := hP_at _ _ _ _ _ _ Q (kv0_at H.k) L
  have P' : ∀ a b, hP (window x0 oq' S1x512x128.size hq') (kv1 x3) (window x2 ol' S1x1x1x512.size hl') (ix2 a b) = cR (o.p i 1 a b) := hP_at _ _ _ _ _ _ Q' (kv1_at H.k) L'
  have Z : ∀ a b, hS _ (kv0 x5) (window x1 oq S1x512x128.size hq) (ix2 a b) = cR (o.z i (o.p i) 0 a b) := hS_at _ _ _ _ _ _ P (vv0_at H.v) G
  have Z' : ∀ a b, hS _ (kv1 x5) (window x1 oq' S1x512x128.size hq') (ix2 a b) = cR (o.z i (o.p i) 1 a b) := hS_at _ _ _ _ _ _ P' (vv1_at H.v) G'
  refine ⟨hAcc_at _ _ _ _ _ _ hs.a0 Z Q, hAcc_at _ _ _ _ _ _ hs.b0 P G, hCol_at _ _ _ _ hs.c0 Z, hAcc_at _ _ _ _ _ _ hs.a1 Z' Q', hAcc_at _ _ _ _ _ _ hs.b1 P' G', hCol_at _ _ _ _ hs.c1 Z', ?_, ?_⟩
  · exact acc_holds (N := 128) s.2.1 r.D hs.de.d i od od' ed ed' _ _ (fun h x b => ∑ a, o.t h x a * o.z i (o.p i) h a b)
      (hD_at _ _ _ _ _ _ (fun x b => (win_acc (N := 128) s.2.1 0 i od ed hd x b).trans (hs.de.d 0 i x b)) (kt0_at H.t) Z)
      (hD_at _ _ _ _ _ _ (fun x b => (win_acc (N := 128) _ 1 i od' ed' hd' x b).trans ((put_acc s.2.1 0 i od ed _ 1 i x b).trans ((if_neg (fun hc => absurd hc.1 (by decide))).trans (hs.de.d 1 i x b)))) (kt1_at H.t) Z')
  · exact acc_holds (N := 8) s.2.2 r.E hs.de.e i oe oe' ee ee' _ _ (fun h x b => ∑ u : Fin 64, o.z i (o.p i) h ⟨u.val * 8 + x.val, by omega⟩ b)
      (hE_at _ _ _ _ (fun x b => (win_acc (N := 8) s.2.2 0 i oe ee he x b).trans (hs.de.e 0 i x b)) Z)
      (hE_at _ _ _ _ (fun x b => (win_acc (N := 8) _ 1 i oe' ee' he' x b).trans ((put_acc s.2.2 0 i oe ee _ 1 i x b).trans ((if_neg (fun hc => absurd hc.1 (by decide))).trans (hs.de.e 1 i x b)))) Z')

include H eq eq' el el' ed ed' ee ee' in
/-- The diagonal query block: the carried sums begin, the accumulators gain its contribution. -/
theorem mstep_holds (D : Vec Ideal S2x16x128x512 .f32) (E : Vec Ideal S2x16x8x512 .f32) (r : RSt) (hs : HoldsDE D E r) :
    Holds (mstep x0 x1 x2 x3 x4 x5 oq oq' ol ol' od od' oe oe' hq hq' hl hl' hd hd' he he' D E) (radd o i (o.pm i) (rzero r)) := by
  rw [mstep_eq]
  have Q : ∀ b x, window x0 oq S1x512x128.size hq (ix3 0 b x) = cR (o.q 0 (rowOf i b) x) := fun b x => (win_rows x0 0 i oq eq hq b x).trans (H.q 0 _ x)
  have Q' : ∀ b x, window x0 oq' S1x512x128.size hq' (ix3 0 b x) = cR (o.q 1 (rowOf i b) x) := fun b x => (win_rows x0 1 i oq' eq' hq' b x).trans (H.q 1 _ x)
  have G : ∀ b x, window x1 oq S1x512x128.size hq (ix3 0 b x) = cR (o.g 0 (rowOf i b) x) := fun b x => (win_rows x1 0 i oq eq hq b x).trans (H.g 0 _ x)
  have G' : ∀ b x, window x1 oq' S1x512x128.size hq' (ix3 0 b x) = cR (o.g 1 (rowOf i b) x) := fun b x => (win_rows x1 1 i oq' eq' hq' b x).trans (H.g 1 _ x)
  have L : ∀ b, window x2 ol S1x1x1x512.size hl (ix4 0 0 0 b) = cR (o.l 0 i b) := fun b => (win_l x2 0 i ol el hl b).trans (H.l0 i b)
  have L' : ∀ b, window x2 ol' S1x1x1x512.size hl' (ix4 0 0 0 b) = cR (o.l 1 i b) := fun b => (win_l x2 1 i ol' el' hl' b).trans (H.l1 i b)
  have P : ∀ a b, hPm (window x0 oq S1x512x128.size hq) (kv0 x3) (window x2 ol S1x1x1x512.size hl) (ix2 a b) = cR (o.pm i 0 a b) := hPm_at _ _ _ _ _ _ Q (kv0_at H.k) L
  have P' : ∀ a b, hPm (window x0 oq' S1x512x128.size hq') (kv1 x3) (window x2 ol' S1x1x1x512.size hl') (ix2 a b) = cR (o.pm i 1 a b) := hPm_at _ _ _ _ _ _ Q' (kv1_at H.k) L'
  have Z : ∀ a b, hS _ (kv0 x5) (window x1 oq S1x512x128.size hq) (ix2 a b) = cR (o.z i (o.pm i) 0 a b) := hS_at _ _ _ _ _ _ P (vv0_at H.v) G
  have Z' : ∀ a b, hS _ (kv1 x5) (window x1 oq' S1x512x128.size hq') (ix2 a b) = cR (o.z i (o.pm i) 1 a b) := hS_at _ _ _ _ _ _ P' (vv1_at H.v) G'
  refine ⟨hAcc_at _ _ _ _ _ _ zero128 Z Q, hAcc_at _ _ _ _ _ _ zero128 P G, hCol_at _ _ _ _ zero128 Z, hAcc_at _ _ _ _ _ _ zero128 Z' Q', hAcc_at _ _ _ _ _ _ zero128 P' G', hCol_at _ _ _ _ zero128 Z', ?_, ?_⟩
  · exact acc_holds (N := 128) D r.D hs.d i od od' ed ed' _ _ (fun h x b => ∑ a, o.t h x a * o.z i (o.pm i) h a b)
      (hD_at _ _ _ _ _ _ (fun x b => (win_acc (N := 128) D 0 i od ed hd x b).trans (hs.d 0 i x b)) (kt0_at H.t) Z)
      (hD_at _ _ _ _ _ _ (fun x b => (win_acc (N := 128) D 1 i od' ed' hd' x b).trans (hs.d 1 i x b)) (kt1_at H.t) Z')
  · exact acc_holds (N := 8) E r.E hs.e i oe oe' ee ee' _ _ (fun h x b => ∑ u : Fin 64, o.z i (o.pm i) h ⟨u.val * 8 + x.val, by omega⟩ b)
      (hE_at _ _ _ _ (fun x b => (win_acc (N := 8) E 0 i oe ee he x b).trans (hs.e 0 i x b)) Z)
      (hE_at _ _ _ _ (fun x b => (win_acc (N := 8) _ 1 i oe' ee' he' x b).trans (hs.e 1 i x b)) Z')

end Step

end Cert.Kernel.Hand

end
-- ==== Proof.ValueA.lean ====
/- The body run at the grid points where it clears the query-side accumulators (the first key block), with what it leaves named. -/
module

public import proofs.«01_k».proof.Proof.Body
public import Idealize.ShloMosaic.Lib.VecWindow

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

set_option maxHeartbeats 4000000 in
/-- The body's triple where it clears the query-side accumulators (the first key block): each output buffer is left at the body's function of the input blocks. -/
theorem valueRun0_A (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : cond0_0 i)
    (x0 x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (k0_hw1 : k0_chk1 i (tbM0_0.view.readAt (Elt F) (Rect.unit (s := S64) (k0_off9 i) S1.size (k0_off9_inb i)).toLoadRect xt0 (Shape.Idx.first (numel1_S1.symm ▸ Nat.one_pos))))
    (ht2 : (k0_t2_loop i (tbM0_0.view.readAt (Elt F) (Rect.unit (s := S64) (k0_off9 i) S1.size (k0_off9_inb i)).toLoadRect xt0 (Shape.Idx.first (numel1_S1.symm ▸ Nat.one_pos)))).trips = 0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay77 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.2.2.2.1) ∗ owns (c : Thread nD τ) arg10 fullShare (k0_pay78 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.2.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.2.2.2.2.1) ∗ owns (c : Thread nD τ) arg11 fullShare (k0_pay1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.2.2.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).1.2.2.2.2.2) ∗ owns (c : Thread nD τ) arg12 fullShare (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).2.1 ∗ owns (c : Thread nD τ) arg13 fullShare (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 k0_pay48 k0_pay49).2.2 ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, HT0, Hk⟩
    sl_exec (disch := first | sl_exact hc0 | sl_exact k0_hw1)
    sl_step
    iapply Hk
    have e2 := @full2 F _
    have e8 := @full8 F _
    have e12 := @full12 F _
    have e13 := @full13 F _
    have a12 := @apart12 F _
    have a13 := @apart13 F _
    dsimp only at e2 e8 e12 e13 a12 a13
    have ht2' : Scf.trips (k0_t2_loop i (tbM0_0.view.readAt (Elt F) (Rect.unit (s := S64) (k0_off9 i) S1.size (k0_off9_inb i)).toLoadRect xt0 (Shape.Idx.first (numel1_S1.symm ▸ Nat.one_pos)))).lb (k0_t2_loop i (tbM0_0.view.readAt (Elt F) (Rect.unit (s := S64) (k0_off9 i) S1.size (k0_off9_inb i)).toLoadRect xt0 (Shape.Idx.first (numel1_S1.symm ▸ Nat.one_pos)))).ub (k0_t2_loop i (tbM0_0.view.readAt (Elt F) (Rect.unit (s := S64) (k0_off9 i) S1.size (k0_off9_inb i)).toLoadRect xt0 (Shape.Idx.first (numel1_S1.symm ▸ Nat.one_pos)))).st = 0 := ht2
    simp only [readAt_win] at ht2'
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H7]
    · iexists _; isplitr; swap; · iexact H7
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H8]
    · iexists _; isplitr; swap; · iexact H8
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H9]
    · iexists _; isplitr; swap; · iexact H9
      ipureintro
      sl_unfold_run_names
      simp only [View.writes_nil, readAt_win, read_put, e2, e8, e12, e13, a12, a13, *]
      simp only [ht2', st_k0_t2, View.writes_nil, readAt_win, read_put, e2, e8, e12, e13, a12, a13, *]
      sl_unfold_run_names
      simp only [View.writes_nil, readAt_win, read_put, e2, e8, e12, e13, a12, a13, *]
      rfl
    isplitl [H10]
    · iexists _; isplitr; swap; · iexact H10
      ipureintro
      sl_unfold_run_names
      simp only [View.writes_nil, readAt_win, read_put, e2, e8, e12, e13, a12, a13, *]
      simp only [ht2', st_k0_t2, View.writes_nil, readAt_win, read_put, e2, e8, e12, e13, a12, a13, *]
      sl_unfold_run_names
      simp only [View.writes_nil, readAt_win, read_put, e2, e8, e12, e13, a12, a13, *]
      rfl
    iexact HT0

/-- The same with the word that the body reads of the table given by name. -/
theorem valueRun0_A_at (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : cond0_0 i)
    (x0 x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (w : BitVec 32) (hw : (tbM0_0.view.readAt (Elt F) (Rect.unit (s := S64) (k0_off9 i) S1.size (k0_off9_inb i)).toLoadRect xt0 (Shape.Idx.first (numel1_S1.symm ▸ Nat.one_pos))) = w) (k0_hw1 : k0_chk1 i w)
    (ht2 : (k0_t2_loop i w).trips = 0) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay77 (bodyR x0 x1 x2 x3 x4 x5 i w k0_hw1 k0_pay48 k0_pay49).1.1 (bodyR x0 x1 x2 x3 x4 x5 i w k0_hw1 k0_pay48 k0_pay49).1.2.2.2.1) ∗ owns (c : Thread nD τ) arg10 fullShare (k0_pay78 (bodyR x0 x1 x2 x3 x4 x5 i w k0_hw1 k0_pay48 k0_pay49).1.2.1 (bodyR x0 x1 x2 x3 x4 x5 i w k0_hw1 k0_pay48 k0_pay49).1.2.2.2.2.1) ∗ owns (c : Thread nD τ) arg11 fullShare (k0_pay1 (bodyR x0 x1 x2 x3 x4 x5 i w k0_hw1 k0_pay48 k0_pay49).1.2.2.1 (bodyR x0 x1 x2 x3 x4 x5 i w k0_hw1 k0_pay48 k0_pay49).1.2.2.2.2.2) ∗ owns (c : Thread nD τ) arg12 fullShare (bodyR x0 x1 x2 x3 x4 x5 i w k0_hw1 k0_pay48 k0_pay49).2.1 ∗ owns (c : Thread nD τ) arg13 fullShare (bodyR x0 x1 x2 x3 x4 x5 i w k0_hw1 k0_pay48 k0_pay49).2.2 ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    subst hw
    exact valueRun0_A c i arg3 harg3 arg4 harg4 arg5 harg5 arg6 harg6 arg7 harg7 arg8 harg8 arg9 harg9 arg10 harg10 arg11 harg11 arg12 harg12 arg13 harg13 hc0 x0 x1 x2 x3 x4 x5 xt0 k0_hw1 ht2 E K

end Cert.Kernel.Hand

end
-- ==== Proof.ValueB.lean ====
/- The body run at the grid points where it adds to the query-side accumulators, with what it leaves named. -/
module

public import proofs.«01_k».proof.Proof.Body
public import Idealize.ShloMosaic.Lib.VecWindow

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

set_option maxHeartbeats 4000000 in
/-- The body's triple where it adds to the query-side accumulators: each output buffer is left at the body's function of the input blocks. -/
theorem valueRun0_B (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : ¬cond0_0 i)
    (x0 x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (k0_hw1 : k0_chk1 i (tbM0_0.view.readAt (Elt F) (Rect.unit (s := S64) (k0_off9 i) S1.size (k0_off9_inb i)).toLoadRect xt0 (Shape.Idx.first (numel1_S1.symm ▸ Nat.one_pos)))) (xd : Vec F S2x16x128x512 .f32) (xe : Vec F S2x16x8x512 .f32)
    (ht2 : (k0_t2_loop i (tbM0_0.view.readAt (Elt F) (Rect.unit (s := S64) (k0_off9 i) S1.size (k0_off9_inb i)).toLoadRect xt0 (Shape.Idx.first (numel1_S1.symm ▸ Nat.one_pos)))).trips = 0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xd ∗ owns (c : Thread nD τ) arg13 fullShare xe ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay77 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.2.2.2.1) ∗ owns (c : Thread nD τ) arg10 fullShare (k0_pay78 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.2.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.2.2.2.2.1) ∗ owns (c : Thread nD τ) arg11 fullShare (k0_pay1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.2.2.1 (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).1.2.2.2.2.2) ∗ owns (c : Thread nD τ) arg12 fullShare (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).2.1 ∗ owns (c : Thread nD τ) arg13 fullShare (bodyR x0 x1 x2 x3 x4 x5 i (tbM0_0.view.readAt (Elt F) (Rect.unit (s := S64) (k0_off9 i) S1.size (k0_off9_inb i)).toLoadRect xt0 (Shape.Idx.first (numel1_S1.symm ▸ Nat.one_pos))) k0_hw1 xd xe).2.2 ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, HT0, Hk⟩
    sl_exec (disch := first | sl_exact hc0 | sl_exact k0_hw1)
    sl_step
    iapply Hk
    have e2 := @full2 F _
    have e8 := @full8 F _
    have e12 := @full12 F _
    have e13 := @full13 F _
    have a12 := @apart12 F _
    have a13 := @apart13 F _
    dsimp only at e2 e8 e12 e13 a12 a13
    have ht2' : Scf.trips (k0_t2_loop i (tbM0_0.view.readAt (Elt F) (Rect.unit (s := S64) (k0_off9 i) S1.size (k0_off9_inb i)).toLoadRect xt0 (Shape.Idx.first (numel1_S1.symm ▸ Nat.one_pos)))).lb (k0_t2_loop i (tbM0_0.view.readAt (Elt F) (Rect.unit (s := S64) (k0_off9 i) S1.size (k0_off9_inb i)).toLoadRect xt0 (Shape.Idx.first (numel1_S1.symm ▸ Nat.one_pos)))).ub (k0_t2_loop i (tbM0_0.view.readAt (Elt F) (Rect.unit (s := S64) (k0_off9 i) S1.size (k0_off9_inb i)).toLoadRect xt0 (Shape.Idx.first (numel1_S1.symm ▸ Nat.one_pos)))).st = 0 := ht2
    simp only [readAt_win] at ht2'
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H7]
    · iexists _; isplitr; swap; · iexact H7
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H8]
    · iexists _; isplitr; swap; · iexact H8
      ipureintro
      sl_unfold_run_names
      simp only [View.writes_nil, readAt_win, read_put, e2, e8, e12, e13, a12, a13, *]
      simp only [ht2', st_k0_t2, View.writes_nil, readAt_win, read_put, e2, e8, e12, e13, a12, a13, *]
      rfl
    isplitl [H9]
    · iexists _; isplitr; swap; · iexact H9
      ipureintro
      sl_unfold_run_names
      simp only [View.writes_nil, readAt_win, read_put, e2, e8, e12, e13, a12, a13, *]
      simp only [ht2', st_k0_t2, View.writes_nil, readAt_win, read_put, e2, e8, e12, e13, a12, a13, *]
      sl_unfold_run_names
      simp only [View.writes_nil, readAt_win, read_put, e2, e8, e12, e13, a12, a13, *]
      rfl
    isplitl [H10]
    · iexists _; isplitr; swap; · iexact H10
      ipureintro
      sl_unfold_run_names
      simp only [View.writes_nil, readAt_win, read_put, e2, e8, e12, e13, a12, a13, *]
      simp only [ht2', st_k0_t2, View.writes_nil, readAt_win, read_put, e2, e8, e12, e13, a12, a13, *]
      sl_unfold_run_names
      simp only [View.writes_nil, readAt_win, read_put, e2, e8, e12, e13, a12, a13, *]
      rfl
    iexact HT0

/-- The same with the word that the body reads of the table given by name. -/
theorem valueRun0_B_at (c : Dev nD) (i : grid0.Coords) (arg3 : Memref sig .tc .vmem S2x8192x128 .bf16) (harg3 : arg3.IsWhole) (arg4 : Memref sig .tc .vmem S2x8192x128 .bf16) (harg4 : arg4.IsWhole) (arg5 : Memref sig .tc .vmem S1x16x8x512 .f32) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x8x512 .f32) (harg11 : arg11.IsWhole) (arg12 : Memref sig .tc .vmem S2x16x128x512 .f32) (harg12 : arg12.IsWhole) (arg13 : Memref sig .tc .vmem S2x16x8x512 .f32) (harg13 : arg13.IsWhole) (hc0 : ¬cond0_0 i)
    (x0 x1 : Vec F S2x8192x128 .bf16) (x2 : Vec F S1x16x8x512 .f32) (x3 : Vec F S2x512x128 .bf16) (x4 : Vec F S2x1x128x512 .bf16) (x5 : Vec F S2x512x128 .bf16) (xt0 : TbBuf0 (F := F) c tbM0_0) (w : BitVec 32) (hw : (tbM0_0.view.readAt (Elt F) (Rect.unit (s := S64) (k0_off9 i) S1.size (k0_off9_inb i)).toLoadRect xt0 (Shape.Idx.first (numel1_S1.symm ▸ Nat.one_pos))) = w) (k0_hw1 : k0_chk1 i w) (xd : Vec F S2x16x128x512 .f32) (xe : Vec F S2x16x8x512 .f32)
    (ht2 : (k0_t2_loop i w).trips = 0) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xd ∗ owns (c : Thread nD τ) arg13 fullShare xe ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay77 (bodyR x0 x1 x2 x3 x4 x5 i w k0_hw1 xd xe).1.1 (bodyR x0 x1 x2 x3 x4 x5 i w k0_hw1 xd xe).1.2.2.2.1) ∗ owns (c : Thread nD τ) arg10 fullShare (k0_pay78 (bodyR x0 x1 x2 x3 x4 x5 i w k0_hw1 xd xe).1.2.1 (bodyR x0 x1 x2 x3 x4 x5 i w k0_hw1 xd xe).1.2.2.2.2.1) ∗ owns (c : Thread nD τ) arg11 fullShare (k0_pay1 (bodyR x0 x1 x2 x3 x4 x5 i w k0_hw1 xd xe).1.2.2.1 (bodyR x0 x1 x2 x3 x4 x5 i w k0_hw1 xd xe).1.2.2.2.2.2) ∗ owns (c : Thread nD τ) arg12 fullShare (bodyR x0 x1 x2 x3 x4 x5 i w k0_hw1 xd xe).2.1 ∗ owns (c : Thread nD τ) arg13 fullShare (bodyR x0 x1 x2 x3 x4 x5 i w k0_hw1 xd xe).2.2 ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11 arg12 harg12 arg13 harg13) K := by
    subst hw
    exact valueRun0_B c i arg3 harg3 arg4 harg4 arg5 harg5 arg6 harg6 arg7 harg7 arg8 harg8 arg9 harg9 arg10 harg10 arg11 harg11 arg12 harg12 arg13 harg13 hc0 x0 x1 x2 x3 x4 x5 xt0 k0_hw1 xd xe ht2 E K

end Cert.Kernel.Hand

end
-- ==== Proof.ValueRun.lean ====
/- The run of the whole program with its results named: what each grid point leaves in the outputs' blocks, and the launch. -/
module

public import proofs.«01_k».proof.Proof.ValueA
public import proofs.«01_k».proof.Proof.ValueB
public import proofs.«01_k».proof.Proof.Table

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word that the body reads of the table. -/
theorem word_eq (t : Fin grid0.N) : (tbM0_0.view.readAt (Elt F) (Rect.unit (s := S64) (k0_off9 (grid0.coords t)) S1.size (k0_off9_inb (grid0.coords t))).toLoadRect (tbl m 0) (Shape.Idx.first (numel1_S1.symm ▸ Nat.one_pos))) = 15#32 := by
  rw [tbl_eq]; rfl

/-- With that word the second loop makes no trip. -/
theorem trips2 : ∀ t : Fin grid0.N, (k0_t2_loop (grid0.coords t) 15#32).trips = 0 := by decide +kernel

theorem trips2_word (t : Fin grid0.N) : (k0_t2_loop (grid0.coords t) (tbM0_0.view.readAt (Elt F) (Rect.unit (s := S64) (k0_off9 (grid0.coords t)) S1.size (k0_off9_inb (grid0.coords t))).toLoadRect (tbl m 0) (Shape.Idx.first (numel1_S1.symm ▸ Nat.one_pos)))).trips = 0 := by
  rw [word_eq m t]; exact trips2 t

theorem bodyR_word (x0 x1 : Vec F S2x8192x128 .bf16) (x2 : Vec F S1x16x8x512 .f32) (x3 : Vec F S2x512x128 .bf16) (x4 : Vec F S2x1x128x512 .bf16) (x5 : Vec F S2x512x128 .bf16)
    (i : grid0.Coords) {w w' : BitVec 32} (e : w = w') (hw : k0_chk1 i w) (hw' : k0_chk1 i w') (D : Vec F S2x16x128x512 .f32) (E : Vec F S2x16x8x512 .f32) :
    bodyR x0 x1 x2 x3 x4 x5 i w hw D E = bodyR x0 x1 x2 x3 x4 x5 i w' hw' D E := by
  subst e; rfl

/-- What the body makes of its blocks at point `t`, from the contents `D`, `E` of the two accumulators. -/
def ptR (c : Dev nD) (t : Fin (cfgM m (ok m)).N) (D : Vec F S2x16x128x512 .f32) (E : Vec F S2x16x8x512 .f32) : St F :=
  bodyR (iblk m (ok m) c 0 t) (iblk m (ok m) c 1 t) (iblk m (ok m) c 2 t) (iblk m (ok m) c 3 t) (iblk m (ok m) c 4 t) (iblk m (ok m) c 5 t) (grid0.coords t) 15#32 (chk_15 t) D E

/-- The carried sums and the accumulators after point `n`: the accumulators restart at every sixteenth point. -/
def stAt (c : Dev nD) : (n : ℕ) → n < (cfgM m (ok m)).N → St F
  | 0, h => ptR m c ⟨0, h⟩ k0_pay48 k0_pay49
  | n + 1, h => if (n + 1) % 16 = 0 then ptR m c ⟨n + 1, h⟩ k0_pay48 k0_pay49
      else ptR m c ⟨n + 1, h⟩ (stAt c n (Nat.lt_of_succ_lt h)).2.1 (stAt c n (Nat.lt_of_succ_lt h)).2.2

theorem stAt_reset (c : Dev nD) (t : Fin (cfgM m (ok m)).N) (h : t.val % 16 = 0) : stAt m c t.val t.isLt = ptR m c t k0_pay48 k0_pay49 := by
  obtain ⟨n, hn⟩ := t
  cases n with
  | zero => rfl
  | succ n => exact if_pos h

theorem stAt_acc (c : Dev nD) (t : Fin (cfgM m (ok m)).N) (h : ¬ t.val % 16 = 0) :
    stAt m c t.val t.isLt = ptR m c t (stAt m c (t.val - 1) (Nat.lt_of_le_of_lt (Nat.sub_le _ _) t.isLt)).2.1 (stAt m c (t.val - 1) (Nat.lt_of_le_of_lt (Nat.sub_le _ _) t.isLt)).2.2 := by
  obtain ⟨n, hn⟩ := t
  cases n with
  | zero => exact absurd rfl h
  | succ n => exact if_neg h

/-- The proof data with every output named: the inputs' buffers at their blocks, the outputs' at the body's functions of them. -/
def vdats (_ : Fin 1) (c : Dev nD) : Dat τ (Elt F) Unit ℕ (UR sig nD τ) ℕ (cfgM m (ok m)) c where
  A w := V m c (Pipeline.arrRef spec0 w)
  after w t := match w with
    | ⟨0, _⟩ => iblk m (ok m) c 0 t
    | ⟨1, _⟩ => iblk m (ok m) c 1 t
    | ⟨2, _⟩ => iblk m (ok m) c 2 t
    | ⟨3, _⟩ => iblk m (ok m) c 3 t
    | ⟨4, _⟩ => iblk m (ok m) c 4 t
    | ⟨5, _⟩ => iblk m (ok m) c 5 t
    | ⟨6, _⟩ => (k0_pay77 (stAt m c t.val t.isLt).1.1 (stAt m c t.val t.isLt).1.2.2.2.1 : Vec F S512x128 .bf16)
    | ⟨7, _⟩ => (k0_pay78 (stAt m c t.val t.isLt).1.2.1 (stAt m c t.val t.isLt).1.2.2.2.2.1 : Vec F S512x128 .bf16)
    | ⟨8, _⟩ => (k0_pay1 (stAt m c t.val t.isLt).1.2.2.1 (stAt m c t.val t.isLt).1.2.2.2.2.2 : Vec F S1x1x8x512 .f32)
    | ⟨9, _⟩ => ((stAt m c t.val t.isLt).2.1 : Vec F S2x16x128x512 .f32)
    | ⟨10, _⟩ => ((stAt m c t.val t.isLt).2.2 : Vec F S2x16x8x512 .f32)
  Φ _ := iprop(Pipeline.ΦA spec0 c ∗ Pipeline.ΦT pre0 (tbl m) c)
  q _ := fullShare
  owed _ := 0

theorem vA_eq (c : Dev nD) (w : Fin (cfgM m (ok m)).W) : (vdats m 0 c).A w = V m c (Pipeline.arrRef spec0 w) := by
  dsimp only [vdats]

theorem vafter0_0 (c : Dev nD) (t : Fin (cfgM m (ok m)).N) : (vdats m 0 c).after 0 t = iblk m (ok m) c 0 t := by dsimp only [vdats]; try rfl
theorem vafter0_1 (c : Dev nD) (t : Fin (cfgM m (ok m)).N) : (vdats m 0 c).after 1 t = iblk m (ok m) c 1 t := by dsimp only [vdats]; try rfl
theorem vafter0_2 (c : Dev nD) (t : Fin (cfgM m (ok m)).N) : (vdats m 0 c).after 2 t = iblk m (ok m) c 2 t := by dsimp only [vdats]; try rfl
theorem vafter0_3 (c : Dev nD) (t : Fin (cfgM m (ok m)).N) : (vdats m 0 c).after 3 t = iblk m (ok m) c 3 t := by dsimp only [vdats]; try rfl
theorem vafter0_4 (c : Dev nD) (t : Fin (cfgM m (ok m)).N) : (vdats m 0 c).after 4 t = iblk m (ok m) c 4 t := by dsimp only [vdats]; try rfl
theorem vafter0_5 (c : Dev nD) (t : Fin (cfgM m (ok m)).N) : (vdats m 0 c).after 5 t = iblk m (ok m) c 5 t := by dsimp only [vdats]; try rfl
theorem vafter0_6 (c : Dev nD) (t : Fin (cfgM m (ok m)).N) : (vdats m 0 c).after 6 t = (k0_pay77 (stAt m c t.val t.isLt).1.1 (stAt m c t.val t.isLt).1.2.2.2.1 : Vec F S512x128 .bf16) := by dsimp only [vdats]; try rfl
theorem vafter0_7 (c : Dev nD) (t : Fin (cfgM m (ok m)).N) : (vdats m 0 c).after 7 t = (k0_pay78 (stAt m c t.val t.isLt).1.2.1 (stAt m c t.val t.isLt).1.2.2.2.2.1 : Vec F S512x128 .bf16) := by dsimp only [vdats]; try rfl
theorem vafter0_8 (c : Dev nD) (t : Fin (cfgM m (ok m)).N) : (vdats m 0 c).after 8 t = (k0_pay1 (stAt m c t.val t.isLt).1.2.2.1 (stAt m c t.val t.isLt).1.2.2.2.2.2 : Vec F S1x1x8x512 .f32) := by dsimp only [vdats]; try rfl
theorem vafter0_9 (c : Dev nD) (t : Fin (cfgM m (ok m)).N) : (vdats m 0 c).after 9 t = ((stAt m c t.val t.isLt).2.1 : Vec F S2x16x128x512 .f32) := by dsimp only [vdats]; try rfl
theorem vafter0_10 (c : Dev nD) (t : Fin (cfgM m (ok m)).N) : (vdats m 0 c).after 10 t = ((stAt m c t.val t.isLt).2.2 : Vec F S2x16x8x512 .f32) := by dsimp only [vdats]; try rfl

theorem vbefore0_0 (c : Dev nD) (t : Fin (cfgM m (ok m)).N) (d) : (vdats m 0 c).before 0 t d = iblk m (ok m) c 0 t :=
  before0_0_of m (ok m) (vdats m 0 c) (vA_eq m c 0) (vafter0_0 m c) t d
theorem vbefore0_1 (c : Dev nD) (t : Fin (cfgM m (ok m)).N) (d) : (vdats m 0 c).before 1 t d = iblk m (ok m) c 1 t :=
  before0_1_of m (ok m) (vdats m 0 c) (vA_eq m c 1) (vafter0_1 m c) t d
theorem vbefore0_2 (c : Dev nD) (t : Fin (cfgM m (ok m)).N) (d) : (vdats m 0 c).before 2 t d = iblk m (ok m) c 2 t :=
  before0_2_of m (ok m) (vdats m 0 c) (vA_eq m c 2) (vafter0_2 m c) t d
theorem vbefore0_3 (c : Dev nD) (t : Fin (cfgM m (ok m)).N) (d) : (vdats m 0 c).before 3 t d = iblk m (ok m) c 3 t :=
  before0_3_of m (ok m) (vdats m 0 c) (vA_eq m c 3) (vafter0_3 m c) t d
theorem vbefore0_4 (c : Dev nD) (t : Fin (cfgM m (ok m)).N) (d) : (vdats m 0 c).before 4 t d = iblk m (ok m) c 4 t :=
  before0_4_of m (ok m) (vdats m 0 c) (vA_eq m c 4) (vafter0_4 m c) t d
theorem vbefore0_5 (c : Dev nD) (t : Fin (cfgM m (ok m)).N) (d) : (vdats m 0 c).before 5 t d = iblk m (ok m) c 5 t :=
  before0_5_of m (ok m) (vdats m 0 c) (vA_eq m c 5) (vafter0_5 m c) t d
/-- Past a restart the accumulator holds what the point before left. -/
theorem vbefore0_9 (c : Dev nD) (t : Fin (cfgM m (ok m)).N) (h : ¬ t.val % 16 = 0) (d) :
    (vdats m 0 c).before 9 t d = (stAt m c (t.val - 1) (Nat.lt_of_le_of_lt (Nat.sub_le _ _) t.isLt)).2.1 :=
  ((vdats m 0 c).before_out_kept 9 rfl t (fun h0 => h (by rw [h0])) (Bool.eq_false_iff.mpr fun hf => by
    have h1 := (flush0_9 (adm m (ok m)) _).mp hf
    dsimp only at h1
    omega) (fun _ => rfl) (fun _ _ => rfl) d).trans (vafter0_9 m c _)
/-- Past a restart the accumulator holds what the point before left. -/
theorem vbefore0_10 (c : Dev nD) (t : Fin (cfgM m (ok m)).N) (h : ¬ t.val % 16 = 0) (d) :
    (vdats m 0 c).before 10 t d = (stAt m c (t.val - 1) (Nat.lt_of_le_of_lt (Nat.sub_le _ _) t.isLt)).2.2 :=
  ((vdats m 0 c).before_out_kept 10 rfl t (fun h0 => h (by rw [h0])) (Bool.eq_false_iff.mpr fun hf => by
    have h1 := (flush0_10 (adm m (ok m)) _).mp hf
    dsimp only at h1
    omega) (fun _ => rfl) (fun _ _ => rfl) d).trans (vafter0_10 m c _)

/-- What the body is called with at point `t`, -/
def vbodyPre (c : Dev nD) (t : Fin (cfgM m (ok m)).N) : sProp 𝕄 :=
  iprop((vdats m 0 c).Φ t.castSucc ∗ (vdats m 0 c).owesAt () t.castSucc
    ∗ (∃ d, owns (c : Thread nD τ) (ms0_0 m (ok m) t) fullShare ((vdats m 0 c).before 0 t d))
    ∗ (∃ d, owns (c : Thread nD τ) (ms0_1 m (ok m) t) fullShare ((vdats m 0 c).before 1 t d))
    ∗ (∃ d, owns (c : Thread nD τ) (ms0_2 m (ok m) t) fullShare ((vdats m 0 c).before 2 t d))
    ∗ (∃ d, owns (c : Thread nD τ) (ms0_3 m (ok m) t) fullShare ((vdats m 0 c).before 3 t d))
    ∗ (∃ d, owns (c : Thread nD τ) (ms0_4 m (ok m) t) fullShare ((vdats m 0 c).before 4 t d))
    ∗ (∃ d, owns (c : Thread nD τ) (ms0_5 m (ok m) t) fullShare ((vdats m 0 c).before 5 t d))
    ∗ (∃ d, owns (c : Thread nD τ) (ms0_6 m (ok m) t) fullShare ((vdats m 0 c).before 6 t d))
    ∗ (∃ d, owns (c : Thread nD τ) (ms0_7 m (ok m) t) fullShare ((vdats m 0 c).before 7 t d))
    ∗ (∃ d, owns (c : Thread nD τ) (ms0_8 m (ok m) t) fullShare ((vdats m 0 c).before 8 t d))
    ∗ (∃ d, owns (c : Thread nD τ) (ms0_9 m (ok m) t) fullShare ((vdats m 0 c).before 9 t d))
    ∗ (∃ d, owns (c : Thread nD τ) (ms0_10 m (ok m) t) fullShare ((vdats m 0 c).before 10 t d)))

/-- and what it returns. -/
def vbodyPost (c : Dev nD) (t : Fin (cfgM m (ok m)).N) : sProp 𝕄 :=
  iprop((vdats m 0 c).Φ t.succ ∗ (vdats m 0 c).owesAt () t.succ
    ∗ owns (c : Thread nD τ) (ms0_0 m (ok m) t) fullShare ((vdats m 0 c).after 0 t)
    ∗ owns (c : Thread nD τ) (ms0_1 m (ok m) t) fullShare ((vdats m 0 c).after 1 t)
    ∗ owns (c : Thread nD τ) (ms0_2 m (ok m) t) fullShare ((vdats m 0 c).after 2 t)
    ∗ owns (c : Thread nD τ) (ms0_3 m (ok m) t) fullShare ((vdats m 0 c).after 3 t)
    ∗ owns (c : Thread nD τ) (ms0_4 m (ok m) t) fullShare ((vdats m 0 c).after 4 t)
    ∗ owns (c : Thread nD τ) (ms0_5 m (ok m) t) fullShare ((vdats m 0 c).after 5 t)
    ∗ owns (c : Thread nD τ) (ms0_6 m (ok m) t) fullShare ((vdats m 0 c).after 6 t)
    ∗ owns (c : Thread nD τ) (ms0_7 m (ok m) t) fullShare ((vdats m 0 c).after 7 t)
    ∗ owns (c : Thread nD τ) (ms0_8 m (ok m) t) fullShare ((vdats m 0 c).after 8 t)
    ∗ owns (c : Thread nD τ) (ms0_9 m (ok m) t) fullShare ((vdats m 0 c).after 9 t)
    ∗ owns (c : Thread nD τ) (ms0_10 m (ok m) t) fullShare ((vdats m 0 c).after 10 t))

set_option maxHeartbeats 1600000 in
/-- The body at any point: it restarts the accumulators or adds to what the point before left in them. -/
theorem vsound_body (c : Dev nD) (t : Fin (cfgM m (ok m)).N) :
    vbodyPre m c t ⊢ wp frame (wpE (defs₀ (F := F)) Variants.none c none) Set.univ (bodyAt0 (adm m (ok m)) t) (fun _ => vbodyPost m c t) := by
  unfold vbodyPre vbodyPost bodyAt0
  simp only [vbefore0_0, vbefore0_1, vbefore0_2, vbefore0_3, vbefore0_4, vbefore0_5]
  rw [show (vdats m 0 c).Φ t.succ = (vdats m 0 c).Φ t.castSucc from rfl,
    show (vdats m 0 c).owesAt () t.succ = (vdats m 0 c).owesAt () t.castSucc from rfl,
    vafter0_0, vafter0_1, vafter0_2, vafter0_3, vafter0_4, vafter0_5, vafter0_6, vafter0_7, vafter0_8, vafter0_9, vafter0_10]
  rw [show (vdats m 0 c).Φ t.castSucc = iprop(Pipeline.ΦA spec0 c ∗ Pipeline.ΦT pre0 (tbl m) c) from rfl, PhiT0_eq]
  have hN : t.val < 64 := lt_of_lt_of_eq t.isLt (show (cfgM m (ok m)).N = 64 from N_0)
  by_cases h0 : t.val % 16 = 0
  · rw [stAt_reset m c t h0]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (valueRun0_A_at c (grid0.coords t) _ _ _ _ _ _ _ _ _ _ _ _ _ _ _ _ _ _ _ _ _ _ ((hcond0_0 t).mpr h0) (iblk m (ok m) c 0 t) (iblk m (ok m) c 1 t) (iblk m (ok m) c 2 t) (iblk m (ok m) c 3 t) (iblk m (ok m) c 4 t) (iblk m (ok m) c 5 t) (tbl m 0) 15#32 (word_eq m t) (chk_15 t) (trips2 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [stAt_acc m c t h0]; simp only [vbefore0_9 m c t h0, vbefore0_10 m c t h0]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (valueRun0_B_at c (grid0.coords t) _ _ _ _ _ _ _ _ _ _ _ _ _ _ _ _ _ _ _ _ _ _ (fun h => h0 ((hcond0_0 t).mp h)) (iblk m (ok m) c 0 t) (iblk m (ok m) c 1 t) (iblk m (ok m) c 2 t) (iblk m (ok m) c 3 t) (iblk m (ok m) c 4 t) (iblk m (ok m) c 5 t) (tbl m 0) 15#32 (word_eq m t) (chk_15 t) (stAt m c (t.val - 1) (Nat.lt_of_le_of_lt (Nat.sub_le _ _) t.isLt)).2.1 (stAt m c (t.val - 1) (Nat.lt_of_le_of_lt (Nat.sub_le _ _) t.isLt)).2.2 (trips2 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem vbody_obligation (c : Dev nD) : BodyObligation (vdats (F := F) m 0 c) (defs₀ (F := F)) Variants.none () Set.univ (fun _ => false) := fun t => by
  rw [bigSep_W0, bigSep_W0, defs₀_row m (ok m)]
  exact triple_restated (vsound_body m c t) rfl .rfl fun _ => .rfl

set_option backward.isDefEq.respectTransparency.types false in
set_option maxHeartbeats 800000 in
/-- The launch: every execution ends with each array at what its blocks' write-backs make of it, every other buffer at what
    the host lines after the region make of those, and the semaphore counters at zero. -/
theorem vrun : θ_run defs (onTc (τ := τ) (main (F := F))) (s₀ m ρ) (fun r => Pipeline.FramePost (Pipeline.pin pcfgs fun _ => adm m (ok m)) (vdats m) 0
      (Pipeline.afterTail pcfgs (fun _ => adm m (ok m)) (vdats m) 0 (V0 m) [hostOps1]) r ∧ r.2.sem = fun _ => 0) :=
  Pipeline.θ_run_frameP_around (Q' := _) pcfgs (fun _ => adm m (ok m)) (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hpf := V_pre m) (hΦ := fun _ _ => rfl)

end Cert.Kernel.Hand

end
-- ==== Proof.Fold.lean ====
/- The sums of the whole grid as reals: a body's trips folded up, then a head pair's key blocks. -/
module

public import proofs.«01_k».proof.Proof.Holds
public import proofs.«01_k».proof.Proof.ValueRun

@[expose] public section

set_option maxRecDepth 16384

noncomputable section

namespace Cert.Kernel.Hand

open Cert.Kernel Cert.Kernel.Gen Idealize.ShloMosaic Idealize.ShloMosaic.TcCoe
open Idealize.SL Idealize.SL.Sem
open Idealize.ShloMosaic.VecWindow (window put)

section Offsets

theorem trips1 : ∀ t : Fin grid0.N, (k0_t1_loop (grid0.coords t) 15#32).trips = 15 - t.val % 16 := by decide +kernel

theorem off1 : ∀ t : Fin grid0.N, k0_off1 (grid0.coords t) = ![0, 512 * (t.val % 16), 0] := by decide +kernel
theorem off5 : ∀ t : Fin grid0.N, k0_off5 (grid0.coords t) = ![1, 512 * (t.val % 16), 0] := by decide +kernel
theorem off2 : ∀ t : Fin grid0.N, k0_off2 (grid0.coords t) = ![0, t.val % 16, 0, 0] := by decide +kernel
theorem off6 : ∀ t : Fin grid0.N, k0_off6 (grid0.coords t) = ![0, t.val % 16, 1, 0] := by decide +kernel
theorem off3 : ∀ t : Fin grid0.N, k0_off3 (grid0.coords t) = ![0, t.val % 16, 0, 0] := by decide +kernel
theorem off7 : ∀ t : Fin grid0.N, k0_off7 (grid0.coords t) = ![1, t.val % 16, 0, 0] := by decide +kernel
theorem off4 : ∀ t : Fin grid0.N, k0_off4 (grid0.coords t) = ![0, t.val % 16, 0, 0] := by decide +kernel
theorem off8 : ∀ t : Fin grid0.N, k0_off8 (grid0.coords t) = ![1, t.val % 16, 0, 0] := by decide +kernel
theorem off10 : ∀ t : Fin grid0.N, ∀ k : Fin (k0_t1_loop (grid0.coords t) 15#32).trips, k0_off10 (grid0.coords t) 15#32 k = ![0, 512 * (t.val % 16 + 1 + k.val), 0] := by decide +kernel
theorem off14 : ∀ t : Fin grid0.N, ∀ k : Fin (k0_t1_loop (grid0.coords t) 15#32).trips, k0_off14 (grid0.coords t) 15#32 k = ![1, 512 * (t.val % 16 + 1 + k.val), 0] := by decide +kernel
theorem off11 : ∀ t : Fin grid0.N, ∀ k : Fin (k0_t1_loop (grid0.coords t) 15#32).trips, k0_off11 (grid0.coords t) 15#32 k = ![0, t.val % 16 + 1 + k.val, 0, 0] := by decide +kernel
theorem off15 : ∀ t : Fin grid0.N, ∀ k : Fin (k0_t1_loop (grid0.coords t) 15#32).trips, k0_off15 (grid0.coords t) 15#32 k = ![0, t.val % 16 + 1 + k.val, 1, 0] := by decide +kernel
theorem off12 : ∀ t : Fin grid0.N, ∀ k : Fin (k0_t1_loop (grid0.coords t) 15#32).trips, k0_off12 (grid0.coords t) 15#32 k = ![0, t.val % 16 + 1 + k.val, 0, 0] := by decide +kernel
theorem off16 : ∀ t : Fin grid0.N, ∀ k : Fin (k0_t1_loop (grid0.coords t) 15#32).trips, k0_off16 (grid0.coords t) 15#32 k = ![1, t.val % 16 + 1 + k.val, 0, 0] := by decide +kernel
theorem off13 : ∀ t : Fin grid0.N, ∀ k : Fin (k0_t1_loop (grid0.coords t) 15#32).trips, k0_off13 (grid0.coords t) 15#32 k = ![0, t.val % 16 + 1 + k.val, 0, 0] := by decide +kernel
theorem off17 : ∀ t : Fin grid0.N, ∀ k : Fin (k0_t1_loop (grid0.coords t) 15#32).trips, k0_off17 (grid0.coords t) 15#32 k = ![1, t.val % 16 + 1 + k.val, 0, 0] := by decide +kernel

end Offsets

section Fold

/-- The weights of query block `i` against key block `j`: none before the diagonal, masked on it. -/
def ROp.w (o : ROp) (j : ℕ) (i : Fin 16) : Fin 2 → Fin 512 → Fin 512 → ℝ := if i.val = j then o.pm i else if j < i.val then o.p i else fun _ _ _ => 0

/-- A sum over the query blocks up to `n`. -/
def upTo (n : ℕ) (f : Fin 16 → ℝ) : ℝ := ∑ i : Fin 16, if i.val ≤ n then f i else 0

theorem upTo_succ (n : ℕ) (h : n + 1 < 16) (f : Fin 16 → ℝ) : upTo (n + 1) f = upTo n f + f ⟨n + 1, h⟩ := by
  unfold upTo
  have e : ∀ i : Fin 16, (if i.val ≤ n + 1 then f i else 0) = (if i.val ≤ n then f i else 0) + if i = ⟨n + 1, h⟩ then f i else 0 := fun i => by
    by_cases h1 : i.val ≤ n
    · have h2 : i ≠ ⟨n + 1, h⟩ := fun e => by have := congrArg Fin.val e; simp only at this; omega
      rw [if_pos h1, if_pos (by omega), if_neg h2, add_zero]
    · by_cases h2 : i = ⟨n + 1, h⟩
      · subst h2; rw [if_pos (le_refl _), if_neg h1, if_pos rfl, zero_add]
      · have h3 : ¬ i.val ≤ n + 1 := fun h3 => h2 (Fin.ext (by simp only; omega))
        rw [if_neg h1, if_neg h3, if_neg h2, add_zero]
  simp only [e, Finset.sum_add_distrib, Finset.sum_ite_eq', Finset.mem_univ, if_true]

theorem upTo_first (n : ℕ) (h : n < 16) (f : Fin 16 → ℝ) (hf : ∀ i : Fin 16, i.val < n → f i = 0) : upTo n f = f ⟨n, h⟩ := by
  unfold upTo
  rw [Finset.sum_eq_single (⟨n, h⟩ : Fin 16)]
  · exact if_pos (le_refl _)
  · intro i _ hi
    have h1 : i.val ≠ n := fun e => hi (Fin.ext e)
    by_cases h2 : i.val ≤ n
    · rw [if_pos h2]; exact hf i (by omega)
    · exact if_neg h2
  · intro h; exact absurd (Finset.mem_univ _) h

theorem upTo_all (n : ℕ) (h : 15 ≤ n) (f : Fin 16 → ℝ) : upTo n f = ∑ i, f i := by
  unfold upTo
  exact Finset.sum_congr rfl fun i _ => if_pos (by omega)

/-- A key block's sums over the query blocks up to `n`. -/
def rpart (o : ROp) (j n : ℕ) (r : RSt) : RSt where
  A h a x := upTo n fun i => ∑ b, o.z i (o.w j i) h a b * o.q h (rowOf i b) x
  B h a x := upTo n fun i => ∑ b, o.w j i h a b * o.g h (rowOf i b) x
  C h a x := upTo n fun i => ∑ u : Fin 4, o.z i (o.w j i) h a ⟨128 * u.val + x.val, by omega⟩
  D h i x b := r.D h i x b + if i.val ≤ n then ∑ a, o.t h x a * o.z i (o.w j i) h a b else 0
  E h i x b := r.E h i x b + if i.val ≤ n then ∑ u : Fin 64, o.z i (o.w j i) h ⟨u.val * 8 + x.val, by omega⟩ b else 0

theorem w_before (o : ROp) (j : ℕ) (i : Fin 16) (h : i.val < j) : o.w j i = fun _ _ _ => 0 := by
  unfold ROp.w; rw [if_neg (by omega), if_neg (by omega)]
theorem w_diag (o : ROp) (j : ℕ) (i : Fin 16) (h : i.val = j) : o.w j i = o.pm i := if_pos h
theorem w_after (o : ROp) (j : ℕ) (i : Fin 16) (h : j < i.val) : o.w j i = o.p i := by
  unfold ROp.w; rw [if_neg (by omega), if_pos h]
theorem z_zero (o : ROp) (i : Fin 16) (h : Fin 2) (a b : Fin 512) : o.z i (fun _ _ _ => 0) h a b = 0 := by
  unfold ROp.z; rw [zero_mul]

/-- The diagonal's contribution begins the sums. -/
theorem rpart_first (o : ROp) (i : Fin 16) (r : RSt) : radd o i (o.pm i) (rzero r) = rpart o i.val i.val r := by
  have hw : o.w i.val i = o.pm i := w_diag o _ i rfl
  have hD : ∀ (i' : Fin 16) (f : ℝ) (g : ℝ), (i' = i → f = g) → (i'.val < i.val → g = 0) → (if i' = i then f else 0) = if i'.val ≤ i.val then g else 0 := fun i' f g h1 h2 => by
    by_cases e : i' = i
    · rw [if_pos e, if_pos (by rw [e]), h1 e]
    · by_cases l : i'.val ≤ i.val
      · rw [if_neg e, if_pos l, h2 (by have : i'.val ≠ i.val := fun h => e (Fin.ext h); omega)]
      · rw [if_neg e, if_neg l]
  unfold radd rpart rzero
  congr 1
  · funext h a x
    rw [upTo_first i.val i.isLt _ (fun i' hi => by simp only [w_before o _ i' hi, z_zero, zero_mul, Finset.sum_const_zero])]
    rw [zero_add, hw]
  · funext h a x
    rw [upTo_first i.val i.isLt _ (fun i' hi => by simp only [w_before o _ i' hi, z_zero, zero_mul, Finset.sum_const_zero])]
    rw [zero_add, hw]
  · funext h a x
    rw [upTo_first i.val i.isLt _ (fun i' hi => by simp only [w_before o _ i' hi, z_zero, zero_mul, Finset.sum_const_zero])]
    rw [zero_add, hw]
  · funext h i' x b
    congr 1
    refine hD i' _ _ (fun e => by subst e; rw [hw]) (fun hi => by simp only [w_before o _ i' hi, z_zero, mul_zero, Finset.sum_const_zero])
  · funext h i' x b
    congr 1
    refine hD i' _ _ (fun e => by subst e; rw [hw]) (fun hi => by simp only [w_before o _ i' hi, z_zero, mul_zero, Finset.sum_const_zero])

/-- A later query block's contribution extends the sums. -/
theorem rpart_next (o : ROp) (j n : ℕ) (hj : j ≤ n) (hn : n + 1 < 16) (r : RSt) : radd o ⟨n + 1, hn⟩ (o.p ⟨n + 1, hn⟩) (rpart o j n r) = rpart o j (n + 1) r := by
  have hw : o.w j ⟨n + 1, hn⟩ = o.p ⟨n + 1, hn⟩ := w_after o _ _ (by show j < n + 1; omega)
  have hD : ∀ (i' : Fin 16) (y f g : ℝ), (i' = ⟨n + 1, hn⟩ → f = g) → (y + (if i'.val ≤ n then g else 0)) + (if i' = ⟨n + 1, hn⟩ then f else 0) = y + if i'.val ≤ n + 1 then g else 0 := fun i' y f g h1 => by
    by_cases e : i' = ⟨n + 1, hn⟩
    · have ev : i'.val = n + 1 := congrArg Fin.val e
      rw [if_pos e, if_neg (by omega), if_pos (by omega), h1 e, add_zero]
    · have ev : i'.val ≠ n + 1 := fun h => e (Fin.ext h)
      rw [if_neg e, add_zero]
      congr 1
      by_cases l : i'.val ≤ n
      · rw [if_pos l, if_pos (by omega)]
      · rw [if_neg l, if_neg (by omega)]
  unfold radd rpart
  congr 1
  · funext h a x; rw [upTo_succ n hn, hw]
  · funext h a x; rw [upTo_succ n hn, hw]
  · funext h a x; rw [upTo_succ n hn, hw]
  · funext h i' x b
    exact hD i' _ _ _ (fun e => by subst e; rw [hw])
  · funext h i' x b
    exact hD i' _ _ _ (fun e => by subst e; rw [hw])

end Fold

section Body

variable {x0 x1 : Vec Ideal S2x8192x128 .bf16} {x2 : Vec Ideal S1x16x8x512 .f32} {x3 : Vec Ideal S2x512x128 .bf16} {x4 : Vec Ideal S2x1x128x512 .bf16} {x5 : Vec Ideal S2x512x128 .bf16} {o : ROp}

/-- The trips before trip `k` sum the query blocks up to the one before. -/
theorem trips_hold (H : HoldsOp x0 x1 x2 x3 x4 x5 o) (t : Fin grid0.N) (hw : k0_chk1 (grid0.coords t) 15#32) (D : Vec Ideal S2x16x128x512 .f32) (E : Vec Ideal S2x16x8x512 .f32) (r : RSt) (hs : HoldsDE D E r) :
    ∀ k, k ≤ 15 - t.val % 16 → Holds (stR x0 x1 x2 x3 x4 x5 (grid0.coords t) 15#32 hw (mstepR x0 x1 x2 x3 x4 x5 (grid0.coords t) D E) k) (rpart o (t.val % 16) (t.val % 16 + k) r) := by
  have hj : t.val % 16 < 16 := Nat.mod_lt _ (by decide)
  intro k
  induction k with
  | zero =>
    intro _
    have := mstep_holds H ⟨t.val % 16, hj⟩ _ _ _ _ _ _ _ _ (off1 t) (off5 t) (off2 t) (off6 t) (off3 t) (off7 t) (off4 t) (off8 t)
      (k0_off1_inb _) (k0_off5_inb _) (k0_off2_inb _) (k0_off6_inb _) (k0_off3_inb _) (k0_off7_inb _) (k0_off4_inb _) (k0_off8_inb _) D E r hs
    rw [rpart_first] at this
    exact this
  | succ k ih =>
    intro hk
    have hk' : k < (k0_t1_loop (grid0.coords t) 15#32).trips := by rw [trips1 t]; omega
    have hn : t.val % 16 + k + 1 < 16 := by omega
    have e1 : t.val % 16 + 1 + k = t.val % 16 + k + 1 := by omega
    have := step_holds H ⟨t.val % 16 + k + 1, hn⟩ _ _ _ _ _ _ _ _
      ((off10 t ⟨k, hk'⟩).trans (by rw [e1])) ((off14 t ⟨k, hk'⟩).trans (by rw [e1])) ((off11 t ⟨k, hk'⟩).trans (by rw [e1])) ((off15 t ⟨k, hk'⟩).trans (by rw [e1]))
      ((off12 t ⟨k, hk'⟩).trans (by rw [e1])) ((off16 t ⟨k, hk'⟩).trans (by rw [e1])) ((off13 t ⟨k, hk'⟩).trans (by rw [e1])) ((off17 t ⟨k, hk'⟩).trans (by rw [e1]))
      (k0_off10_inb _ _ hw _) (k0_off14_inb _ _ hw _) (k0_off11_inb _ _ hw _) (k0_off15_inb _ _ hw _) (k0_off12_inb _ _ hw _) (k0_off16_inb _ _ hw _) (k0_off13_inb _ _ hw _) (k0_off17_inb _ _ hw _)
      _ _ (ih (by omega))
    rw [rpart_next _ _ _ (by omega)] at this
    have e2 := stR_succ x0 x1 x2 x3 x4 x5 (grid0.coords t) 15#32 hw (mstepR x0 x1 x2 x3 x4 x5 (grid0.coords t) D E) ⟨k, hk'⟩
    exact e2 ▸ this

theorem body_holds (H : HoldsOp x0 x1 x2 x3 x4 x5 o) (t : Fin grid0.N) (hw : k0_chk1 (grid0.coords t) 15#32) (D : Vec Ideal S2x16x128x512 .f32) (E : Vec Ideal S2x16x8x512 .f32) (r : RSt) (hs : HoldsDE D E r) :
    Holds (bodyR x0 x1 x2 x3 x4 x5 (grid0.coords t) 15#32 hw D E) (rpart o (t.val % 16) 15 r) := by
  have := trips_hold H t hw D E r hs (15 - t.val % 16) (le_refl _)
  have hj : t.val % 16 < 16 := Nat.mod_lt _ (by decide)
  rw [show t.val % 16 + (15 - t.val % 16) = 15 by omega] at this
  unfold bodyR
  rw [trips1 t]
  exact this

end Body

section Grid

variable (m : (ℓ : Loc nD τ sig) → Buf (Elt Ideal) ℓ)

theorem zeroD (h : Fin 2) (i : Fin 16) (x : Fin 128) (b : Fin 512) : (k0_pay48 (F := Ideal)) (ix4 h i x b) = cR 0 := by
  pointwise [k0_pay48]
  exact EReal.coe_zero.symm
theorem zeroE (h : Fin 2) (i : Fin 16) (x : Fin 8) (b : Fin 512) : (k0_pay49 (F := Ideal)) (ix4 h i x b) = cR 0 := by
  pointwise [k0_pay49]
  exact EReal.coe_zero.symm

/-- The grid's real values: at point `n` the sums of the body over all query blocks; the accumulators restart at every sixteenth point. -/
def rAt (op : ℕ → ROp) : ℕ → RSt
  | 0 => rpart (op 0) 0 15 ⟨fun _ _ _ => 0, fun _ _ _ => 0, fun _ _ _ => 0, fun _ _ _ _ => 0, fun _ _ _ _ => 0⟩
  | n + 1 => if (n + 1) % 16 = 0 then rpart (op (n + 1)) 0 15 ⟨fun _ _ _ => 0, fun _ _ _ => 0, fun _ _ _ => 0, fun _ _ _ _ => 0, fun _ _ _ _ => 0⟩
      else rpart (op (n + 1)) ((n + 1) % 16) 15 (rAt op n)

variable (c : Dev nD) (op : ℕ → ROp)
  (hop : ∀ t : Fin (cfgM m (ok m)).N, HoldsOp (iblk m (ok m) c 0 t) (iblk m (ok m) c 1 t) (iblk m (ok m) c 2 t) (iblk m (ok m) c 3 t) (iblk m (ok m) c 4 t) (iblk m (ok m) c 5 t) (op t.val))

include hop in
theorem stAt_holds : ∀ (n : ℕ) (hn : n < (cfgM m (ok m)).N), Holds (stAt m c n hn) (rAt op n) := by
  have Z : HoldsDE (k0_pay48 (F := Ideal)) (k0_pay49 (F := Ideal)) ⟨fun _ _ _ => 0, fun _ _ _ => 0, fun _ _ _ => 0, fun _ _ _ _ => 0, fun _ _ _ _ => 0⟩ := ⟨zeroD, zeroE⟩
  intro n
  induction n with
  | zero =>
    intro hn
    exact body_holds (hop ⟨0, hn⟩) ⟨0, hn⟩ _ _ _ _ Z
  | succ n ih =>
    intro hn
    unfold stAt rAt
    by_cases h : (n + 1) % 16 = 0
    · rw [if_pos h, if_pos h]
      have := body_holds (hop ⟨n + 1, hn⟩) ⟨n + 1, hn⟩ (chk_15 ⟨n + 1, hn⟩) _ _ _ Z
      simp only [h] at this
      exact this
    · rw [if_neg h, if_neg h]
      exact body_holds (hop ⟨n + 1, hn⟩) ⟨n + 1, hn⟩ (chk_15 ⟨n + 1, hn⟩) _ _ _ (ih (Nat.lt_of_succ_lt hn)).de

/-- The carried sums of a point. -/
theorem rAt_carry (n : ℕ) : (rAt op n).A = (rpart (op n) (n % 16) 15 (rAt op (n - 1))).A ∧ (rAt op n).B = (rpart (op n) (n % 16) 15 (rAt op (n - 1))).B ∧ (rAt op n).C = (rpart (op n) (n % 16) 15 (rAt op (n - 1))).C := by
  cases n with
  | zero => exact ⟨rfl, rfl, rfl⟩
  | succ n =>
    unfold rAt
    by_cases h : (n + 1) % 16 = 0
    · rw [if_pos h, h]; exact ⟨rfl, rfl, rfl⟩
    · rw [if_neg h]; exact ⟨rfl, rfl, rfl⟩

/-- The accumulators at point `16 p + j` sum the key blocks up to `j`. -/
theorem rAt_acc (p : ℕ) (j : ℕ) (hj : j < 16) (h : Fin 2) (i : Fin 16) (b : Fin 512) :
    (∀ x, (rAt op (16 * p + j)).D h i x b = upTo j fun j' => ∑ a, (op (16 * p + j'.val)).t h x a * (op (16 * p + j'.val)).z i ((op (16 * p + j'.val)).w j'.val i) h a b)
    ∧ (∀ x : Fin 8, (rAt op (16 * p + j)).E h i x b = upTo j fun j' => ∑ u : Fin 64, (op (16 * p + j'.val)).z i ((op (16 * p + j'.val)).w j'.val i) h ⟨u.val * 8 + x.val, by omega⟩ b) := by
  induction j with
  | zero =>
    have e : rAt op (16 * p + 0) = rpart (op (16 * p + 0)) 0 15 ⟨fun _ _ _ => 0, fun _ _ _ => 0, fun _ _ _ => 0, fun _ _ _ _ => 0, fun _ _ _ _ => 0⟩ := by
      cases p with
      | zero => rfl
      | succ p =>
        show rAt op (16 * p + 15 + 1) = _
        unfold rAt
        rw [if_pos (by omega)]
        rfl
    rw [e]
    constructor
    · intro x
      rw [upTo_first 0 (by decide) _ (fun i hi => absurd hi (Nat.not_lt_zero _))]
      show 0 + _ = _
      rw [if_pos (by omega), zero_add]
    · intro x
      rw [upTo_first 0 (by decide) _ (fun i hi => absurd hi (Nat.not_lt_zero _))]
      show 0 + _ = _
      rw [if_pos (by omega), zero_add]
  | succ j ih =>
    have e : rAt op (16 * p + (j + 1)) = rpart (op (16 * p + (j + 1))) (j + 1) 15 (rAt op (16 * p + j)) := by
      show rAt op (16 * p + j + 1) = _
      have hm : (16 * p + j + 1) % 16 = j + 1 := by omega
      conv_lhs => unfold rAt
      rw [if_neg (by omega), hm]
      rfl
    obtain ⟨ih1, ih2⟩ := ih (by omega)
    rw [e]
    constructor
    · intro x
      rw [upTo_succ j hj]
      show (rAt op (16 * p + j)).D h i x b + _ = _
      rw [if_pos (by omega), ih1]
    · intro x
      rw [upTo_succ j hj]
      show (rAt op (16 * p + j)).E h i x b + _ = _
      rw [if_pos (by omega), ih2]

end Grid

end Cert.Kernel.Hand

end
-- ==== Proof.Opers.lean ====
/- The blocks of a grid point as reals. -/
module

public import proofs.«01_k».proof.Proof.HostVal3
public import proofs.«01_k».proof.Proof.Fold
public import Idealize.ShloMosaic.Lib.Pipeline.ValueKit

@[expose] public section

set_option maxRecDepth 16384

noncomputable section

namespace Cert.Kernel.Hand

open Idealize.ShloMosaic Idealize.ShloMosaic.TcCoe Idealize.ShloMosaic.Tactic Idealize.ShloMosaic.StableHlo Idealize.SL.Sem
open Cert.Kernel Cert.Kernel.Gen Cert.Fox

theorem tr0 : ∀ t : Fin grid0.N, cc0_transform_0 (grid0.coords t) = ![t.val / 16, 0, 0] := by decide +kernel
theorem tr1 : ∀ t : Fin grid0.N, cc0_transform_1 (grid0.coords t) = ![t.val / 16, 0, 0] := by decide +kernel
theorem tr2 : ∀ t : Fin grid0.N, cc0_transform_2 (grid0.coords t) = ![t.val / 16, 0, 0, 0] := by decide +kernel
theorem tr3 : ∀ t : Fin grid0.N, cc0_transform_3 (grid0.coords t) = ![t.val / 16, t.val % 16, 0] := by decide +kernel
theorem tr4 : ∀ t : Fin grid0.N, cc0_transform_4 (grid0.coords t) = ![t.val / 16, t.val % 16, 0, 0] := by decide +kernel
theorem tr5 : ∀ t : Fin grid0.N, cc0_transform_5 (grid0.coords t) = ![t.val / 16, t.val % 16, 0] := by decide +kernel

/-- Head `h` of point `n`'s pair. -/
def headOf (n : ℕ) (h : Fin 2) : Fin 8 := ⟨n / 16 % 4 * 2 + h.val, by omega⟩
/-- Row `a` of point `n`'s key block. -/
def keyOf (n : ℕ) (a : Fin 512) : Fin 8192 := ⟨n % 16 * 512 + a.val, by omega⟩

/-- Point `n`'s operands as reals. -/
def opAt (A : Args) (n : ℕ) : ROp where
  q h r x := A.qx (headOf n h) r x
  g h r x := A.gx (headOf n h) r x
  l h i b := A.lse (headOf n h) (rowOf i b)
  k h a x := A.kx (headOf n h) (keyOf n a) x
  t h x a := A.kx (headOf n h) (keyOf n a) x
  v h a x := A.vx (headOf n h) (keyOf n a) x

variable (m : (ℓ : Loc nD τ sig) → Buf (Elt Ideal) ℓ) (c : Dev nD) {A : Args} (H : KArgs (fun b => m (c, b)) A)

theorem in0 (t : Fin (cfgM m (ok m)).N) : ((cfgM m (ok m)).win 0).index t = ![t.val / 16, 0, 0] := tr0 t
theorem in1 (t : Fin (cfgM m (ok m)).N) : ((cfgM m (ok m)).win 1).index t = ![t.val / 16, 0, 0] := tr1 t
theorem in2 (t : Fin (cfgM m (ok m)).N) : ((cfgM m (ok m)).win 2).index t = ![t.val / 16, 0, 0, 0] := tr2 t
theorem in3 (t : Fin (cfgM m (ok m)).N) : ((cfgM m (ok m)).win 3).index t = ![t.val / 16, t.val % 16, 0] := tr3 t
theorem in4 (t : Fin (cfgM m (ok m)).N) : ((cfgM m (ok m)).win 4).index t = ![t.val / 16, t.val % 16, 0, 0] := tr4 t
theorem in5 (t : Fin (cfgM m (ok m)).N) : ((cfgM m (ok m)).win 5).index t = ![t.val / 16, t.val % 16, 0] := tr5 t

theorem points_N (t : Fin (cfgM m (ok m)).N) : t.val < 64 := lt_of_lt_of_eq t.isLt (show (cfgM m (ok m)).N = 64 from N_0)

include H in
theorem blk_q (t : Fin (cfgM m (ok m)).N) (h : Fin 2) (r : Fin 8192) (x : Fin 128) : (iblk m (ok m) c 0 t : Vec Ideal S2x8192x128 .bf16) (ix3 h r x) = cR (A.qx (headOf t.val h) r x) := by
  have hN := points_N m t
  refine Eq.trans ?_ (V_qx m c H (headOf t.val h) r x)
  blk_ext [iblk, in0 m t]
  all_goals simp only [headOf, keyOf]
  all_goals omega

include H in
theorem blk_g (t : Fin (cfgM m (ok m)).N) (h : Fin 2) (r : Fin 8192) (x : Fin 128) : (iblk m (ok m) c 1 t : Vec Ideal S2x8192x128 .bf16) (ix3 h r x) = cR (A.gx (headOf t.val h) r x) := by
  have hN := points_N m t
  refine Eq.trans ?_ (V_gx m c H (headOf t.val h) r x)
  blk_ext [iblk, in1 m t]
  all_goals simp only [headOf, keyOf]
  all_goals omega

include H in
theorem blk_k (t : Fin (cfgM m (ok m)).N) (h : Fin 2) (r : Fin 512) (x : Fin 128) : (iblk m (ok m) c 3 t : Vec Ideal S2x512x128 .bf16) (ix3 h r x) = cR (A.kx (headOf t.val h) (keyOf t.val r) x) := by
  have hN := points_N m t
  refine Eq.trans ?_ (V_kx m c H (headOf t.val h) (keyOf t.val r) x)
  blk_ext [iblk, in3 m t]
  all_goals simp only [headOf, keyOf]
  all_goals omega

include H in
theorem blk_v (t : Fin (cfgM m (ok m)).N) (h : Fin 2) (r : Fin 512) (x : Fin 128) : (iblk m (ok m) c 5 t : Vec Ideal S2x512x128 .bf16) (ix3 h r x) = cR (A.vx (headOf t.val h) (keyOf t.val r) x) := by
  have hN := points_N m t
  refine Eq.trans ?_ (V_vx m c H (headOf t.val h) (keyOf t.val r) x)
  blk_ext [iblk, in5 m t]
  all_goals simp only [headOf, keyOf]
  all_goals omega

include H in
theorem blk_t (t : Fin (cfgM m (ok m)).N) (h : Fin 2) (x : Fin 128) (r : Fin 512) : (iblk m (ok m) c 4 t : Vec Ideal S2x1x128x512 .bf16) (ix4 h 0 x r) = cR (A.kx (headOf t.val h) (keyOf t.val r) x) := by
  have hN := points_N m t
  refine Eq.trans ?_ (V_tx m c H (headOf t.val h) ⟨t.val % 16, by omega⟩ x r)
  blk_ext [iblk, in4 m t]
  all_goals simp only [headOf, keyOf]
  all_goals omega

include H in
theorem blk_l (t : Fin (cfgM m (ok m)).N) (i : Fin 16) (u : Fin 8) (h : Fin 2) (hu : u.val = h.val) (b : Fin 512) : (iblk m (ok m) c 2 t : Vec Ideal S1x16x8x512 .f32) (ix4 0 i u b) = cR (A.lse (headOf t.val h) (rowOf i b)) := by
  have hN := points_N m t
  have e1 : (⟨(⟨t.val / 16, by omega⟩ : Fin 4).val * 2 + u.val, by have := h.isLt; omega⟩ : Fin 8) = headOf t.val h := Fin.ext (by simp only [headOf]; omega)
  have e2 : (⟨i.val * 512 + b.val, by omega⟩ : Fin 8192) = rowOf i b := Fin.ext (by simp only [rowOf]; omega)
  have := V_lse m c H ⟨t.val / 16, by omega⟩ i u (by have := h.isLt; omega) b
  rw [e1, e2] at this
  refine Eq.trans ?_ this
  blk_ext [iblk, in2 m t]

include H in
theorem holds_op (t : Fin (cfgM m (ok m)).N) : HoldsOp (iblk m (ok m) c 0 t) (iblk m (ok m) c 1 t) (iblk m (ok m) c 2 t) (iblk m (ok m) c 3 t) (iblk m (ok m) c 4 t) (iblk m (ok m) c 5 t) (opAt A t.val) where
  q := blk_q m c H t
  g := blk_g m c H t
  l0 i b := blk_l m c H t i 0 0 rfl b
  l1 i b := blk_l m c H t i 1 1 rfl b
  k := blk_k m c H t
  t := blk_t m c H t
  v := blk_v m c H t

end Cert.Kernel.Hand

end
-- ==== Proof.Sums.lean ====
/- The block sums over the reals: what the grid leaves is the derivative. -/
module

public import proofs.«01_k».proof.Proof.Opers

@[expose] public section

set_option maxRecDepth 16384

noncomputable section

namespace Cert.Kernel.Hand

open Cert.Fox

/-- A sum over a long axis, block by block. -/
theorem sum_split {J n K : ℕ} (hK : J * n = K) (f : Fin K → ℝ) (hp : ∀ (s : Fin J) (k : Fin n), s.val * n + k.val < K) : ∑ s : Fin J, ∑ k : Fin n, f ⟨s.val * n + k.val, hp s k⟩ = ∑ l, f l := by
  subst hK
  rw [← Fintype.sum_prod_type']
  refine Fintype.sum_equiv finProdFinEquiv _ _ fun x => congrArg f (Fin.ext ?_)
  simp only [finProdFinEquiv, Equiv.coe_fn_mk]
  ring

theorem sum_rows (f : Fin 8192 → ℝ) : ∑ i : Fin 16, ∑ b : Fin 512, f (rowOf i b) = ∑ t, f t := by
  rw [← sum_split (J := 16) (n := 512) rfl f (fun s k => by omega)]
  refine Finset.sum_congr rfl fun i _ => Finset.sum_congr rfl fun b _ => congrArg f (Fin.ext ?_)
  simp only [rowOf]; ring

/-- A sum over the lanes: the lower half, and an upper half that is nothing past two lanes. -/
theorem sum_lanes (f : Fin 128 → ℝ) (a b : ℝ) (h0 : f 64 = a) (h3 : f 67 = b) (hz : ∀ x : Fin 128, 64 ≤ x.val → x.val ≠ 64 → x.val ≠ 67 → f x = 0) :
    ∑ x, f x = (∑ d : Fin 64, f ⟨d.val, by omega⟩) + a + b := by
  rw [← sum_split (J := 2) (n := 64) rfl f (fun s k => by omega), Fin.sum_univ_two]
  have e : (∑ k : Fin 64, f ⟨(1 : Fin 2).val * 64 + k.val, by have := k.isLt; show 1 * 64 + k.val < 128; omega⟩) = ∑ k : Fin 64, ((if k = 0 then a else 0) + (if k = 3 then b else 0)) := by
    refine Finset.sum_congr rfl fun k _ => ?_
    by_cases k0 : k = 0
    · subst k0; rw [if_pos rfl, if_neg (by decide), add_zero]; exact h0
    · by_cases k3 : k = 3
      · subst k3; rw [if_neg (by decide), if_pos rfl, zero_add]; exact h3
      · rw [if_neg k0, if_neg k3, add_zero]
        refine hz _ ?_ ?_ ?_
        · show 64 ≤ 1 * 64 + k.val; omega
        · show 1 * 64 + k.val ≠ 64
          intro h; exact k0 (Fin.ext (by show k.val = 0; omega))
        · show 1 * 64 + k.val ≠ 67
          intro h; exact k3 (Fin.ext (by show k.val = 3; omega))
  rw [e, Finset.sum_add_distrib, Finset.sum_ite_eq' Finset.univ (0 : Fin 64) (fun _ => a), Finset.sum_ite_eq' Finset.univ (3 : Fin 64) (fun _ => b), if_pos (Finset.mem_univ _), if_pos (Finset.mem_univ _), ← add_assoc]
  refine congrArg (fun z => z + a + b) (Finset.sum_congr rfl fun d _ => congrArg f (Fin.ext ?_))
  show 0 * 64 + d.val = d.val
  omega

variable (A : Args)

theorem qx_low (h t) (x : Fin 128) (hx : x.val < 64) : A.qx h t x = A.q t (col h ⟨x.val, hx⟩) * 0.125 := dif_pos hx
theorem kx_low (h t) (x : Fin 128) (hx : x.val < 64) : A.kx h t x = A.k t (col h ⟨x.val, hx⟩) := dif_pos hx
theorem vx_low (h t) (x : Fin 128) (hx : x.val < 64) : A.vx h t x = A.v t (col h ⟨x.val, hx⟩) := dif_pos hx
theorem gx_low (h t) (x : Fin 128) (hx : x.val < 64) : A.gx h t x = A.g t (col h ⟨x.val, hx⟩) := dif_pos hx

/-- The product of the two widened operands is the logit. -/
theorem kq_dot (h : Fin 8) (t s : Fin 8192) : ∑ x, A.kx h s x * A.qx h t x = A.L h t s := by
  rw [sum_lanes _ (-A.f s h) (A.f t h)]
  · unfold Args.L
    rw [Finset.sum_mul]
    have e : (∑ d : Fin 64, A.kx h s ⟨d.val, by omega⟩ * A.qx h t ⟨d.val, by omega⟩) = ∑ d, A.q t (col h d) * A.k s (col h d) * 0.125 := by
      refine Finset.sum_congr rfl fun d _ => ?_
      rw [kx_low A h s ⟨d.val, by omega⟩ d.isLt, qx_low A h t ⟨d.val, by omega⟩ d.isLt]
      ring
    rw [e]; ring
  · simp [Args.kx, Args.qx]
  · simp [Args.kx, Args.qx]
  · intro x h1 h2 h3
    unfold Args.kx Args.qx
    split_ifs <;> first | omega | simp

/-- The product of the other two is the weights' gradient less the row's mean. -/
theorem vg_dot (h : Fin 8) (t s : Fin 8192) : ∑ x, A.vx h s x * A.gx h t x = A.dp h t s - A.del h t := by
  rw [sum_lanes _ (-A.del h t) 0]
  · unfold Args.dp
    have e : (∑ d : Fin 64, A.vx h s ⟨d.val, by omega⟩ * A.gx h t ⟨d.val, by omega⟩) = ∑ d, A.g t (col h d) * A.v s (col h d) := by
      refine Finset.sum_congr rfl fun d _ => ?_
      rw [vx_low A h s ⟨d.val, by omega⟩ d.isLt, gx_low A h t ⟨d.val, by omega⟩ d.isLt]
      ring
    rw [e]; ring
  · simp [Args.vx, Args.gx]
  · simp [Args.vx, Args.gx]
  · intro x h1 h2 h3
    unfold Args.vx Args.gx
    split_ifs <;> first | omega | simp

/-- The kernel's weights are the softmax's. -/
theorem w_eq (n : ℕ) (i : Fin 16) (h : Fin 2) (a b : Fin 512) : (opAt A n).w (n % 16) i h a b = A.P (headOf n h) (rowOf i b) (keyOf n a) := by
  have hp : (keyOf n a).val ≤ (rowOf i b).val → (opAt A n).p i h a b = A.P (headOf n h) (rowOf i b) (keyOf n a) := by
    intro hs
    unfold ROp.p opAt
    simp only
    rw [kq_dot]
    exact P_lse A _ _ _ _ hs
  have ek : (keyOf n a).val = n % 16 * 512 + a.val := rfl
  have er : (rowOf i b).val = 512 * i.val + b.val := rfl
  unfold ROp.w
  split_ifs with h1 h2
  · unfold ROp.pm
    split_ifs with h3
    · exact hp (by omega)
    · exact (P_zero A _ _ _ (by omega)).symm
  · exact hp (by omega)
  · exact (P_zero A _ _ _ (by omega)).symm

/-- And so the scores' gradient. -/
theorem z_eq (n : ℕ) (i : Fin 16) (h : Fin 2) (a b : Fin 512) : (opAt A n).z i ((opAt A n).w (n % 16) i) h a b = A.ds (headOf n h) (rowOf i b) (keyOf n a) := by
  unfold ROp.z
  rw [w_eq]
  show A.P (headOf n h) (rowOf i b) (keyOf n a) * (∑ x, A.vx (headOf n h) (keyOf n a) x * A.gx (headOf n h) (rowOf i b) x) = _
  rw [vg_dot]
  rfl

theorem rpart_A (o : ROp) (j n : ℕ) (r : RSt) (h a x) : (rpart o j n r).A h a x = upTo n fun i => ∑ b, o.z i (o.w j i) h a b * o.q h (rowOf i b) x := rfl
theorem rpart_B (o : ROp) (j n : ℕ) (r : RSt) (h a x) : (rpart o j n r).B h a x = upTo n fun i => ∑ b, o.w j i h a b * o.g h (rowOf i b) x := rfl
theorem rpart_C (o : ROp) (j n : ℕ) (r : RSt) (h a) (x : Fin 128) : (rpart o j n r).C h a x = upTo n fun i => ∑ u : Fin 4, o.z i (o.w j i) h a ⟨128 * u.val + x.val, by omega⟩ := rfl

theorem val_A (n : ℕ) (r : RSt) (h : Fin 2) (a : Fin 512) (x : Fin 128) (hx : x.val < 64) : (rpart (opAt A n) (n % 16) 15 r).A h a x = A.dk (headOf n h) (keyOf n a) ⟨x.val, hx⟩ := by
  rw [rpart_A, upTo_all 15 (le_refl _)]
  unfold Args.dk
  rw [Finset.sum_mul, ← sum_rows]
  refine Finset.sum_congr rfl fun i _ => Finset.sum_congr rfl fun b _ => ?_
  rw [z_eq]
  show _ * A.qx _ _ _ = _
  rw [qx_low _ _ _ _ hx, mul_assoc]

theorem val_B (n : ℕ) (r : RSt) (h : Fin 2) (a : Fin 512) (x : Fin 128) (hx : x.val < 64) : (rpart (opAt A n) (n % 16) 15 r).B h a x = A.dv (headOf n h) (keyOf n a) ⟨x.val, hx⟩ := by
  rw [rpart_B, upTo_all 15 (le_refl _)]
  unfold Args.dv
  rw [← sum_rows]
  refine Finset.sum_congr rfl fun i _ => Finset.sum_congr rfl fun b _ => ?_
  rw [w_eq]
  show _ * A.gx _ _ _ = _
  rw [gx_low _ _ _ _ hx]

theorem val_C (n : ℕ) (r : RSt) (h : Fin 2) (a : Fin 512) : ∑ x, (rpart (opAt A n) (n % 16) 15 r).C h a x = ∑ t, A.ds (headOf n h) t (keyOf n a) := by
  have e : ∀ x, (rpart (opAt A n) (n % 16) 15 r).C h a x = ∑ i : Fin 16, ∑ u : Fin 4, A.ds (headOf n h) (rowOf i ⟨u.val * 128 + x.val, by omega⟩) (keyOf n a) := by
    intro x
    rw [rpart_C, upTo_all 15 (le_refl _)]
    refine Finset.sum_congr rfl fun i _ => Finset.sum_congr rfl fun u _ => ?_
    rw [z_eq]
    refine congrArg (fun b => A.ds (headOf n h) (rowOf i b) (keyOf n a)) (Fin.ext ?_)
    show 128 * u.val + x.val = u.val * 128 + x.val
    omega
  rw [Finset.sum_congr rfl fun x _ => e x, Finset.sum_comm, ← sum_rows]
  refine Finset.sum_congr rfl fun i _ => ?_
  rw [Finset.sum_comm]
  exact sum_split (J := 4) (n := 128) rfl (fun b => A.ds (headOf n h) (rowOf i b) (keyOf n a)) (fun s k => by omega)

theorem keys_sum (p : ℕ) (f : Fin 8192 → ℝ) : ∑ j : Fin 16, ∑ a : Fin 512, f (keyOf (16 * p + j.val) a) = ∑ s, f s := by
  rw [← sum_split (J := 16) (n := 512) rfl f (fun s k => by omega)]
  refine Finset.sum_congr rfl fun j _ => Finset.sum_congr rfl fun a _ => congrArg f (Fin.ext ?_)
  show (16 * p + j.val) % 16 * 512 + a.val = j.val * 512 + a.val
  omega

theorem head_same (p : ℕ) (j : ℕ) (hj : j < 16) (h : Fin 2) : headOf (16 * p + j) h = headOf (16 * p) h := Fin.ext (by simp only [headOf]; omega)

theorem z_at (p : ℕ) (j i : Fin 16) (h : Fin 2) (a b : Fin 512) : (opAt A (16 * p + j.val)).z i ((opAt A (16 * p + j.val)).w j.val i) h a b = A.ds (headOf (16 * p) h) (rowOf i b) (keyOf (16 * p + j.val) a) := by
  have e : (16 * p + j.val) % 16 = j.val := by omega
  have := z_eq A (16 * p + j.val) i h a b
  rw [e] at this
  rw [this, head_same p j.val j.isLt]

theorem val_D (p : ℕ) (h : Fin 2) (i : Fin 16) (x : Fin 128) (hx : x.val < 64) (b : Fin 512) : (rAt (opAt A) (16 * p + 15)).D h i x b * 0.125 = A.dq (headOf (16 * p) h) (rowOf i b) ⟨x.val, hx⟩ := by
  rw [(rAt_acc (opAt A) p 15 (by decide) h i b).1 x, upTo_all 15 (le_refl _)]
  unfold Args.dq
  rw [← keys_sum p]
  refine congrArg (· * 0.125) (Finset.sum_congr rfl fun j _ => Finset.sum_congr rfl fun a _ => ?_)
  rw [z_at]
  show A.kx _ _ _ * _ = _
  rw [kx_low _ _ _ _ hx, head_same p j.val j.isLt, mul_comm]

theorem val_E (p : ℕ) (h : Fin 2) (i : Fin 16) (b : Fin 512) : ∑ x : Fin 8, (rAt (opAt A) (16 * p + 15)).E h i x b = ∑ s, A.ds (headOf (16 * p) h) (rowOf i b) s := by
  have e : ∀ x : Fin 8, (rAt (opAt A) (16 * p + 15)).E h i x b = ∑ j : Fin 16, ∑ u : Fin 64, A.ds (headOf (16 * p) h) (rowOf i b) (keyOf (16 * p + j.val) ⟨u.val * 8 + x.val, by omega⟩) := by
    intro x
    rw [(rAt_acc (opAt A) p 15 (by decide) h i b).2 x, upTo_all 15 (le_refl _)]
    refine Finset.sum_congr rfl fun j _ => Finset.sum_congr rfl fun u _ => ?_
    rw [z_at]
  rw [Finset.sum_congr rfl fun x _ => e x, Finset.sum_comm, ← keys_sum p]
  refine Finset.sum_congr rfl fun j _ => ?_
  rw [Finset.sum_comm]
  exact sum_split (J := 64) (n := 8) rfl (fun a => A.ds (headOf (16 * p) h) (rowOf i b) (keyOf (16 * p + j.val) a)) (fun s k => by omega)

end Cert.Kernel.Hand

end
-- ==== Proof.Outs.lean ====
/- The output arrays after the run, over reals. -/
module

public import proofs.«01_k».proof.Proof.Sums
public import Idealize.ShloMosaic.Lib.Pipeline.Covers

@[expose] public section

set_option maxRecDepth 16384

noncomputable section

namespace Cert.Kernel.Hand

open Idealize.ShloMosaic Idealize.ShloMosaic.TcCoe Idealize.ShloMosaic.Tactic Idealize.ShloMosaic.StableHlo Idealize.SL.Sem
open Cert.Kernel Cert.Kernel.Gen Cert.Fox
open Idealize.ShloMosaic.Pipeline (Dat Cfg Window)

theorem tr6 : ∀ t : Fin grid0.N, cc0_transform_6 (grid0.coords t) = ![t.val % 16, t.val / 16] := by decide +kernel
theorem tr7 : ∀ t : Fin grid0.N, cc0_transform_7 (grid0.coords t) = ![t.val % 16, t.val / 16] := by decide +kernel
theorem tr8 : ∀ t : Fin grid0.N, cc0_transform_8 (grid0.coords t) = ![t.val / 16, t.val % 16, 0, 0] := by decide +kernel
theorem tr9 : ∀ t : Fin grid0.N, cc0_transform_9 (grid0.coords t) = ![t.val / 16, 0, 0, 0] := by decide +kernel
theorem tr10 : ∀ t : Fin grid0.N, cc0_transform_10 (grid0.coords t) = ![t.val / 16, 0, 0, 0] := by decide +kernel

theorem surj6 : ∀ β : (a : Fin 2) → Fin (![16, 4] a), ∃ t : Fin grid0.N, ∀ a, cc0_transform_6 (grid0.coords t) a = (β a).val := by decide +kernel
theorem surj7 : ∀ β : (a : Fin 2) → Fin (![16, 4] a), ∃ t : Fin grid0.N, ∀ a, cc0_transform_7 (grid0.coords t) a = (β a).val := by decide +kernel
theorem surj8 : ∀ β : (a : Fin 4) → Fin (![4, 16, 1, 1] a), ∃ t : Fin grid0.N, ∀ a, cc0_transform_8 (grid0.coords t) a = (β a).val := by decide +kernel
theorem surj9 : ∀ β : (a : Fin 4) → Fin (![4, 1, 1, 1] a), ∃ t : Fin grid0.N, ∀ a, cc0_transform_9 (grid0.coords t) a = (β a).val := by decide +kernel
theorem surj10 : ∀ β : (a : Fin 4) → Fin (![4, 1, 1, 1] a), ∃ t : Fin grid0.N, ∀ a, cc0_transform_10 (grid0.coords t) a = (β a).val := by decide +kernel

theorem lane_lt : ∀ x : Fin 128, IntOp.cmpi CmpIPredicate.slt (BitVec.ofNat 32 x.val) 64#32 = if x.val < 64 then 1#1 else 0#1 := by decide +kernel
theorem row_eq0 : ∀ u : Fin 8, IntOp.cmpi CmpIPredicate.eq (BitVec.ofNat 32 u.val) 0#32 = if u.val = 0 then 1#1 else 0#1 := by decide +kernel
theorem row_eq1 : ∀ u : Fin 8, IntOp.cmpi CmpIPredicate.eq (BitVec.ofNat 32 u.val) 1#32 = if u.val = 1 then 1#1 else 0#1 := by decide +kernel

/-- The keys' gradient block: the two heads side by side. -/
theorem pay77_at (a b : FVec Ideal S512x128 .f32) (r : Fin 512) (x : Fin 128) : (k0_pay77 a b : FVec Ideal S512x128 .bf16) (ix2 r x) = if h : x.val < 64 then a (ix2 r x) else b (ix2 r ⟨x.val - 64, by omega⟩) := by
  pointwise [k0_pay77, k0_pay76]
  have e : IntOp.cmpi CmpIPredicate.slt (BitVec.ofNat 32 x.val) 64#32 = if x.val < 64 then 1#1 else 0#1 := lane_lt x
  rw [e]
  split_ifs with h
  · simp [Scalar.select]
  · refine Eq.trans (b := b (ix2 r ⟨(x.val + 128 - 64) % 128, by omega⟩)) (by simp [Scalar.select]) ?_
    exact congrArg (fun z => b (ix2 r z)) (Fin.ext (by show (x.val + 128 - 64) % 128 = x.val - 64; omega))

/-- The values' gradient block. -/
theorem pay78_at (a b : FVec Ideal S512x128 .f32) (r : Fin 512) (x : Fin 128) : (k0_pay78 a b : FVec Ideal S512x128 .bf16) (ix2 r x) = if h : x.val < 64 then a (ix2 r x) else b (ix2 r ⟨x.val - 64, by omega⟩) := by
  pointwise [k0_pay78, k0_pay76]
  have e : IntOp.cmpi CmpIPredicate.slt (BitVec.ofNat 32 x.val) 64#32 = if x.val < 64 then 1#1 else 0#1 := lane_lt x
  rw [e]
  split_ifs with h
  · simp [Scalar.select]
  · refine Eq.trans (b := b (ix2 r ⟨(x.val + 128 - 64) % 128, by omega⟩)) (by simp [Scalar.select]) ?_
    exact congrArg (fun z => b (ix2 r z)) (Fin.ext (by show (x.val + 128 - 64) % 128 = x.val - 64; omega))

/-- The gates' gradient block: a row per head. -/
theorem pay1_at (a b : FVec Ideal S512x128 .f32) (u : Fin 8) (r : Fin 512) : (k0_pay1 a b : FVec Ideal S1x1x8x512 .f32) (ix4 0 0 u r) = if u.val = 0 then 0 - ∑ x, a (ix2 r x) else if u.val = 1 then 0 - ∑ x, b (ix2 r x) else 0 := by
  pointwise [k0_pay1]
  rw [row_eq0 u, row_eq1 u]
  split_ifs <;> simp [Scalar.select]

variable (m : (ℓ : Loc nD τ sig) → Buf (Elt Ideal) ℓ) (c : Dev nD) {A : Args} (H : KArgs (fun b => m (c, b)) A)

theorem in6 (t : Fin (cfgM m (ok m)).N) : ((cfgM m (ok m)).win 6).index t = ![t.val % 16, t.val / 16] := tr6 t
theorem in7 (t : Fin (cfgM m (ok m)).N) : ((cfgM m (ok m)).win 7).index t = ![t.val % 16, t.val / 16] := tr7 t
theorem in8 (t : Fin (cfgM m (ok m)).N) : ((cfgM m (ok m)).win 8).index t = ![t.val / 16, t.val % 16, 0, 0] := tr8 t
theorem in9 (t : Fin (cfgM m (ok m)).N) : ((cfgM m (ok m)).win 9).index t = ![t.val / 16, 0, 0, 0] := tr9 t
theorem in10 (t : Fin (cfgM m (ok m)).N) : ((cfgM m (ok m)).win 10).index t = ![t.val / 16, 0, 0, 0] := tr10 t

theorem nblk6 (a : Fin 2) : ((cfgM m (ok m)).win 6).nblk a = ![16, 4] a := by fin_cases a <;> sl_kernel_rfl
theorem cov6 : ((cfgM m (ok m)).win 6).Covers := Window.covers_of_index_surj _ rfl (by intro a; exact (by decide : ∀ a : Fin 2, 0 < ![512, 128] a) a) (fun β => surj6 fun a => ⟨(β a).val, lt_of_lt_of_eq (β a).isLt (nblk6 m a)⟩)
theorem nblk7 (a : Fin 2) : ((cfgM m (ok m)).win 7).nblk a = ![16, 4] a := by fin_cases a <;> sl_kernel_rfl
theorem cov7 : ((cfgM m (ok m)).win 7).Covers := Window.covers_of_index_surj _ rfl (by intro a; exact (by decide : ∀ a : Fin 2, 0 < ![512, 128] a) a) (fun β => surj7 fun a => ⟨(β a).val, lt_of_lt_of_eq (β a).isLt (nblk7 m a)⟩)
theorem nblk8 (a : Fin 4) : ((cfgM m (ok m)).win 8).nblk a = ![4, 16, 1, 1] a := by fin_cases a <;> sl_kernel_rfl
theorem cov8 : ((cfgM m (ok m)).win 8).Covers := Window.covers_of_index_surj _ rfl (by intro a; exact (by decide : ∀ a : Fin 4, 0 < ![1, 1, 8, 512] a) a) (fun β => surj8 fun a => ⟨(β a).val, lt_of_lt_of_eq (β a).isLt (nblk8 m a)⟩)
theorem nblk9 (a : Fin 4) : ((cfgM m (ok m)).win 9).nblk a = ![4, 1, 1, 1] a := by fin_cases a <;> sl_kernel_rfl
theorem cov9 : ((cfgM m (ok m)).win 9).Covers := Window.covers_of_index_surj _ rfl (by intro a; exact (by decide : ∀ a : Fin 4, 0 < ![2, 16, 128, 512] a) a) (fun β => surj9 fun a => ⟨(β a).val, lt_of_lt_of_eq (β a).isLt (nblk9 m a)⟩)
theorem nblk10 (a : Fin 4) : ((cfgM m (ok m)).win 10).nblk a = ![4, 1, 1, 1] a := by fin_cases a <;> sl_kernel_rfl
theorem cov10 : ((cfgM m (ok m)).win 10).Covers := Window.covers_of_index_surj _ rfl (by intro a; exact (by decide : ∀ a : Fin 4, 0 < ![2, 16, 8, 512] a) a) (fun β => surj10 fun a => ⟨(β a).val, lt_of_lt_of_eq (β a).isLt (nblk10 m a)⟩)

/-- The keys' gradient at a row and a column of the flat array. -/
def dkN (A : Args) (r c : ℕ) : ℝ := A.dk ⟨c / 64 % 8, Nat.mod_lt _ (by decide)⟩ ⟨r % 8192, Nat.mod_lt _ (by decide)⟩ ⟨c % 64, Nat.mod_lt _ (by decide)⟩
/-- The values' gradient at a row and a column of the flat array. -/
def dvN (A : Args) (r c : ℕ) : ℝ := A.dv ⟨c / 64 % 8, Nat.mod_lt _ (by decide)⟩ ⟨r % 8192, Nat.mod_lt _ (by decide)⟩ ⟨c % 64, Nat.mod_lt _ (by decide)⟩

theorem val_dk (n : ℕ) (hn : n < 64) (r : RSt) (h : Fin 2) (a : Fin 512) (x : Fin 128) (hx : x.val < 64) (R C : ℕ) (hR : R = n % 16 * 512 + a.val) (hC : C = n / 16 * 128 + h.val * 64 + x.val) : (rpart (opAt A n) (n % 16) 15 r).A h a x = dkN A R C := by
  rw [val_A A n r h a x hx]
  unfold dkN
  have e1 : headOf n h = ⟨C / 64 % 8, Nat.mod_lt _ (by decide)⟩ := Fin.ext (by simp only [headOf]; omega)
  have e2 : keyOf n a = ⟨R % 8192, Nat.mod_lt _ (by decide)⟩ := Fin.ext (by simp only [keyOf]; omega)
  have e3 : (⟨x.val, hx⟩ : Fin 64) = ⟨C % 64, Nat.mod_lt _ (by decide)⟩ := Fin.ext (by show x.val = C % 64; omega)
  rw [e1, e2, e3]

theorem val_dv (n : ℕ) (hn : n < 64) (r : RSt) (h : Fin 2) (a : Fin 512) (x : Fin 128) (hx : x.val < 64) (R C : ℕ) (hR : R = n % 16 * 512 + a.val) (hC : C = n / 16 * 128 + h.val * 64 + x.val) : (rpart (opAt A n) (n % 16) 15 r).B h a x = dvN A R C := by
  rw [val_B A n r h a x hx]
  unfold dvN
  have e1 : headOf n h = ⟨C / 64 % 8, Nat.mod_lt _ (by decide)⟩ := Fin.ext (by simp only [headOf]; omega)
  have e2 : keyOf n a = ⟨R % 8192, Nat.mod_lt _ (by decide)⟩ := Fin.ext (by simp only [keyOf]; omega)
  have e3 : (⟨x.val, hx⟩ : Fin 64) = ⟨C % 64, Nat.mod_lt _ (by decide)⟩ := Fin.ext (by show x.val = C % 64; omega)
  rw [e1, e2, e3]

theorem ix2_self {n k : ℕ} (y : (⟨2, ![n, k]⟩ : Shape).Idx) : y = ix2 (y 0) (y 1) := by funext a; fin_cases a <;> rfl
theorem ix4_self {n k l p : ℕ} (y : (⟨4, ![n, k, l, p]⟩ : Shape).Idx) : y = ix4 (y 0) (y 1) (y 2) (y 3) := by funext a; fin_cases a <;> rfl

/-- The gate gradient's part by keys, at a pair of heads, a key block, a head of the pair and a key. -/
def dfkN (A : Args) (p j u a : ℕ) : ℝ := ∑ t, A.ds ⟨(p * 2 + u) % 8, Nat.mod_lt _ (by decide)⟩ t ⟨(j * 512 + a) % 8192, Nat.mod_lt _ (by decide)⟩
/-- The queries' gradient at a head, a query block, a lane and a row. -/
def dqN (A : Args) (h i x b : ℕ) : ℝ := A.dq ⟨h % 8, Nat.mod_lt _ (by decide)⟩ ⟨(512 * i + b) % 8192, Nat.mod_lt _ (by decide)⟩ ⟨x % 64, Nat.mod_lt _ (by decide)⟩
/-- The gate gradient's part by queries, its eight partial sums. -/
def dfqN (A : Args) (h i r b : ℕ) : ℝ := (rAt (opAt A) (16 * (h / 2) + 15)).E ⟨h % 2, Nat.mod_lt _ (by decide)⟩ ⟨i % 16, Nat.mod_lt _ (by decide)⟩ ⟨r % 8, Nat.mod_lt _ (by decide)⟩ ⟨b % 512, Nat.mod_lt _ (by decide)⟩

section Blocks
include H

theorem holdsAt (n : ℕ) (hn : n < (cfgM m (ok m)).N) : Holds (stAt m c n hn) (rAt (opAt A) n) :=
  stAt_holds m c (opAt A) (holds_op m c H) n hn

theorem blk_dk (n : ℕ) (hn : n < (cfgM m (ok m)).N) (y : S512x128.Idx) (R C : ℕ) (hR : R = n % 16 * 512 + (y 0).val) (hC : C = n / 16 * 128 + (y 1).val) :
    (k0_pay77 (stAt m c n hn).1.1 (stAt m c n hn).1.2.2.2.1 : FVec Ideal S512x128 .bf16) y = cR (dkN A R C) := by
  have hn' := points_N m ⟨n, hn⟩
  have h := holdsAt m c H n hn
  obtain ⟨r, x, rfl⟩ : ∃ (r : Fin 512) (x : Fin 128), y = ix2 r x := ⟨_, _, ix2_self y⟩
  change R = n % 16 * 512 + r.val at hR
  change C = n / 16 * 128 + x.val at hC
  rw [pay77_at]
  split_ifs with hx
  · rw [h.a0, (rAt_carry _ n).1, val_dk n hn' _ 0 r x hx R C hR (by simp only [Fin.val_zero]; omega)]
  · rw [h.a1, (rAt_carry _ n).1, val_dk n hn' _ 1 r ⟨x.val - 64, by omega⟩ (by show x.val - 64 < 64; omega) R C hR (by simp only [Fin.val_one]; omega)]

theorem blk_dv (n : ℕ) (hn : n < (cfgM m (ok m)).N) (y : S512x128.Idx) (R C : ℕ) (hR : R = n % 16 * 512 + (y 0).val) (hC : C = n / 16 * 128 + (y 1).val) :
    (k0_pay78 (stAt m c n hn).1.2.1 (stAt m c n hn).1.2.2.2.2.1 : FVec Ideal S512x128 .bf16) y = cR (dvN A R C) := by
  have hn' := points_N m ⟨n, hn⟩
  have h := holdsAt m c H n hn
  obtain ⟨r, x, rfl⟩ : ∃ (r : Fin 512) (x : Fin 128), y = ix2 r x := ⟨_, _, ix2_self y⟩
  change R = n % 16 * 512 + r.val at hR
  change C = n / 16 * 128 + x.val at hC
  rw [pay78_at]
  split_ifs with hx
  · rw [h.b0, (rAt_carry _ n).2.1, val_dv n hn' _ 0 r x hx R C hR (by simp only [Fin.val_zero]; omega)]
  · rw [h.b1, (rAt_carry _ n).2.1, val_dv n hn' _ 1 r ⟨x.val - 64, by omega⟩ (by show x.val - 64 < 64; omega) R C hR (by simp only [Fin.val_one]; omega)]

theorem blk_df (n : ℕ) (hn : n < (cfgM m (ok m)).N) (y : S1x1x8x512.Idx) (p j u a : ℕ) (hp : p = n / 16) (hj : j = n % 16) (hu : u = (y 2).val) (ha : a = (y 3).val) (hu2 : u < 2) :
    (k0_pay1 (stAt m c n hn).1.2.2.1 (stAt m c n hn).1.2.2.2.2.2 : FVec Ideal S1x1x8x512 .f32) y = cR (-dfkN A p j u a) := by
  have hn' := points_N m ⟨n, hn⟩
  have h := holdsAt m c H n hn
  obtain ⟨v, r, rfl⟩ : ∃ (v : Fin 8) (r : Fin 512), y = ix4 0 0 v r := ⟨y 2, y 3, (ix4_self y).trans (by
    exact congrArg₂ (fun a b : Fin 1 => (ix4 a b (y 2) (y 3) : S1x1x8x512.Idx)) (Subsingleton.elim _ _) (Subsingleton.elim _ _))⟩
  change u = v.val at hu
  change a = r.val at ha
  have key : ∀ w : Fin 2, u = w.val → (∑ x, (rpart (opAt A n) (n % 16) 15 (rAt (opAt A) (n - 1))).C w r x) = dfkN A p j u a := fun w hw => by
    rw [val_C]
    unfold dfkN
    have e1 : headOf n w = ⟨(p * 2 + u) % 8, Nat.mod_lt _ (by decide)⟩ := Fin.ext (by simp only [headOf]; omega)
    have e2 : keyOf n r = ⟨(j * 512 + a) % 8192, Nat.mod_lt _ (by decide)⟩ := Fin.ext (by simp only [keyOf]; omega)
    rw [e1, e2]
  rw [pay1_at]
  by_cases h0 : v.val = 0
  · rw [if_pos h0, ← key 0 (by rw [hu, h0]; rfl)]
    simp only [h.c0, (rAt_carry _ n).2.2]
    rw [cE_sum, zero_sub]
    exact (EReal.coe_neg _).symm
  · have h1 : v.val = 1 := by omega
    rw [if_neg h0, if_pos h1, ← key 1 (by rw [hu, h1]; rfl)]
    simp only [h.c1, (rAt_carry _ n).2.2]
    rw [cE_sum, zero_sub]
    exact (EReal.coe_neg _).symm

theorem blk_dq (n : ℕ) (hn : n < (cfgM m (ok m)).N) (hf : n % 16 = 15) (y : S2x16x128x512.Idx) (w i x b : ℕ) (hw : w = n / 16 * 2 + (y 0).val) (hi : i = (y 1).val) (hx : x = (y 2).val) (hb : b = (y 3).val) (h64 : x < 64) :
    ∃ z : ℝ, (stAt m c n hn).2.1 y = cR z ∧ z * 0.125 = dqN A w i x b := by
  have hn' := points_N m ⟨n, hn⟩
  have h := holdsAt m c H n hn
  obtain ⟨w', i', x', b', rfl⟩ : ∃ (w' : Fin 2) (i' : Fin 16) (x' : Fin 128) (b' : Fin 512), y = ix4 w' i' x' b' := ⟨_, _, _, _, ix4_self y⟩
  change w = n / 16 * 2 + w'.val at hw
  change i = i'.val at hi
  change x = x'.val at hx
  change b = b'.val at hb
  refine ⟨_, h.de.d w' i' x' b', ?_⟩
  have hn2 : n = 16 * (n / 16) + 15 := by omega
  rw [show rAt (opAt A) n = rAt (opAt A) (16 * (n / 16) + 15) from congrArg _ hn2, val_D A (n / 16) w' i' x' (by omega) b']
  unfold dqN
  have e1 : headOf (16 * (n / 16)) w' = ⟨w % 8, Nat.mod_lt _ (by decide)⟩ := Fin.ext (by have : n < 64 := hn'; simp only [headOf]; omega)
  have e2 : rowOf i' b' = ⟨(512 * i + b) % 8192, Nat.mod_lt _ (by decide)⟩ := Fin.ext (by simp only [rowOf]; omega)
  have e3 : (⟨x'.val, by omega⟩ : Fin 64) = ⟨x % 64, Nat.mod_lt _ (by decide)⟩ := Fin.ext (by show x'.val = x % 64; omega)
  rw [e1, e2, e3]

theorem blk_fq (n : ℕ) (hn : n < (cfgM m (ok m)).N) (hf : n % 16 = 15) (y : S2x16x8x512.Idx) (w i r b : ℕ) (hw : w = n / 16 * 2 + (y 0).val) (hi : i = (y 1).val) (hr : r = (y 2).val) (hb : b = (y 3).val) :
    (stAt m c n hn).2.2 y = cR (dfqN A w i r b) := by
  have h := holdsAt m c H n hn
  obtain ⟨w', i', x', b', rfl⟩ : ∃ (w' : Fin 2) (i' : Fin 16) (x' : Fin 8) (b' : Fin 512), y = ix4 w' i' x' b' := ⟨_, _, _, _, ix4_self y⟩
  change w = n / 16 * 2 + w'.val at hw
  refine (h.de.e w' i' x' b').trans ?_
  have hn2 : n = 16 * (w / 2) + 15 := by omega
  change i = i'.val at hi
  change r = x'.val at hr
  change b = b'.val at hb
  unfold dfqN
  have e1 : i' = ⟨i % 16, Nat.mod_lt _ (by decide)⟩ := Fin.ext (by show i'.val = i % 16; omega)
  have e2 : x' = ⟨r % 8, Nat.mod_lt _ (by decide)⟩ := Fin.ext (by show x'.val = r % 8; omega)
  have e3 : b' = ⟨b % 512, Nat.mod_lt _ (by decide)⟩ := Fin.ext (by show b'.val = b % 512; omega)
  rw [← e1, ← e2, ← e3]
  rw [← hn2, show (⟨w % 2, Nat.mod_lt _ (by decide)⟩ : Fin 2) = w' from Fin.ext (by show w % 2 = w'.val; omega)]

theorem out_dk (i : S8192x512.Idx) : (vdats m 0 c).arrAt 6 (cfgM m (ok m)).N i = cR (dkN A (i 0).val (i 1).val) := by
  refine (vdats m 0 c).arrAt_forall_of_covers 6 (fun (i : S8192x512.Idx) (v : EReal) => v = cR (dkN A (i 0).val (i 1).val)) (cov6 m) (fun t hf y => ?_) i
  blk_simp
  rw [vafter0_6, in6]
  exact blk_dk m c H t.val t.isLt y _ _ rfl rfl

theorem out_dv (i : S8192x512.Idx) : (vdats m 0 c).arrAt 7 (cfgM m (ok m)).N i = cR (dvN A (i 0).val (i 1).val) := by
  refine (vdats m 0 c).arrAt_forall_of_covers 7 (fun (i : S8192x512.Idx) (v : EReal) => v = cR (dvN A (i 0).val (i 1).val)) (cov7 m) (fun t hf y => ?_) i
  blk_simp
  rw [vafter0_7, in7]
  exact blk_dv m c H t.val t.isLt y _ _ rfl rfl

theorem out_fk (i : S4x16x8x512.Idx) : (i 2).val < 2 → (vdats m 0 c).arrAt 8 (cfgM m (ok m)).N i = cR (-dfkN A (i 0).val (i 1).val (i 2).val (i 3).val) := by
  refine (vdats m 0 c).arrAt_forall_of_covers 8 (fun (i : S4x16x8x512.Idx) (v : EReal) => (i 2).val < 2 → v = cR (-dfkN A (i 0).val (i 1).val (i 2).val (i 3).val)) (cov8 m) (fun t hf y => ?_) i
  blk_simp
  rw [vafter0_8, in8]
  exact fun h2 => blk_df m c H t.val t.isLt y _ _ _ _ rfl rfl (by show 0 * 8 + _ = _; rw [Nat.zero_mul, Nat.zero_add]) (by show 0 * 512 + _ = _; rw [Nat.zero_mul, Nat.zero_add]) h2

theorem out_dq (i : S8x16x128x512.Idx) : (i 2).val < 64 → ∃ z : ℝ, (vdats m 0 c).arrAt 9 (cfgM m (ok m)).N i = cR z ∧ z * 0.125 = dqN A (i 0).val (i 1).val (i 2).val (i 3).val := by
  refine (vdats m 0 c).arrAt_forall_of_covers 9 (fun (i : S8x16x128x512.Idx) (v : EReal) => (i 2).val < 64 → ∃ z : ℝ, v = cR z ∧ z * 0.125 = dqN A (i 0).val (i 1).val (i 2).val (i 3).val) (cov9 m) (fun t hf y => ?_) i
  blk_simp
  rw [vafter0_9, in9]
  exact fun h2 => blk_dq m c H t.val t.isLt ((flush0_9 (adm m (ok m)) t).mp hf) y _ _ _ _ rfl (by show 0 * 16 + _ = _; rw [Nat.zero_mul, Nat.zero_add]) (by show 0 * 128 + _ = _; rw [Nat.zero_mul, Nat.zero_add]) (by show 0 * 512 + _ = _; rw [Nat.zero_mul, Nat.zero_add]) h2

theorem out_fq (i : S8x16x8x512.Idx) : (vdats m 0 c).arrAt 10 (cfgM m (ok m)).N i = cR (dfqN A (i 0).val (i 1).val (i 2).val (i 3).val) := by
  refine (vdats m 0 c).arrAt_forall_of_covers 10 (fun (i : S8x16x8x512.Idx) (v : EReal) => v = cR (dfqN A (i 0).val (i 1).val (i 2).val (i 3).val)) (cov10 m) (fun t hf y => ?_) i
  blk_simp
  rw [vafter0_10, in10]
  exact blk_fq m c H t.val t.isLt ((flush0_10 (adm m (ok m)) t).mp hf) y _ _ _ _ rfl (by show 0 * 16 + _ = _; rw [Nat.zero_mul, Nat.zero_add]) (by show 0 * 8 + _ = _; rw [Nat.zero_mul, Nat.zero_add]) (by show 0 * 512 + _ = _; rw [Nat.zero_mul, Nat.zero_add])

end Blocks

end Cert.Kernel.Hand

end
-- ==== Proof.Suffix.lean ====
/- The host's lines after the launch, over reals: the queries' gradient and the gate's. -/
module

public import proofs.«01_k».proof.Proof.Outs

@[expose] public section

set_option maxRecDepth 16384

noncomputable section

namespace Cert.Kernel.Hand

open Idealize.ShloMosaic Idealize.ShloMosaic.TcCoe Idealize.ShloMosaic.Tactic Idealize.ShloMosaic.StableHlo Idealize.SL.Sem
open Cert.Kernel Cert.Kernel.Gen Cert.Fox

variable {V : Valuation τ sig (Elt Ideal)}

/-- The queries' gradient: the lanes in use, the rows in order, the scale. -/
theorem sx_dq {A : Args} (hD : ∀ (h : Fin 8) (i : Fin 16) (x : Fin 128) (b : Fin 512), x.val < 64 → ∃ z : ℝ, (V (Proc.devRef .tc main_v92_3) : FVec Ideal S8x16x128x512 .f32) (ix4 h i x b) = cE z ∧ z * 0.125 = dqN A h.val i.val x.val b.val)
    (t : Fin 8192) (d : Fin 512) : (after hostOps1 V (Proc.devRef .tc main_v98) : FVec Ideal S8192x512 .bf16) (ix2 t d) = cE (dqN A (d.val / 64) (t.val / 512) (d.val % 64) (t.val % 512)) := by
  obtain ⟨z, h1, h2⟩ := hD ⟨d.val / 64, by omega⟩ ⟨t.val / 512, by omega⟩ ⟨d.val % 64, by omega⟩ ⟨t.val % 512, by omega⟩ (by show d.val % 64 < 64; omega)
  after_reads_at
  refine Eq.trans ?_ (congrArg cE h2)
  exact (congrArg₂ (fun a b : EReal => a * b) h1 lit_eighth).trans (cE_mul _ _)

/-- The gate's gradient: what the keys give and what the queries give. -/
theorem sx_df {A : Args} (hC : ∀ (p : Fin 4) (j : Fin 16) (u : Fin 8) (a : Fin 512), u.val < 2 → (V (Proc.devRef .tc main_v92_2) : FVec Ideal S4x16x8x512 .f32) (ix4 p j u a) = cE (-dfkN A p.val j.val u.val a.val))
    (hE : ∀ (h : Fin 8) (i : Fin 16) (r : Fin 8) (b : Fin 512), (V (Proc.devRef .tc main_v92_4) : FVec Ideal S8x16x8x512 .f32) (ix4 h i r b) = cE (dfqN A h.val i.val r.val b.val))
    (t : Fin 8192) (h : Fin 8) : (after hostOps1 V (Proc.devRef .tc main_v105) : FVec Ideal S8192x8 .f32) (ix2 t h)
      = cE (-dfkN A (h.val / 2) (t.val / 512) (h.val % 2) (t.val % 512) + ∑ r : Fin 8, dfqN A h.val (t.val / 512) r.val (t.val % 512)) := by
  have h1 := hC ⟨h.val / 2, by omega⟩ ⟨t.val / 512, by omega⟩ ⟨h.val % 2, by omega⟩ ⟨t.val % 512, by omega⟩ (by show h.val % 2 < 2; omega)
  have h2 : ∀ r, (V (Proc.devRef .tc main_v92_4) : FVec Ideal S8x16x8x512 .f32) (ix4 h ⟨t.val / 512, by omega⟩ r ⟨t.val % 512, by omega⟩) = cE (dfqN A h.val (t.val / 512) r.val (t.val % 512)) := fun r => hE _ _ _ _
  after_reads_at
  simp only [h1, h2, cE_sum, cE_add]

theorem sx_keep (b : Ref sig .tc) (hb : b = main_v92_0 ∨ b = main_v92_1) : after hostOps1 V (Proc.devRef .tc b) = V (Proc.devRef .tc b) := by
  rcases hb with rfl | rfl <;> after_results

end Cert.Kernel.Hand

end
-- ==== Proof.Final.lean ====
/- The four results after the kernel's run, over reals. -/
module

public import proofs.«01_k».proof.Proof.Suffix

@[expose] public section

set_option maxRecDepth 16384

noncomputable section

namespace Cert.Kernel.Hand

open Idealize.ShloMosaic Idealize.ShloMosaic.TcCoe Idealize.ShloMosaic.Tactic Idealize.ShloMosaic.StableHlo Idealize.SL.Sem
open Cert.Kernel Cert.Kernel.Gen Cert.Fox

theorem dkN_eq (A : Args) (t : Fin 8192) (d : Fin 512) : dkN A t.val d.val = A.dk ⟨d.val / 64, by omega⟩ t ⟨d.val % 64, by omega⟩ := by
  unfold dkN
  have e1 : (⟨d.val / 64 % 8, Nat.mod_lt _ (by decide)⟩ : Fin 8) = ⟨d.val / 64, by omega⟩ := Fin.ext (by show d.val / 64 % 8 = d.val / 64; omega)
  have e2 : (⟨t.val % 8192, Nat.mod_lt _ (by decide)⟩ : Fin 8192) = t := Fin.ext (by show t.val % 8192 = t.val; omega)
  rw [e1, e2]
theorem dvN_eq (A : Args) (t : Fin 8192) (d : Fin 512) : dvN A t.val d.val = A.dv ⟨d.val / 64, by omega⟩ t ⟨d.val % 64, by omega⟩ := by
  unfold dvN
  have e1 : (⟨d.val / 64 % 8, Nat.mod_lt _ (by decide)⟩ : Fin 8) = ⟨d.val / 64, by omega⟩ := Fin.ext (by show d.val / 64 % 8 = d.val / 64; omega)
  have e2 : (⟨t.val % 8192, Nat.mod_lt _ (by decide)⟩ : Fin 8192) = t := Fin.ext (by show t.val % 8192 = t.val; omega)
  rw [e1, e2]
theorem dqN_eq (A : Args) (t : Fin 8192) (d : Fin 512) : dqN A (d.val / 64) (t.val / 512) (d.val % 64) (t.val % 512) = A.dq ⟨d.val / 64, by omega⟩ t ⟨d.val % 64, by omega⟩ := by
  unfold dqN
  have e1 : (⟨d.val / 64 % 8, Nat.mod_lt _ (by decide)⟩ : Fin 8) = ⟨d.val / 64, by omega⟩ := Fin.ext (by show d.val / 64 % 8 = d.val / 64; omega)
  have e2 : (⟨(512 * (t.val / 512) + t.val % 512) % 8192, Nat.mod_lt _ (by decide)⟩ : Fin 8192) = t := Fin.ext (by show (512 * (t.val / 512) + t.val % 512) % 8192 = t.val; omega)
  have e3 : (⟨d.val % 64 % 64, Nat.mod_lt _ (by decide)⟩ : Fin 64) = ⟨d.val % 64, by omega⟩ := Fin.ext (by show d.val % 64 % 64 = d.val % 64; omega)
  rw [e1, e2, e3]
theorem dfN_eq (A : Args) (t : Fin 8192) (h : Fin 8) : -dfkN A (h.val / 2) (t.val / 512) (h.val % 2) (t.val % 512) + ∑ r : Fin 8, dfqN A h.val (t.val / 512) r.val (t.val % 512) = A.df h t := by
  have k1 : dfkN A (h.val / 2) (t.val / 512) (h.val % 2) (t.val % 512) = ∑ t', A.ds h t' t := by
    unfold dfkN
    have e1 : (⟨(h.val / 2 * 2 + h.val % 2) % 8, Nat.mod_lt _ (by decide)⟩ : Fin 8) = h := Fin.ext (by show (h.val / 2 * 2 + h.val % 2) % 8 = h.val; omega)
    have e2 : (⟨(t.val / 512 * 512 + t.val % 512) % 8192, Nat.mod_lt _ (by decide)⟩ : Fin 8192) = t := Fin.ext (by show (t.val / 512 * 512 + t.val % 512) % 8192 = t.val; omega)
    rw [e1, e2]
  have k2 : ∑ r : Fin 8, dfqN A h.val (t.val / 512) r.val (t.val % 512) = ∑ s, A.ds h t s := by
    have := val_E A (h.val / 2) ⟨h.val % 2, Nat.mod_lt _ (by decide)⟩ ⟨t.val / 512, by omega⟩ ⟨t.val % 512, by omega⟩
    have e1 : headOf (16 * (h.val / 2)) ⟨h.val % 2, Nat.mod_lt _ (by decide)⟩ = h := Fin.ext (by simp only [headOf]; omega)
    have e2 : rowOf ⟨t.val / 512, by omega⟩ ⟨t.val % 512, by omega⟩ = t := Fin.ext (by simp only [rowOf]; omega)
    rw [e1, e2] at this
    rw [← this]
    refine Finset.sum_congr rfl fun r _ => ?_
    unfold dfqN
    have f1 : (⟨t.val / 512 % 16, Nat.mod_lt _ (by decide)⟩ : Fin 16) = ⟨t.val / 512, by omega⟩ := Fin.ext (by show t.val / 512 % 16 = t.val / 512; omega)
    have f2 : (⟨r.val % 8, Nat.mod_lt _ (by decide)⟩ : Fin 8) = r := Fin.ext (by show r.val % 8 = r.val; omega)
    have f3 : (⟨t.val % 512 % 512, Nat.mod_lt _ (by decide)⟩ : Fin 512) = ⟨t.val % 512, by omega⟩ := Fin.ext (by show t.val % 512 % 512 = t.val % 512; omega)
    rw [f1, f2, f3]
  rw [k1, k2]
  unfold Args.df
  ring

section End
variable (m : (ℓ : Loc nD τ sig) → Buf (Elt Ideal) ℓ) (c : Dev nD) {A : Args} (H : KArgs (fun b => m (c, b)) A)

/-- The buffers as the launch leaves them. -/
def X : Valuation τ sig (Elt Ideal) := Pipeline.withArrays (Pipeline.pin pcfgs (fun _ => adm m (ok m)) 0).spec c (V0 m c) fun w => (vdats m 0 c).arrAt w (cfgM m (ok m)).N

theorem tail_eq (b : Ref sig .tc) : Pipeline.afterTail pcfgs (fun _ => adm m (ok m)) (vdats m) 0 (V0 m) [hostOps1] c b = after hostOps1 (X m c) (Proc.devRef .tc b) := rfl

theorem arr_ne : Function.Injective (Pipeline.arrRef spec0) := by
  intro a b h
  have key : ∀ a b : Fin 11, Pipeline.arrRef spec0 a = Pipeline.arrRef spec0 b → a = b := by decide
  exact key a b h

theorem X_arr (w : Fin 11) : X m c (Proc.devRef .tc (Pipeline.arrRef spec0 w)) = (vdats m 0 c).arrAt w (cfgM m (ok m)).N :=
  Pipeline.withArrays_arr spec0 arr_ne c (V0 m c) (fun w => (vdats m 0 c).arrAt w (cfgM m (ok m)).N) w

include H in
theorem end_dq (t : Fin 8192) (d : Fin 512) : (Pipeline.afterTail pcfgs (fun _ => adm m (ok m)) (vdats m) 0 (V0 m) [hostOps1] c main_v98 : FVec Ideal S8192x512 .bf16) (ix2 t d) = cE (A.dq ⟨d.val / 64, by omega⟩ t ⟨d.val % 64, by omega⟩) := by
  rw [tail_eq, ← dqN_eq]
  refine sx_dq (fun h i x b hx => ?_) t d
  obtain ⟨z, h1, h2⟩ := out_dq m c H (ix4 h i x b) hx
  exact ⟨z, (congrFun (X_arr m c 9) (ix4 h i x b)).trans h1, h2⟩

include H in
theorem end_df (t : Fin 8192) (h : Fin 8) : (Pipeline.afterTail pcfgs (fun _ => adm m (ok m)) (vdats m) 0 (V0 m) [hostOps1] c main_v105 : FVec Ideal S8192x8 .f32) (ix2 t h) = cE (A.df h t) := by
  rw [tail_eq, ← dfN_eq]
  refine sx_df (fun p j u a hu => ?_) (fun h i r b => ?_) t h
  · exact (congrFun (X_arr m c 8) (ix4 p j u a)).trans (out_fk m c H (ix4 p j u a) hu)
  · exact (congrFun (X_arr m c 10) (ix4 h i r b)).trans (out_fq m c H (ix4 h i r b))

/-- The run's results and its arguments, as the claim reads them. -/
theorem value_run (ρ : Dev nD → PrngReg) (A : Dev nD → Args) (H : ∀ c, KArgs (fun b => m (c, b)) (A c)) :
    θ_run defs (onTc (τ := τ) (main (F := Ideal))) ⟨m, fun _ => 0, ρ⟩ (fun r => ∀ c : Dev nD,
      (∀ t d, (r.2.mem ((c.tc : Thread nD τ).loc main_v98) : FVec Ideal S8192x512 .bf16) (ix2 t d) = cE ((A c).dq ⟨d.val / 64, by omega⟩ t ⟨d.val % 64, by omega⟩))
      ∧ (∀ t d, (r.2.mem ((c.tc : Thread nD τ).loc main_v92_0) : FVec Ideal S8192x512 .bf16) (ix2 t d) = cE ((A c).dk ⟨d.val / 64, by omega⟩ t ⟨d.val % 64, by omega⟩))
      ∧ (∀ t d, (r.2.mem ((c.tc : Thread nD τ).loc main_v92_1) : FVec Ideal S8192x512 .bf16) (ix2 t d) = cE ((A c).dv ⟨d.val / 64, by omega⟩ t ⟨d.val % 64, by omega⟩))
      ∧ (∀ t h, (r.2.mem ((c.tc : Thread nD τ).loc main_v105) : FVec Ideal S8192x8 .f32) (ix2 t h) = cE ((A c).df h t))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (vrun m ρ) fun r hr c => ?_
  have h := hr.1
  refine ⟨fun t d => ?_, fun t d => ?_, fun t d => ?_, fun t h' => ?_, ?_, ?_, ?_, ?_, ?_⟩
  · exact (congrFun (h.rest_eq c main_v98 (by exact (by decide : main_v98 ∈ Pipeline.restRefs sig spec0))) (ix2 t d)).trans (end_dq m c (H c) t d)
  · exact (congrFun (h.out_eq c 6) (ix2 t d)).trans ((out_dk m c (H c) (ix2 t d)).trans (congrArg cE (dkN_eq (A c) t d)))
  · exact (congrFun (h.out_eq c 7) (ix2 t d)).trans ((out_dv m c (H c) (ix2 t d)).trans (congrArg cE (dvN_eq (A c) t d)))
  · exact (congrFun (h.rest_eq c main_v105 (by exact (by decide : main_v105 ∈ Pipeline.restRefs sig spec0))) (ix2 t h')).trans (end_df m c (H c) t h')
  · exact (h.rest_eq c main_arg0 (by exact (by decide : main_arg0 ∈ Pipeline.restRefs sig spec0))).trans (W_main_arg0 m (ok m) (vdats m) c)
  · exact (h.rest_eq c main_arg1 (by exact (by decide : main_arg1 ∈ Pipeline.restRefs sig spec0))).trans (W_main_arg1 m (ok m) (vdats m) c)
  · exact (h.rest_eq c main_arg2 (by exact (by decide : main_arg2 ∈ Pipeline.restRefs sig spec0))).trans (W_main_arg2 m (ok m) (vdats m) c)
  · exact (h.rest_eq c main_arg3 (by exact (by decide : main_arg3 ∈ Pipeline.restRefs sig spec0))).trans (W_main_arg3 m (ok m) (vdats m) c)
  · exact (h.rest_eq c main_arg4 (by exact (by decide : main_arg4 ∈ Pipeline.restRefs sig spec0))).trans (W_main_arg4 m (ok m) (vdats m) c)

end End

end Cert.Kernel.Hand

end
-- ==== Proof.RefVal1.lean ====
/- The reference's values at an index, over reals: the scores and the softmax. -/
module

public import proofs.«01_k».proof.Proof.RefRun
public import proofs.«01_k».proof.Proof.Model
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic Idealize.ShloMosaic.StableHlo Idealize.SL.Sem
open Cert.ReferenceIdeal Cert.ReferenceIdeal.Gen Cert.Fox

/-- The five arguments hold these reals. -/
structure RefArgs (V : Valuation τ sig (Elt Ideal)) (A : Args) : Prop where
  q : ∀ t c, (V (Proc.devRef .tc main_arg0) : FVec Ideal S8192x512 .bf16) (ix2 t c) = cE (A.q t c)
  k : ∀ t c, (V (Proc.devRef .tc main_arg1) : FVec Ideal S8192x512 .bf16) (ix2 t c) = cE (A.k t c)
  v : ∀ t c, (V (Proc.devRef .tc main_arg2) : FVec Ideal S8192x512 .bf16) (ix2 t c) = cE (A.v t c)
  f : ∀ t c, (V (Proc.devRef .tc main_arg3) : FVec Ideal S8192x8 .f32) (ix2 t c) = cE (A.f t c)
  g : ∀ t c, (V (Proc.devRef .tc main_arg4) : FVec Ideal S8192x512 .f32) (ix2 t c) = cE (A.g t c)

section One

variable {V : Valuation τ sig (Elt Ideal)} {A : Args} (H : RefArgs V A)

include H in
set_option maxHeartbeats 1000000 in
theorem w1_v22_0 (h : Fin 8) (t s : Fin 8192) : (after ops1 V (Proc.devRef .tc main_v22_0) : FVec Ideal S8x8192x8192 .f32) (ix3 h t s) = if s.val ≤ t.val then cE (A.L h t s) else ⊥ := by
  after_reads_at
  simp only [H.q, H.k, H.f, sel_mask _ _ s.isLt t.isLt, lit_eighth, cE_mul, cE_sum, cE_add, cE_sub]
  refine congrArg (fun z : EReal => if s.val ≤ t.val then cE (A.L h t s) else z) ?_
  exact lit_bot

set_option maxHeartbeats 1000000 in
theorem w1_v22_1 (V : Valuation τ sig (Elt Ideal)) (h : Fin 8) (t s : Fin 8192) : (after ops1 V (Proc.devRef .tc main_v22_1) : IVec S8x8192x8192 1) (ix3 h t s) = BitVec.ofBool (decide (s.val ≤ t.val)) := by
  after_reads_at
  exact WordCmp.cmpi_sle_ofNat (by omega) (by omega)

include H in
theorem w1_v3 (h : Fin 8) (t : Fin 8192) (d : Fin 64) : (after ops1 V (Proc.devRef .tc main_v3) : FVec Ideal S8192x8x64 .f32) (ix3 t h d) = cE (A.q t (col h d)) := by
  after_reads_at
  exact H.q t (col h d)

include H in
theorem w1_v4 (h : Fin 8) (t : Fin 8192) (d : Fin 64) : (after ops1 V (Proc.devRef .tc main_v4) : FVec Ideal S8192x8x64 .f32) (ix3 t h d) = cE (A.k t (col h d)) := by
  after_reads_at
  exact H.k t (col h d)

include H in
theorem w1_v2 (t : Fin 8192) (c : Fin 512) : (after ops1 V (Proc.devRef .tc main_v2) : FVec Ideal S8192x512 .f32) (ix2 t c) = cE (A.v t c) := by
  after_reads_at
  exact H.v t c

include H in
theorem w1_arg4 (t : Fin 8192) (c : Fin 512) : (after ops1 V (Proc.devRef .tc main_arg4) : FVec Ideal S8192x512 .f32) (ix2 t c) = cE (A.g t c) := by
  after_reads_at
  exact H.g t c

end One

variable {F : FTy → Type} [FloatOps F] in
/-- The rows' greatest logits. -/
abbrev ops2a : List (HloOp τ sig (Elt F)) :=
  [ nullary main_cst_1 (constant S_ .f32 0xFF800000#32),
    binary main_v22_0 main_cst_1 main_v23 ((fun x v => Host.reduce FloatOps.maximumf x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)) ]

variable {F : FTy → Type} [FloatOps F] in
/-- The rest of the softmax. -/
abbrev ops2b : List (HloOp τ sig (Elt F)) :=
  [ reshape main_v23 main_v24 (rfl : (.f32 : EltTy) = .f32) shapeCasts_S8x8192_S8x8192x1,
    unary main_v24 main_v25 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22_0 main_v25 main_v26 (cmpf .oeq : (⟨S8x8192x8192, .f32⟩ : BufTy).Contents (Elt F) → (⟨S8x8192x8192, .f32⟩ : BufTy).Contents (Elt F) → (⟨S8x8192x8192, .i1⟩ : BufTy).Contents (Elt F)),
    unary main_v26 main_v27 (uitofp .f32 : (⟨S8x8192x8192, .i1⟩ : BufTy).Contents (Elt F) → (⟨S8x8192x8192, .f32⟩ : BufTy).Contents (Elt F)),
    nullary main_cst_2 (constant S_ .f32 0x00000000#32),
    binary main_v27 main_cst_2 main_v28 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    nullary main_cst_3 (constant S_ .f32 0xFF800000#32),
    unary main_cst_3 main_v29 (broadcastInDim S8x8192 ![] bcast_S_S8x8192 : (⟨S_, .f32⟩ : BufTy).Contents (Elt F) → (⟨S8x8192, .f32⟩ : BufTy).Contents (Elt F)),
    binary main_v29 main_v23 main_v30 (maximumf : (⟨S8x8192, .f32⟩ : BufTy).Contents (Elt F) → (⟨S8x8192, .f32⟩ : BufTy).Contents (Elt F) → (⟨S8x8192, .f32⟩ : BufTy).Contents (Elt F)),
    nullary main_cst_4 (constant S_ .f32 0xFF800000#32),
    unary main_cst_4 main_v31 (broadcastInDim S8x8192 ![] bcast_S_S8x8192 : (⟨S_, .f32⟩ : BufTy).Contents (Elt F) → (⟨S8x8192, .f32⟩ : BufTy).Contents (Elt F)),
    binary main_v23 main_v31 main_v32 (cmpf .ogt : (⟨S8x8192, .f32⟩ : BufTy).Contents (Elt F) → (⟨S8x8192, .f32⟩ : BufTy).Contents (Elt F) → (⟨S8x8192, .i1⟩ : BufTy).Contents (Elt F)),
    nullary main_cst_5 (constant S_ .f32 0xFF800000#32),
    unary main_cst_5 main_v33 (broadcastInDim S8x8192 ![] bcast_S_S8x8192 : (⟨S_, .f32⟩ : BufTy).Contents (Elt F) → (⟨S8x8192, .f32⟩ : BufTy).Contents (Elt F)),
    binary main_v23 main_v33 main_v34 (cmpf .oeq : (⟨S8x8192, .f32⟩ : BufTy).Contents (Elt F) → (⟨S8x8192, .f32⟩ : BufTy).Contents (Elt F) → (⟨S8x8192, .i1⟩ : BufTy).Contents (Elt F)),
    nullary main_cst_6 (constant S_ .f32 0x3F800000#32),
    unary main_cst_6 main_v35 (broadcastInDim S8x8192 ![] bcast_S_S8x8192 : (⟨S_, .f32⟩ : BufTy).Contents (Elt F) → (⟨S8x8192, .f32⟩ : BufTy).Contents (Elt F)),
    nullary main_cst_7 (constant S_ .f32 0x00000000#32),
    unary main_cst_7 main_v36 (broadcastInDim S8x8192 ![] bcast_S_S8x8192 : (⟨S_, .f32⟩ : BufTy).Contents (Elt F) → (⟨S8x8192, .f32⟩ : BufTy).Contents (Elt F)),
    nullary main_cst_8 (constant S_ .f32 0x3F000000#32),
    unary main_cst_8 main_v37 (broadcastInDim S8x8192 ![] bcast_S_S8x8192 : (⟨S_, .f32⟩ : BufTy).Contents (Elt F) → (⟨S8x8192, .f32⟩ : BufTy).Contents (Elt F)),
    ternary main_v34 main_v37 main_v36 main_v38 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    ternary main_v32 main_v35 main_v38 main_v39 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    unary main_v30 main_v40 (broadcastInDim S8x8192x1 ![0, 1] bcast_S8x8192_S8x8192x1_0_1 : (⟨S8x8192, .f32⟩ : BufTy).Contents (Elt F) → (⟨S8x8192x1, .f32⟩ : BufTy).Contents (Elt F)),
    unary main_v40 main_v41 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v22_0 main_v41 main_v42 (subf : (⟨S8x8192x8192, .f32⟩ : BufTy).Contents (Elt F) → (⟨S8x8192x8192, .f32⟩ : BufTy).Contents (Elt F) → (⟨S8x8192x8192, .f32⟩ : BufTy).Contents (Elt F)),
    unary main_v42 main_v43 (Host.exp : (⟨S8x8192x8192, .f32⟩ : BufTy).Contents (Elt F) → (⟨S8x8192x8192, .f32⟩ : BufTy).Contents (Elt F)),
    nullary main_cst_9 (constant S_ .f32 0x00000000#32),
    binary main_v43 main_cst_9 main_v44 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    unary main_v44 main_v45 (broadcastInDim S8x8192x1 ![0, 1] bcast_S8x8192_S8x8192x1_0_1 : (⟨S8x8192, .f32⟩ : BufTy).Contents (Elt F) → (⟨S8x8192x1, .f32⟩ : BufTy).Contents (Elt F)),
    unary main_v45 main_v46 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    binary main_v43 main_v46 main_v47 (Host.divf : (⟨S8x8192x8192, .f32⟩ : BufTy).Contents (Elt F) → (⟨S8x8192x8192, .f32⟩ : BufTy).Contents (Elt F) → (⟨S8x8192x8192, .f32⟩ : BufTy).Contents (Elt F)),
    binary main_v45 main_v45 main_v48 (mulf : (⟨S8x8192x1, .f32⟩ : BufTy).Contents (Elt F) → (⟨S8x8192x1, .f32⟩ : BufTy).Contents (Elt F) → (⟨S8x8192x1, .f32⟩ : BufTy).Contents (Elt F)) ]

theorem ops2_cut (V : Valuation τ sig (Elt Ideal)) : after ops2 V = after ops2b (after ops2a V) := rfl

section Two

variable {V : Valuation τ sig (Elt Ideal)} {A : Args}
  (H : ∀ h t s, (V (Proc.devRef .tc main_v22_0) : FVec Ideal S8x8192x8192 .f32) (ix3 h t s) = if s.val ≤ t.val then cE (A.L h t s) else ⊥)

include H in
theorem w2a_v23 (h : Fin 8) (t : Fin 8192) : (after ops2a V (Proc.devRef .tc main_v23) : FVec Ideal S8x8192 .f32) (ix2 h t) = cE (A.M h t) := by
  have e : (after ops2a V (Proc.devRef .tc main_v23) : FVec Ideal S8x8192 .f32) (ix2 h t) = Finset.univ.fold max (Ideal.ofBits .f32 0xFF800000#32) (fun x : Fin 8192 => (V (Proc.devRef .tc main_v22_0) : FVec Ideal S8x8192x8192 .f32) (ix3 h t x)) := by
    after_reads_at
  rw [e, lit_bot]
  have e2 : (fun x : Fin 8192 => (V (Proc.devRef .tc main_v22_0) : FVec Ideal S8x8192x8192 .f32) (ix3 h t x)) = fun x => if x.val ≤ t.val then cE (A.L h t x) else ⊥ := funext fun x => H h t x
  rw [e2]
  exact fold_M A h t

theorem w2a_v22 (V : Valuation τ sig (Elt Ideal)) : after ops2a V (Proc.devRef .tc main_v22_0) = V (Proc.devRef .tc main_v22_0) := by
  after_results

variable (h23 : ∀ h t, (V (Proc.devRef .tc main_v23) : FVec Ideal S8x8192 .f32) (ix2 h t) = cE (A.M h t))

include H h23 in
theorem w2b_v43 (h : Fin 8) (t s : Fin 8192) : (after ops2b V (Proc.devRef .tc main_v43) : FVec Ideal S8x8192x8192 .f32) (ix3 h t s) = cE (A.ex (A.M h t) h t s) := by
  after_reads_at
  simp only [H, h23, lit_bot, bot_le, max_eq_right]
  exact exp_masked A _ h t s

include H h23 in
theorem w2b_v45 (h : Fin 8) (t : Fin 8192) : (after ops2b V (Proc.devRef .tc main_v45) : FVec Ideal S8x8192x1 .f32) (ix3 h t 0) = cE (A.S (A.M h t) h t) := by
  after_reads_at
  simp only [H, h23, lit_bot, bot_le, max_eq_right, exp_masked, cE_sum]
  rfl

include H h23 in
theorem w2b_v47 (h : Fin 8) (t s : Fin 8192) : (after ops2b V (Proc.devRef .tc main_v47) : FVec Ideal S8x8192x8192 .f32) (ix3 h t s) = cE (A.P h t s) := by
  after_reads_at
  simp only [H, h23, lit_bot, bot_le, max_eq_right, exp_masked, cE_sum]
  exact (cE_div _ _ (S_pos A (A.M h t) h t).ne').trans (congrArg cE (P_shift A (A.M h t) h t s))

include H h23 in
theorem w2b_v48 (h : Fin 8) (t : Fin 8192) : (after ops2b V (Proc.devRef .tc main_v48) : FVec Ideal S8x8192x1 .f32) (ix3 h t 0) = cE (A.S (A.M h t) h t * A.S (A.M h t) h t) := by
  after_reads_at
  simp only [H, h23, lit_bot, bot_le, max_eq_right, exp_masked, cE_sum, cE_mul]
  rfl

/-- What the softmax leaves alone. -/
theorem w2_keep (V : Valuation τ sig (Elt Ideal)) (b : Ref sig .tc) (hb : b = main_v22_1 ∨ b = main_v3 ∨ b = main_v4 ∨ b = main_v2 ∨ b = main_arg4) : after ops2 V (Proc.devRef .tc b) = V (Proc.devRef .tc b) := by
  rcases hb with rfl | rfl | rfl | rfl | rfl <;> after_results

end Two

end Cert.ReferenceIdeal.Hand

end
-- ==== Proof.RefVal2.lean ====
/- The reference's values at an index, over reals: the derivatives. -/
module

public import proofs.«01_k».proof.Proof.RefVal1

@[expose] public section

set_option maxRecDepth 16384

noncomputable section

namespace Cert.ReferenceIdeal.Hand

open Idealize.ShloMosaic Idealize.ShloMosaic.TcCoe Idealize.ShloMosaic.Tactic Idealize.ShloMosaic.StableHlo Idealize.SL.Sem
open Cert.ReferenceIdeal Cert.ReferenceIdeal.Gen Cert.Fox

section Three

variable {V : Valuation τ sig (Elt Ideal)} {A : Args}
  (h48 : ∀ h t, (V (Proc.devRef .tc main_v48) : FVec Ideal S8x8192x1 .f32) (ix3 h t 0) = cE (A.S (A.M h t) h t * A.S (A.M h t) h t))
  (h47 : ∀ h t s, (V (Proc.devRef .tc main_v47) : FVec Ideal S8x8192x8192 .f32) (ix3 h t s) = cE (A.P h t s))
  (h2 : ∀ t c, (V (Proc.devRef .tc main_v2) : FVec Ideal S8192x512 .f32) (ix2 t c) = cE (A.v t c))
  (hg : ∀ t c, (V (Proc.devRef .tc main_arg4) : FVec Ideal S8192x512 .f32) (ix2 t c) = cE (A.g t c))

include h48 in
theorem w3_v50 (h : Fin 8) (t : Fin 8192) : (after ops3 V (Proc.devRef .tc main_v50) : FVec Ideal S8x8192x1 .f32) (ix3 h t 0) = cE (1 / (A.S (A.M h t) h t * A.S (A.M h t) h t)) := by
  after_reads_at
  simp only [h48]
  exact cE_div 1 _ (mul_pos (S_pos A _ h t) (S_pos A _ h t)).ne'

include h2 hg in
theorem w3_v57 (h : Fin 8) (t s : Fin 8192) : (after ops3 V (Proc.devRef .tc main_v57) : FVec Ideal S8x8192x8192 .f32) (ix3 h t s) = cE (A.dp h t s) := by
  after_reads_at
  simp only [h2, hg, cE_mul, cE_sum]
  rfl

include h47 hg in
theorem w3_v60 (s : Fin 8192) (c : Fin 512) : (after ops3 V (Proc.devRef .tc main_v60) : FVec Ideal S8192x512 .f32) (ix2 s c) = cE (A.dv ⟨c.val / 64, by omega⟩ s ⟨c.val % 64, by omega⟩) := by
  after_reads_at
  simp only [h47, hg, cE_mul, cE_sum]
  exact congrArg cE (Finset.sum_congr rfl fun i _ => mul_comm _ _)

/-- What this stretch leaves alone. -/
theorem w3_keep (b : Ref sig .tc) (hb : b = main_v22_1 ∨ b = main_v3 ∨ b = main_v4 ∨ b = main_v43 ∨ b = main_v45) : after ops3 V (Proc.devRef .tc b) = V (Proc.devRef .tc b) := by
  rcases hb with rfl | rfl | rfl | rfl | rfl <;> after_results

end Three

section Four

variable {V : Valuation τ sig (Elt Ideal)} {A : Args}
  (h43 : ∀ h t s, (V (Proc.devRef .tc main_v43) : FVec Ideal S8x8192x8192 .f32) (ix3 h t s) = cE (A.ex (A.M h t) h t s))
  (h45 : ∀ h t, (V (Proc.devRef .tc main_v45) : FVec Ideal S8x8192x1 .f32) (ix3 h t 0) = cE (A.S (A.M h t) h t))
  (h50 : ∀ h t, (V (Proc.devRef .tc main_v50) : FVec Ideal S8x8192x1 .f32) (ix3 h t 0) = cE (1 / (A.S (A.M h t) h t * A.S (A.M h t) h t)))
  (h57 : ∀ h t s, (V (Proc.devRef .tc main_v57) : FVec Ideal S8x8192x8192 .f32) (ix3 h t s) = cE (A.dp h t s))
  (hm : ∀ h t s, (V (Proc.devRef .tc main_v22_1) : IVec S8x8192x8192 1) (ix3 h t s) = BitVec.ofBool (decide (s.val ≤ t.val)))

include h43 h45 h50 h57 hm in
set_option maxHeartbeats 1000000 in
theorem w4_v73 (h : Fin 8) (t s : Fin 8192) : (after ops4 V (Proc.devRef .tc main_v73) : FVec Ideal S8x8192x8192 .f32) (ix3 h t s) = cE (A.ds h t s) := by
  after_reads_at
  simp only [h43, h45, h50, h57, hm, cE_mul, cE_sum, cE_neg, cE_div _ _ (S_pos A _ h t).ne', cE_add]
  rw [← ds_ref A (A.M h t) h t s]
  by_cases hs : s.val ≤ t.val
  · simp [hs, Scalar.select]
  · simp [hs, Scalar.select]

theorem w4_keep (b : Ref sig .tc) (hb : b = main_v60 ∨ b = main_v3 ∨ b = main_v4) : after ops4 V (Proc.devRef .tc b) = V (Proc.devRef .tc b) := by
  rcases hb with rfl | rfl | rfl <;> after_results

end Four

section Five

variable {V : Valuation τ sig (Elt Ideal)} {A : Args}
  (h73 : ∀ h t s, (V (Proc.devRef .tc main_v73) : FVec Ideal S8x8192x8192 .f32) (ix3 h t s) = cE (A.ds h t s))
  (h3 : ∀ h t d, (V (Proc.devRef .tc main_v3) : FVec Ideal S8192x8x64 .f32) (ix3 t h d) = cE (A.q t (col h d)))
  (h4 : ∀ h t d, (V (Proc.devRef .tc main_v4) : FVec Ideal S8192x8x64 .f32) (ix3 t h d) = cE (A.k t (col h d)))
  (h60 : ∀ s c, (V (Proc.devRef .tc main_v60) : FVec Ideal S8192x512 .f32) (ix2 s c) = cE (A.dv ⟨c.val / 64, by omega⟩ s ⟨c.val % 64, by omega⟩))

include h73 in
set_option maxHeartbeats 1000000 in
theorem w5_v82 (t : Fin 8192) (h : Fin 8) : (after ops5 V (Proc.devRef .tc main_v82) : FVec Ideal S8192x8 .f32) (ix2 t h) = cE (A.df h t) := by
  after_reads_at
  simp only [h73, cE_mul, cE_sum, cE_neg, cE_add]
  unfold Args.df
  simp only [Finset.univ_unique, Finset.sum_singleton, Finset.sum_neg_distrib, neg_add_eq_sub]

include h73 h4 in
set_option maxHeartbeats 1000000 in
theorem w5_v91 (t : Fin 8192) (c : Fin 512) : (after ops5 V (Proc.devRef .tc main_v91) : FVec Ideal S8192x512 .bf16) (ix2 t c) = cE (A.dq ⟨c.val / 64, by omega⟩ t ⟨c.val % 64, by omega⟩) := by
  after_reads_at
  simp only [h73, h4, lit_eighth, cE_mul, cE_sum]
  unfold Args.dq
  rw [Finset.sum_mul]
  refine congrArg cE (Finset.sum_congr rfl fun i _ => ?_)
  exact mul_right_comm _ _ _

include h73 h3 in
set_option maxHeartbeats 1000000 in
theorem w5_v92 (t : Fin 8192) (c : Fin 512) : (after ops5 V (Proc.devRef .tc main_v92) : FVec Ideal S8192x512 .bf16) (ix2 t c) = cE (A.dk ⟨c.val / 64, by omega⟩ t ⟨c.val % 64, by omega⟩) := by
  after_reads_at
  simp only [h73, h3, lit_eighth, cE_mul, cE_sum]
  unfold Args.dk
  rw [Finset.sum_mul]
  refine congrArg cE (Finset.sum_congr rfl fun i _ => ?_)
  exact mul_right_comm _ _ _

include h60 in
theorem w5_v93 (t : Fin 8192) (c : Fin 512) : (after ops5 V (Proc.devRef .tc main_v93) : FVec Ideal S8192x512 .bf16) (ix2 t c) = cE (A.dv ⟨c.val / 64, by omega⟩ t ⟨c.val % 64, by omega⟩) := by
  after_reads_at
  exact h60 t c

end Five

end Cert.ReferenceIdeal.Hand

end
-- ==== Proof.RefVal3.lean ====
/- The reference's four results at an index, over reals. -/
module

public import proofs.«01_k».proof.Proof.RefVal2

@[expose] public section

noncomputable section

namespace Cert.ReferenceIdeal.Hand

open Idealize.ShloMosaic Idealize.ShloMosaic.TcCoe Idealize.ShloMosaic.Tactic Idealize.ShloMosaic.StableHlo Idealize.SL.Sem
open Cert.ReferenceIdeal Cert.ReferenceIdeal.Gen Cert.Fox

variable (m : (ℓ : Loc nD τ sig) → Buf (Elt Ideal) ℓ) (c : Dev nD) {A : Args} (H : RefArgs (W0 m c) A)

include H in
theorem W2_23 (h t) : (after ops2a (W1 m c) (Proc.devRef .tc main_v23) : FVec Ideal S8x8192 .f32) (ix2 h t) = cE (A.M h t) := w2a_v23 (w1_v22_0 H) h t
include H in
theorem W2_22 (h t s) : (after ops2a (W1 m c) (Proc.devRef .tc main_v22_0) : FVec Ideal S8x8192x8192 .f32) (ix3 h t s) = if s.val ≤ t.val then cE (A.L h t s) else ⊥ := by
  rw [w2a_v22]; exact w1_v22_0 H h t s
include H in
theorem W2_43 (h t s) : (W2 m c (Proc.devRef .tc main_v43) : FVec Ideal S8x8192x8192 .f32) (ix3 h t s) = cE (A.ex (A.M h t) h t s) := by
  unfold W2; rw [ops2_cut]; exact w2b_v43 (W2_22 m c H) (W2_23 m c H) h t s
include H in
theorem W2_45 (h t) : (W2 m c (Proc.devRef .tc main_v45) : FVec Ideal S8x8192x1 .f32) (ix3 h t 0) = cE (A.S (A.M h t) h t) := by
  unfold W2; rw [ops2_cut]; exact w2b_v45 (W2_22 m c H) (W2_23 m c H) h t
include H in
theorem W2_47 (h t s) : (W2 m c (Proc.devRef .tc main_v47) : FVec Ideal S8x8192x8192 .f32) (ix3 h t s) = cE (A.P h t s) := by
  unfold W2; rw [ops2_cut]; exact w2b_v47 (W2_22 m c H) (W2_23 m c H) h t s
include H in
theorem W2_48 (h t) : (W2 m c (Proc.devRef .tc main_v48) : FVec Ideal S8x8192x1 .f32) (ix3 h t 0) = cE (A.S (A.M h t) h t * A.S (A.M h t) h t) := by
  unfold W2; rw [ops2_cut]; exact w2b_v48 (W2_22 m c H) (W2_23 m c H) h t
include H in
theorem W2_2 (t d) : (W2 m c (Proc.devRef .tc main_v2) : FVec Ideal S8192x512 .f32) (ix2 t d) = cE (A.v t d) := by
  unfold W2; rw [w2_keep _ _ (by simp)]; exact w1_v2 H t d
include H in
theorem W2_g (t d) : (W2 m c (Proc.devRef .tc main_arg4) : FVec Ideal S8192x512 .f32) (ix2 t d) = cE (A.g t d) := by
  unfold W2; rw [w2_keep _ _ (by simp)]; exact w1_arg4 H t d
include H in
theorem W3_q (h t d) : (W3 m c (Proc.devRef .tc main_v3) : FVec Ideal S8192x8x64 .f32) (ix3 t h d) = cE (A.q t (col h d)) := by
  unfold W3 W2; rw [w3_keep _ (by simp), w2_keep _ _ (by simp)]; exact w1_v3 H h t d
include H in
theorem W3_k (h t d) : (W3 m c (Proc.devRef .tc main_v4) : FVec Ideal S8192x8x64 .f32) (ix3 t h d) = cE (A.k t (col h d)) := by
  unfold W3 W2; rw [w3_keep _ (by simp), w2_keep _ _ (by simp)]; exact w1_v4 H h t d
include H in
theorem W3_m (h t s) : (W3 m c (Proc.devRef .tc main_v22_1) : IVec S8x8192x8192 1) (ix3 h t s) = BitVec.ofBool (decide (s.val ≤ t.val)) := by
  unfold W3 W2; rw [w3_keep _ (by simp), w2_keep _ _ (by simp)]; exact w1_v22_1 _ h t s
include H in
theorem W3_43 (h t s) : (W3 m c (Proc.devRef .tc main_v43) : FVec Ideal S8x8192x8192 .f32) (ix3 h t s) = cE (A.ex (A.M h t) h t s) := by
  unfold W3; rw [w3_keep _ (by simp)]; exact W2_43 m c H h t s
include H in
theorem W3_45 (h t) : (W3 m c (Proc.devRef .tc main_v45) : FVec Ideal S8x8192x1 .f32) (ix3 h t 0) = cE (A.S (A.M h t) h t) := by
  unfold W3; rw [w3_keep _ (by simp)]; exact W2_45 m c H h t
include H in
theorem W4_73 (h t s) : (W4 m c (Proc.devRef .tc main_v73) : FVec Ideal S8x8192x8192 .f32) (ix3 h t s) = cE (A.ds h t s) := by
  unfold W4
  exact w4_v73 (W3_43 m c H) (W3_45 m c H) (w3_v50 (W2_48 m c H)) (w3_v57 (W2_2 m c H) (W2_g m c H)) (W3_m m c H) h t s
include H in
theorem W4_q (h t d) : (W4 m c (Proc.devRef .tc main_v3) : FVec Ideal S8192x8x64 .f32) (ix3 t h d) = cE (A.q t (col h d)) := by
  unfold W4; rw [w4_keep _ (by simp)]; exact W3_q m c H h t d
include H in
theorem W4_k (h t d) : (W4 m c (Proc.devRef .tc main_v4) : FVec Ideal S8192x8x64 .f32) (ix3 t h d) = cE (A.k t (col h d)) := by
  unfold W4; rw [w4_keep _ (by simp)]; exact W3_k m c H h t d
include H in
theorem W4_60 (s : Fin 8192) (d : Fin 512) : (W4 m c (Proc.devRef .tc main_v60) : FVec Ideal S8192x512 .f32) (ix2 s d) = cE (A.dv ⟨d.val / 64, by omega⟩ s ⟨d.val % 64, by omega⟩) := by
  unfold W4; rw [w4_keep _ (by simp)]; exact w3_v60 (W2_47 m c H) (W2_g m c H) s d

include H in
/-- The gradient of the queries. -/
theorem ref_dq (t : Fin 8192) (d : Fin 512) : (W5 m c (Proc.devRef .tc main_v91) : FVec Ideal S8192x512 .bf16) (ix2 t d) = cE (A.dq ⟨d.val / 64, by omega⟩ t ⟨d.val % 64, by omega⟩) :=
  w5_v91 (W4_73 m c H) (W4_k m c H) t d
include H in
/-- The gradient of the keys. -/
theorem ref_dk (t : Fin 8192) (d : Fin 512) : (W5 m c (Proc.devRef .tc main_v92) : FVec Ideal S8192x512 .bf16) (ix2 t d) = cE (A.dk ⟨d.val / 64, by omega⟩ t ⟨d.val % 64, by omega⟩) :=
  w5_v92 (W4_73 m c H) (W4_q m c H) t d
include H in
/-- The gradient of the values. -/
theorem ref_dv (t : Fin 8192) (d : Fin 512) : (W5 m c (Proc.devRef .tc main_v93) : FVec Ideal S8192x512 .bf16) (ix2 t d) = cE (A.dv ⟨d.val / 64, by omega⟩ t ⟨d.val % 64, by omega⟩) :=
  w5_v93 (W4_60 m c H) t d
include H in
/-- The gradient of the cumulative log forget gates. -/
theorem ref_df (t : Fin 8192) (h : Fin 8) : (W5 m c (Proc.devRef .tc main_v82) : FVec Ideal S8192x8 .f32) (ix2 t h) = cE (A.df h t) :=
  w5_v82 (W4_73 m c H) t h

end Cert.ReferenceIdeal.Hand

end
-- ==== Proof.PreFinite.lean ====
/- The precondition, read: every argument's entry is a real number. -/
module

public import proofs.«01_k».proof.Proof.Model
public import proofs.«01_k».proof.Proof.Gen.Pre_finite

@[expose] public section

set_option maxRecDepth 16384

noncomputable section

namespace Cert.Fox

open Idealize.ShloMosaic

theorem lit_top : Ideal.ofBits .f32 0x7F800000#32 = ⊤ := by
  simp [Ideal.ofBits, Ideal.ieee]

theorem foldl_and {α : Type} (g : α → BitVec 1) : ∀ (l : List α) (a : BitVec 1), l.foldl (fun r n => IntOp.andi r (g n)) a = 1#1 → a = 1#1 ∧ ∀ n ∈ l, g n = 1#1
  | [], a, h => ⟨h, by simp⟩
  | n :: l, a, h => by
    obtain ⟨h1, h2⟩ := foldl_and g l _ h
    have h3 : a = 1#1 ∧ g n = 1#1 := (by decide : ∀ a b : BitVec 1, IntOp.andi a b = 1#1 → a = 1#1 ∧ b = 1#1) _ _ h1
    exact ⟨h3.1, by simpa using ⟨h3.2, h2⟩⟩

/-- An `and` over a whole array that is true is true everywhere. -/
theorem all_of_reduce {s : Shape} {axes : List (Fin s.rank)} (x : IVec s 1) (init : IVec ⟨0, ![]⟩ 1) (h : s.ReducesTo axes ⟨0, ![]⟩) (hu : 0 < (⟨0, ![]⟩ : Shape).numel) (j : (⟨0, ![]⟩ : Shape).Idx) (e : Host.reduce IntOp.andi x init h hu j = 1#1) (i : s.Idx) : x i = 1#1 := by
  have := (foldl_and (fun n => x (s.rowMajor.symm n)) _ _ e).2 (s.rowMajor i) (by
    simp only [List.mem_filter, List.mem_finRange, true_and, decide_eq_true_eq]
    exact funext fun a => a.elim0)
  simpa using this

/-- A number whose size is under infinity is real. -/
theorem real_of_abs (x : EReal) (h : FloatOps.cmpf (F := Ideal) (φ := .f32) .olt (FloatOps.hostAbsf (F := Ideal) (φ := .f32) x) (Ideal.ofBits .f32 0x7F800000#32) = 1#1) : x = cE x.toReal := by
  rw [lit_top] at h
  have h2 : max x (-x) < ⊤ := by
    by_contra hc
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hc]; rfl
    rw [this] at h
    exact absurd h (by decide)
  refine (EReal.coe_toReal ?_ ?_).symm
  · rintro rfl; simp at h2
  · rintro rfl; simp at h2

open Cert.Pre_finite in
theorem entries (a0 a1 a2 : FVec Ideal S8192x512 .bf16) (a3 : FVec Ideal S8192x8 .f32) (a4 : FVec Ideal S8192x512 .f32) (h : Cert.Pre_finite.fn (F := Ideal) a0 a1 a2 a3 a4 = fun _ => 1#1) :
    (∀ i, a0 i = cE (EReal.toReal (a0 i))) ∧ (∀ i, a1 i = cE (EReal.toReal (a1 i))) ∧ (∀ i, a2 i = cE (EReal.toReal (a2 i))) ∧ (∀ i, a3 i = cE (EReal.toReal (a3 i))) ∧ (∀ i, a4 i = cE (EReal.toReal (a4 i))) := by
  have e := congrFun h (fun a => a.elim0)
  unfold Cert.Pre_finite.fn Cert.Pre_finite.fn_part1 at e
  have and1 : ∀ a b : BitVec 1, IntOp.andi a b = 1#1 → a = 1#1 ∧ b = 1#1 := by decide
  obtain ⟨e, e4⟩ := and1 _ _ e
  obtain ⟨e, e3⟩ := and1 _ _ e
  obtain ⟨e, e2⟩ := and1 _ _ e
  obtain ⟨e0, e1⟩ := and1 _ _ e
  exact ⟨fun i => real_of_abs _ (all_of_reduce _ _ _ _ _ e0 i), fun i => real_of_abs _ (all_of_reduce _ _ _ _ _ e1 i), fun i => real_of_abs _ (all_of_reduce _ _ _ _ _ e2 i),
    fun i => real_of_abs _ (all_of_reduce _ _ _ _ _ e3 i), fun i => real_of_abs _ (all_of_reduce _ _ _ _ _ e4 i)⟩

end Cert.Fox

end
-- ==== Proof.Algebra.lean ====
/- The value claim: the kernel's four results and the reference's are the same reals. -/
module

public import proofs.«01_k».proof.Proof.Final
public import proofs.«01_k».proof.Proof.RefVal3
public import proofs.«01_k».proof.Proof.PreFinite
public import proofs.«01_k».proof.Proof.Frames

@[expose] public section

set_option maxRecDepth 16384

noncomputable section

namespace Cert.Hand

open Idealize.ShloMosaic Idealize.ShloMosaic.Tactic Idealize.SL.Sem Cert.Fox

/-- The value claim over the reals, said of the program printed for the bit reading. -/
def ValueAtIdeal : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.Kernel.nD, (Cert.Pre_finite.fn (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)) →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)) →
    ∃ (v0 : (c : Dev Cert.Kernel.nD) → Buf (Elt Ideal) ((c.tc : Thread Cert.Kernel.nD Cert.Kernel.τ).loc Cert.Kernel.main_v98)) (v1 : (c : Dev Cert.Kernel.nD) → Buf (Elt Ideal) ((c.tc : Thread Cert.Kernel.nD Cert.Kernel.τ).loc Cert.Kernel.main_v92_0)) (v2 : (c : Dev Cert.Kernel.nD) → Buf (Elt Ideal) ((c.tc : Thread Cert.Kernel.nD Cert.Kernel.τ).loc Cert.Kernel.main_v92_1)) (v3 : (c : Dev Cert.Kernel.nD) → Buf (Elt Ideal) ((c.tc : Thread Cert.Kernel.nD Cert.Kernel.τ).loc Cert.Kernel.main_v105)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v98) = v0 c
          ∧ r.2.mem ((c.tc : Thread Cert.Kernel.nD Cert.Kernel.τ).loc Cert.Kernel.main_v92_0) = v1 c
          ∧ r.2.mem ((c.tc : Thread Cert.Kernel.nD Cert.Kernel.τ).loc Cert.Kernel.main_v92_1) = v2 c
          ∧ r.2.mem ((c.tc : Thread Cert.Kernel.nD Cert.Kernel.τ).loc Cert.Kernel.main_v105) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

/-- The two printed kernels are one text, so the two statements are one. -/
theorem valueAtIdeal_eq : ValueAtIdeal = algebraic_KernelIdeal_ReferenceIdeal_pre_finite (hKernelIdeal := Cert.KernelIdeal.Gen.facts) (hReferenceIdeal := Cert.ReferenceIdeal.Gen.facts) (hPre_finite := Cert.Pre_finite.Gen.facts) := by
  sl_kernel_rfl

/-- The arguments as reals. -/
def argsOf (m : (ℓ : Loc Cert.Kernel.nD Cert.Kernel.τ Cert.Kernel.sig) → Buf (Elt Ideal) ℓ) (c : Dev Cert.Kernel.nD) : Args where
  q t d := EReal.toReal ((m ((c.tc : Thread Cert.Kernel.nD Cert.Kernel.τ).loc Cert.Kernel.main_arg0) : FVec Ideal Cert.Kernel.S8192x512 .bf16) (Idealize.ShloMosaic.ix2 t d))
  k t d := EReal.toReal ((m ((c.tc : Thread Cert.Kernel.nD Cert.Kernel.τ).loc Cert.Kernel.main_arg1) : FVec Ideal Cert.Kernel.S8192x512 .bf16) (Idealize.ShloMosaic.ix2 t d))
  v t d := EReal.toReal ((m ((c.tc : Thread Cert.Kernel.nD Cert.Kernel.τ).loc Cert.Kernel.main_arg2) : FVec Ideal Cert.Kernel.S8192x512 .bf16) (Idealize.ShloMosaic.ix2 t d))
  f t h := EReal.toReal ((m ((c.tc : Thread Cert.Kernel.nD Cert.Kernel.τ).loc Cert.Kernel.main_arg3) : FVec Ideal Cert.Kernel.S8192x8 .f32) (Idealize.ShloMosaic.ix2 t h))
  g t d := EReal.toReal ((m ((c.tc : Thread Cert.Kernel.nD Cert.Kernel.τ).loc Cert.Kernel.main_arg4) : FVec Ideal Cert.Kernel.S8192x512 .f32) (Idealize.ShloMosaic.ix2 t d))

/-- Two arrays that hold the same reals are one. -/
theorem same_of {n k : ℕ} (x y : (⟨2, ![n, k]⟩ : Shape).Idx → EReal) (z : Fin n → Fin k → ℝ) (hx : ∀ a b, x (Idealize.ShloMosaic.ix2 a b) = cE (z a b)) (hy : ∀ a b, y (Idealize.ShloMosaic.ix2 a b) = cE (z a b)) : x = y := by
  funext i
  rw [Cert.Kernel.Hand.ix2_self i]
  exact (hx _ _).trans (hy _ _).symm

theorem valueAtIdeal : ValueAtIdeal := by
  intro m g m' g' hpre harg
  have hK : ∀ c, Cert.Kernel.Hand.KArgs (fun b => m (c, b)) (argsOf m c) := fun c => by
    obtain ⟨h0, h1, h2, h3, h4⟩ := entries _ _ _ _ _ (hpre c)
    exact ⟨fun t d => h0 _, fun t d => h1 _, fun t d => h2 _, fun t d => h3 _, fun t d => h4 _⟩
  have hR : ∀ c : Dev Cert.ReferenceIdeal.nD, Cert.ReferenceIdeal.Hand.RefArgs (Cert.ReferenceIdeal.Hand.W0 m' c) (argsOf m c) := fun c => by
    obtain ⟨e0, e1, e2, e3, e4⟩ := harg c
    exact ⟨fun t d => (congrFun e0 _).trans ((hK c).q t d), fun t d => (congrFun e1 _).trans ((hK c).k t d), fun t d => (congrFun e2 _).trans ((hK c).v t d), fun t d => (congrFun e3 _).trans ((hK c).f t d), fun t d => (congrFun e4 _).trans ((hK c).g t d)⟩
  refine ⟨fun c => Cert.ReferenceIdeal.Hand.W5 m' c (Proc.devRef .tc Cert.ReferenceIdeal.main_v91), fun c => Cert.ReferenceIdeal.Hand.W5 m' c (Proc.devRef .tc Cert.ReferenceIdeal.main_v92),
    fun c => Cert.ReferenceIdeal.Hand.W5 m' c (Proc.devRef .tc Cert.ReferenceIdeal.main_v93), fun c => Cert.ReferenceIdeal.Hand.W5 m' c (Proc.devRef .tc Cert.ReferenceIdeal.main_v82), ?_, ?_⟩
  · refine θ_run_mono (Cert.Kernel.Hand.value_run m g (argsOf m) hK) fun r hr c => ?_
    obtain ⟨hq, hk, hv, hf, ha⟩ := hr c
    refine ⟨?_, ?_, ?_, ?_, ha⟩
    · exact same_of _ _ _ hq (Cert.ReferenceIdeal.Hand.ref_dq m' c (hR c))
    · exact same_of _ _ _ hk (Cert.ReferenceIdeal.Hand.ref_dk m' c (hR c))
    · exact same_of _ _ _ hv (Cert.ReferenceIdeal.Hand.ref_dv m' c (hR c))
    · exact same_of _ _ (fun t h => (argsOf m c).df h t) hf (Cert.ReferenceIdeal.Hand.ref_df m' c (hR c))
  · refine θ_run_mono (Cert.ReferenceIdeal.Hand.run m' g') fun r hr c => ?_
    exact ⟨hr c _, hr c _, hr c _, hr c _, (hr c _).trans (Cert.ReferenceIdeal.Hand.W5_arg m' c _ (by simp)), (hr c _).trans (Cert.ReferenceIdeal.Hand.W5_arg m' c _ (by simp)),
      (hr c _).trans (Cert.ReferenceIdeal.Hand.W5_arg m' c _ (by simp)), (hr c _).trans (Cert.ReferenceIdeal.Hand.W5_arg m' c _ (by simp)), (hr c _).trans (Cert.ReferenceIdeal.Hand.W5_arg m' c _ (by simp))⟩

/-- The value claim. -/
theorem values : algebraic_KernelIdeal_ReferenceIdeal_pre_finite (hKernelIdeal := Cert.KernelIdeal.Gen.facts) (hReferenceIdeal := Cert.ReferenceIdeal.Gen.facts) (hPre_finite := Cert.Pre_finite.Gen.facts) :=
  Eq.mp valueAtIdeal_eq valueAtIdeal

end Cert.Hand

end
-- ==== Proof.Up.lean ====
/- The backward pass of the up projection, the weights' gradient: each block of the result is the sum over its row blocks. -/
module

public import proofs.«01_k».proof.Proof.Gen.KernelUpIdeal.Frame
public import Idealize.ShloMosaic.Lib.Pipeline.ValueKit

@[expose] public section

set_option maxRecDepth 16384

noncomputable section

namespace Cert.KernelUpIdeal.Hand

open Cert.KernelUpIdeal Cert.KernelUpIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weights' gradient, chip by chip: the sum over the rows of the sequence. -/
def gw (h : FVec Ideal S8192x1024 .bf16) (d : FVec Ideal S2x8192x2816 .bf16) : FVec Ideal S4x1024x1408 .f32 :=
  fun i => ∑ l : Fin 8192, h (ix2 l (i 1)) * d (ix3 (⟨(i 0 : ℕ) / 2, by have : (i 0 : ℕ) < 4 := (i 0).isLt; omega⟩ : Fin 2) l
    (⟨(i 0 : ℕ) % 2 * 1408 + (i 2 : ℕ), by have : (i 2 : ℕ) < 1408 := (i 2).isLt; omega⟩ : Fin 2816))

theorem hzero (j : S1x1024x1408.Idx) : k1_pay1 (F := Ideal) j = 0 := by pointwise [k1_pay1]

theorem hpay (acc : Vec Ideal S1x1024x1408 .f32) (x0 : Vec Ideal S1024x1024 .bf16) (x1 : Vec Ideal S1x1024x1408 .bf16) (j : S1x1024x1408.Idx) :
    k1_pay2 (F := Ideal) acc x0 x1 j = acc j + ∑ k : Fin 1024, x0 (ix2 k (j 1)) * x1 (ix3 (0 : Fin 1) k (j 2)) := by
  pointwise [k1_pay2]

theorem idx1 : ∀ t : Fin cfg1.N, win1_0.index t = ![t.val % 8, 0] ∧ win1_1.index t = ![t.val / 16, t.val % 8, t.val / 8 % 2]
    ∧ win1_2.index t = ![t.val / 8, 0, 0] ∧ t.val < 32 :=
  (by decide +kernel : ∀ t : Fin grid1.N, _)

theorem final_gw (c : Dev nD) : (dat1 V c).arrAt 2 cfg1.N = gw (V c main_arg0) (V c main_v3) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [hpay, hzero]) (fun t h j => by rw [outsAt1_B V c t h]; frame_out; rw [hpay])
    t ((flush1_2 t).mp hf) _, zero_add]
  unfold gw
  refine Fin.sum_mul_add_congr fun s k hl => ?_
  blk_point [iblk1, idx1 t, idx1 ⟨_, Pipeline.run_point_lt_of_flush t ((flush1_2 t).mp hf) s⟩]

/-- The input's gradient: the sum over the four chips' column blocks. -/
def dh (d : FVec Ideal S2x8192x2816 .bf16) (w : FVec Ideal S4x1024x1408 .bf16) : FVec Ideal S8192x1024 .f32 :=
  fun i => ∑ s : Fin 4, ∑ k : Fin 1408, d (ix3 (⟨(s : ℕ) / 2, by omega⟩ : Fin 2) (i 0) (⟨(s : ℕ) % 2 * 1408 + (k : ℕ), by omega⟩ : Fin 2816)) * w (ix3 s (i 1) k)

theorem dpay (a0 : Vec Ideal S1x1024x1408 .bf16) (b0 : Vec Ideal S1x512x1408 .bf16) (a1 : Vec Ideal S1x1024x1408 .bf16) (b1 : Vec Ideal S1x512x1408 .bf16)
    (a2 : Vec Ideal S1x1024x1408 .bf16) (b2 : Vec Ideal S1x512x1408 .bf16) (a3 : Vec Ideal S1x1024x1408 .bf16) (b3 : Vec Ideal S1x512x1408 .bf16) (j : S1024x512.Idx) :
    k0_pay1 (F := Ideal) a0 b0 a1 b1 a2 b2 a3 b3 j
      = (∑ k : Fin 1408, a0 (ix3 (0 : Fin 1) (j 0) k) * b0 (ix3 (0 : Fin 1) (j 1) k)) + (∑ k : Fin 1408, a1 (ix3 (0 : Fin 1) (j 0) k) * b1 (ix3 (0 : Fin 1) (j 1) k))
        + (∑ k : Fin 1408, a2 (ix3 (0 : Fin 1) (j 0) k) * b2 (ix3 (0 : Fin 1) (j 1) k)) + (∑ k : Fin 1408, a3 (ix3 (0 : Fin 1) (j 0) k) * b3 (ix3 (0 : Fin 1) (j 1) k)) := by
  pointwise [k0_pay1]

theorem idx0 : ∀ t : Fin cfg0.N, win0_0.index t = ![0, t.val / 2, 0] ∧ win0_1.index t = ![0, t.val / 2, 1] ∧ win0_2.index t = ![1, t.val / 2, 0]
    ∧ win0_3.index t = ![1, t.val / 2, 1] ∧ win0_4.index t = ![0, t.val % 2, 0] ∧ win0_5.index t = ![1, t.val % 2, 0] ∧ win0_6.index t = ![2, t.val % 2, 0]
    ∧ win0_7.index t = ![3, t.val % 2, 0] ∧ win0_8.index t = ![t.val / 2, t.val % 2] ∧ t.val < 16 :=
  (by decide +kernel : ∀ t : Fin grid0.N, _)

theorem final_dh (c : Dev nD) : (dat0 V c).arrAt 8 cfg0.N = dh (V c main_v3) (V c main_v1) := by
  refine (dat0 V c).arrAt_eq_of_covers 8 _ (by decide +kernel) fun t _ y => ?_
  blk_simp
  rw [after0_8]
  frame_out
  rw [dpay]
  unfold dh
  rw [Fin.sum_univ_four]
  blk_point [iblk0, idx0 t]

end Cert.KernelUpIdeal.Hand

end
-- ==== Proof.UpRun.lean ====
/- The run of the up projection's backward pass and the two arrays it leaves. -/
module

public import proofs.«01_k».proof.Proof.Up

@[expose] public section

set_option maxRecDepth 16384

noncomputable section

namespace Cert.KernelUpIdeal.Hand

open Cert.KernelUpIdeal Cert.KernelUpIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The run ends with every buffer at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The split and transposed gradient that comes in, at an index. -/
theorem entry_d (c : Dev nD) : (W1 m ρ c (Proc.devRef .tc main_v3) : FVec Ideal S2x8192x2816 .bf16)
    = fun i => (m ((c : Thread nD τ).loc main_arg2) : FVec Ideal S8192x5632 .bf16) (ix2 (i 1) (⟨(i 0 : ℕ) * 2816 + (i 2 : ℕ), by
        have : (i 0 : ℕ) < 2 := (i 0).isLt; have : (i 2 : ℕ) < 2816 := (i 2).isLt; omega⟩ : Fin 5632)) := by
  after_results
  funext i
  pointwise []

/-- The weights by chips, at an index. -/
theorem entry_w (c : Dev nD) : (W1 m ρ c (Proc.devRef .tc main_v1) : FVec Ideal S4x1024x1408 .bf16)
    = fun i => (m ((c : Thread nD τ).loc main_arg1) : FVec Ideal S1024x5632 .bf16) (ix2 (i 1) (⟨(i 0 : ℕ) * 1408 + (i 2 : ℕ), by
        have : (i 0 : ℕ) < 4 := (i 0).isLt; have : (i 2 : ℕ) < 1408 := (i 2).isLt; omega⟩ : Fin 5632)) := by
  after_results
  funext i
  pointwise []

theorem exit_gw (c : Dev nD) : (W4 m ρ c (Proc.devRef .tc main_v9) : FVec Ideal S1024x5632 .f32)
    = fun i => gw (W2 m ρ c (Proc.devRef .tc main_arg0)) (W2 m ρ c (Proc.devRef .tc main_v3)) (ix3 (⟨(i 1 : ℕ) / 1408, by have : (i 1 : ℕ) < 5632 := (i 1).isLt; omega⟩ : Fin 4) (i 0)
        (⟨(i 1 : ℕ) % 1408, by omega⟩ : Fin 1408)) := by
  have h7 : W3 m ρ c (Proc.devRef .tc main_v7) = gw (W2 m ρ c (Proc.devRef .tc main_arg0)) (W2 m ρ c (Proc.devRef .tc main_v3)) :=
    (W3_arr m ρ c 2).trans (final_gw (V2 m ρ) c)
  after_results
  rw [h7]
  funext i
  pointwise []

theorem exit_dh (c : Dev nD) : (W4 m ρ c (Proc.devRef .tc main_v6) : FVec Ideal S8192x1024 .f32)
    = dh (W1 m ρ c (Proc.devRef .tc main_v3)) (W1 m ρ c (Proc.devRef .tc main_v1)) :=
  (W4_of m ρ c main_v6 (by decide)).trans ((W3_of m ρ c main_v6 (by decide)).trans ((W2_arr m ρ c 8).trans (final_dh (V1 m ρ) c)))

/-- The weights' gradient as the reference writes it, a sum over the rows. -/
def gradW (h : FVec Ideal S8192x1024 .bf16) (d : FVec Ideal S8192x5632 .bf16) : FVec Ideal S1024x5632 .f32 :=
  fun i => ∑ l : Fin 8192, h (ix2 l (i 0)) * d (ix2 l (i 1))

/-- The input's gradient as the reference writes it, a sum over the columns. -/
def gradH (w : FVec Ideal S1024x5632 .bf16) (d : FVec Ideal S8192x5632 .bf16) : FVec Ideal S8192x1024 .f32 :=
  fun i => ∑ l : Fin 5632, d (ix2 (i 0) l) * w (ix2 (i 1) l)

theorem result_gw (c : Dev nD) : (W4 m ρ c (Proc.devRef .tc main_v9) : FVec Ideal S1024x5632 .f32)
    = gradW (m ((c : Thread nD τ).loc main_arg0)) (m ((c : Thread nD τ).loc main_arg2)) := by
  rw [exit_gw, W2_args m ρ c main_arg0 (by decide), W2_of m ρ c main_v3 (by decide), entry_d]
  funext i
  unfold gw gradW
  refine Finset.sum_congr rfl fun l _ => ?_
  congr 1
  refine congrArg _ ?_
  have hi : (i 1 : ℕ) < 5632 := (i 1).isLt
  refine congrArg (ix2 l) (Fin.ext ?_)
  show ((i 1 : ℕ) / 1408 / 2) * 2816 + ((i 1 : ℕ) / 1408 % 2 * 1408 + (i 1 : ℕ) % 1408) = (i 1 : ℕ)
  omega

theorem result_dh (c : Dev nD) : (W4 m ρ c (Proc.devRef .tc main_v6) : FVec Ideal S8192x1024 .f32)
    = gradH (m ((c : Thread nD τ).loc main_arg1)) (m ((c : Thread nD τ).loc main_arg2)) := by
  rw [exit_dh, entry_d, entry_w]
  funext i
  unfold dh gradH
  refine Fin.sum_mul_add_congr fun s k hl => ?_
  have e : ∀ h, (⟨(s : ℕ) / 2 * 2816 + ((s : ℕ) % 2 * 1408 + (k : ℕ)), h⟩ : Fin 5632) = ⟨(s : ℕ) * 1408 + (k : ℕ), hl⟩ := fun h => Fin.ext (by show _ = _; dsimp only; omega)
  exact congrArg₂ (· * ·) (congrArg _ (congrArg (ix2 (i 0)) (e _))) rfl

/-- The run's two results, with the arguments as they were. -/
theorem run_values : θ_run defs (onTc (τ := τ) (main (F := Ideal))) ⟨m, fun _ => 0, ρ⟩ (fun r => ∀ c : Dev nD,
      r.2.mem ((c.tc : Thread nD τ).loc main_v6) = gradH (m ((c : Thread nD τ).loc main_arg1)) (m ((c : Thread nD τ).loc main_arg2))
      ∧ r.2.mem ((c.tc : Thread nD τ).loc main_v9) = gradW (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (result_dh m ρ c), (h c _ (mem_uc main_v9 (by decide))).trans (result_gw m ρ c),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c)⟩) (run m ρ)

end Cert.KernelUpIdeal.Hand

end
-- ==== Proof.UpAlgebra.lean ====
/- The claims of the up projection's backward pass: its frames, and its results against the reference's. -/
module

public import proofs.«01_k».proof.Defs
public import proofs.«01_k».proof.Proof.UpRun
public import proofs.«01_k».proof.Proof.Gen.KernelUp.Frame
public import proofs.«01_k».proof.Proof.Gen.ReferenceUpIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product for the input's gradient is the sum over the columns. -/
theorem up_dh (w : FVec Ideal Cert.ReferenceUpIdeal.S1024x5632 .bf16) (d : FVec Ideal Cert.ReferenceUpIdeal.S8192x5632 .bf16) (hw hd : FTy.bits .bf16 < FTy.bits .f32) :
    Host.dotGeneral Cert.ReferenceUpIdeal.dot_S8192x5632_S1024x5632_S8192x1024_1_1_0_0_n_n none (extf .f32 d hd) (extf .f32 w hw) = Cert.KernelUpIdeal.Hand.gradH w d := by
  funext i
  pointwise [Cert.KernelUpIdeal.Hand.gradH]

/-- The reference's product for the weights' gradient is the sum over the rows. -/
theorem up_gw (h : FVec Ideal Cert.ReferenceUpIdeal.S8192x1024 .bf16) (d : FVec Ideal Cert.ReferenceUpIdeal.S8192x5632 .bf16) (hh hd : FTy.bits .bf16 < FTy.bits .f32)
    (ht : Cert.ReferenceUpIdeal.S5632x1024.Transposes [1, 0] Cert.ReferenceUpIdeal.S1024x5632) :
    transpose Cert.ReferenceUpIdeal.S1024x5632 [1, 0] (Host.dotGeneral Cert.ReferenceUpIdeal.dot_S8192x5632_S8192x1024_S5632x1024_0_0_1_1_n_n none (extf .f32 d hd) (extf .f32 h hh)) ht
      = Cert.KernelUpIdeal.Hand.gradW h d := by
  funext i
  pointwise [Cert.KernelUpIdeal.Hand.gradW]
  exact Finset.sum_congr rfl fun x _ => mul_comm _ _

theorem up_ref : quiescent_ReferenceUpIdeal (hReferenceUpIdeal := Cert.ReferenceUpIdeal.Gen.facts) := by
  intro m g _
  hlo_run
  · exact fun _ => ⟨trivial, trivial, trivial⟩
  · exact sem_eq_zero_of_no_sems (by decide) _

theorem up_values : algebraic_KernelUpIdeal_ReferenceUpIdeal (hKernelUpIdeal := Cert.KernelUpIdeal.Gen.facts) (hReferenceUpIdeal := Cert.ReferenceUpIdeal.Gen.facts) := by
  pair_intro
  · run_from Cert.KernelUpIdeal.Hand.run_values m g
  · hlo_run
    · exact up_dh _ _ _ _
    · exact up_gw _ _ _ _ _

end Cert.Hand

end
-- ==== Proof.UpFwdRun.lean ====
/- The up projection of the forward pass: each tile of the result, and the run. -/
module

public import proofs.«01_k».proof.Proof.Gen.KernelUpFwdIdeal.Frame
public import Idealize.ShloMosaic.Lib.Pipeline.ValueKit

@[expose] public section

set_option maxRecDepth 16384

noncomputable section

namespace Cert.KernelUpFwdIdeal.Hand

open Cert.KernelUpFwdIdeal Cert.KernelUpFwdIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

/-- The product, a sum over the columns of the left operand. -/
def prod (h : FVec Ideal S8192x1024 .bf16) (w : FVec Ideal S1024x5632 .bf16) : FVec Ideal S8192x5632 .bf16 :=
  fun i => ∑ l : Fin 1024, h (ix2 (i 0) l) * w (ix2 l (i 1))

/-- The same with the weights held chip by chip. -/
def prodC (h : FVec Ideal S8192x1024 .bf16) (w : FVec Ideal S4x1024x1408 .bf16) : FVec Ideal S8192x5632 .bf16 :=
  fun i => ∑ l : Fin 1024, h (ix2 (i 0) l) * w (ix3 (⟨(i 1 : ℕ) / 1408, by have : (i 1 : ℕ) < 5632 := (i 1).isLt; omega⟩ : Fin 4) l
    (⟨(i 1 : ℕ) % 1408, by omega⟩ : Fin 1408))

theorem pay (a : Vec Ideal S1024x1024 .bf16) (b : Vec Ideal S1x1024x1408 .bf16) (j : S1024x1408.Idx) :
    k0_pay1 (F := Ideal) a b j = ∑ k : Fin 1024, a (ix2 (j 0) k) * b (ix3 (0 : Fin 1) k (j 1)) := by
  pointwise [k0_pay1]

theorem idx : ∀ t : Fin cfg0.N, win0_0.index t = ![t.val / 4, 0] ∧ win0_1.index t = ![t.val % 4, 0, 0] ∧ win0_2.index t = ![t.val / 4, t.val % 4] ∧ t.val < 32 :=
  (by decide +kernel : ∀ t : Fin grid0.N, _)

theorem finalC (c : Dev nD) : (dats m 0 c).arrAt 2 cfg0.N = prodC (V m c main_arg0) (V m c main_v1) := by
  refine (dats m 0 c).arrAt_eq_of_covers 2 _ (by decide +kernel) fun t _ y => ?_
  blk_simp
  rw [after0_2]
  frame_out
  rw [pay]
  unfold prodC
  blk_point [iblk, idx t]

/-- The weights by chips, at an index. -/
theorem entry_w (c : Dev nD) : (V m c main_v1 : FVec Ideal S4x1024x1408 .bf16)
    = fun i => (m ((c : Thread nD τ).loc main_arg1) : FVec Ideal S1024x5632 .bf16) (ix2 (i 1) (⟨(i 0 : ℕ) * 1408 + (i 2 : ℕ), by
        have : (i 0 : ℕ) < 4 := (i 0).isLt; have : (i 2 : ℕ) < 1408 := (i 2).isLt; omega⟩ : Fin 5632)) := by
  unfold V
  after_results
  funext i
  pointwise []

theorem final (c : Dev nD) : (dats m 0 c).arrAt 2 cfg0.N = prod (m ((c : Thread nD τ).loc main_arg0)) (m ((c : Thread nD τ).loc main_arg1)) := by
  rw [finalC, V_main_arg0, entry_w]
  funext i
  unfold prodC prod
  refine Finset.sum_congr rfl fun l _ => ?_
  congr 1
  refine congrArg _ ?_
  have hi : (i 1 : ℕ) < 5632 := (i 1).isLt
  refine congrArg (ix2 l) (Fin.ext ?_)
  show (i 1 : ℕ) / 1408 * 1408 + (i 1 : ℕ) % 1408 = (i 1 : ℕ)
  omega

end Cert.KernelUpFwdIdeal.Hand

end
-- ==== Proof.UpFwd.lean ====
/- The claims of the up projection's forward product. -/
module

public import proofs.«01_k».proof.Defs
public import proofs.«01_k».proof.Proof.UpFwdRun
public import proofs.«01_k».proof.Proof.Gen.KernelUpFwd.Frame
public import proofs.«01_k».proof.Proof.Gen.ReferenceUpFwdIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product is the sum over the columns. -/
theorem upFwd_prod (h : FVec Ideal Cert.ReferenceUpFwdIdeal.S8192x1024 .bf16) (w : FVec Ideal Cert.ReferenceUpFwdIdeal.S1024x5632 .bf16) (hw hh ht : FTy.bits .bf16 < FTy.bits .f32) :
    truncf .bf16 (Host.dotGeneral Cert.ReferenceUpFwdIdeal.dot_S8192x1024_S1024x5632_S8192x5632_1_0_0_1_n_n none (extf .f32 h hh) (extf .f32 w hw)) ht = Cert.KernelUpFwdIdeal.Hand.prod h w := by
  funext i
  pointwise [Cert.KernelUpFwdIdeal.Hand.prod]

theorem upFwd_ref : quiescent_ReferenceUpFwdIdeal (hReferenceUpFwdIdeal := Cert.ReferenceUpFwdIdeal.Gen.facts) := by
  intro m g _
  hlo_run
  · exact fun _ => ⟨trivial, trivial⟩
  · exact sem_eq_zero_of_no_sems (by decide) _

theorem upFwd_values : algebraic_KernelUpFwdIdeal_ReferenceUpFwdIdeal (hKernelUpFwdIdeal := Cert.KernelUpFwdIdeal.Gen.facts) (hReferenceUpFwdIdeal := Cert.ReferenceUpFwdIdeal.Gen.facts) := by
  pair_intro
  · run_from Cert.KernelUpFwdIdeal.Gen.run_main m g
  · hlo_run
    rw [upFwd_prod]
    exact (Cert.KernelUpFwdIdeal.Hand.final m _).symm

end Cert.Hand

end
-- ==== Proof.NormRow.lean ====
/- The norm's backward pass on one row: what the kernel computes, what the reference computes, and that they agree. -/
module

public import Idealize.ShloMosaic.Lib.Pointwise

@[expose] public section

noncomputable section

namespace Cert.NormRow

open Idealize.ShloMosaic

/-- The reciprocal root mean square of a row. -/
def scale (x : Fin 1024 → EReal) : EReal :=
  Ideal.rsqrt (Ideal.div (∑ k, x k * x k) (Ideal.ofBits .f32 0x44800000#32) + Ideal.ofBits .f32 0x358637BD#32)

/-- The gradient of a row as the kernel has it: `t` is the incoming gradient with the norm's weights on it. -/
def gradK (x t : Fin 1024 → EReal) (j : Fin 1024) : EReal :=
  scale x * (t j - x j * scale x * Ideal.div (∑ k, t k * (x k * scale x)) (Ideal.ofBits .f32 0x44800000#32))

/-- What the reference sends back through the mean of the squares, half of it. -/
def back (x t : Fin 1024 → EReal) : EReal :=
  Ideal.div ((∑ k, x k * t k) * (Ideal.ofBits .f32 0xBF000000#32 * Ideal.div (scale x)
    (Ideal.div (∑ k, x k * x k) (Ideal.ofBits .f32 0x44800000#32) + Ideal.ofBits .f32 0x358637BD#32))) (Ideal.ofBits .f32 0x44800000#32)

/-- The gradient of a row as the reference has it. -/
def gradR (x t : Fin 1024 → EReal) (j : Fin 1024) : EReal :=
  t j * scale x + x j * back x t + back x t * x j

theorem lit_n : Ideal.ofBits .f32 0x44800000#32 = ((1024 : ℝ) : EReal) := by
  simp [Ideal.ofBits, Ideal.ieee]
  rw [← EReal.coe_mul]
  norm_num

theorem lit_half : Ideal.ofBits .f32 0xBF000000#32 = ((-(1 / 2) : ℝ) : EReal) := by
  simp [Ideal.ofBits, Ideal.ieee]
  rw [← EReal.coe_mul]
  norm_num

theorem lit_eps : ∃ e : ℝ, 0 < e ∧ Ideal.ofBits .f32 0x358637BD#32 = (e : EReal) := by
  refine ⟨8796093 * ((2 : ℝ) ^ 43)⁻¹, by positivity, ?_⟩
  simp [Ideal.ofBits, Ideal.ieee]

/-- A real factor that is not negative goes in and out of a sum. -/
theorem sum_mul_real (r : ℝ) (hr : 0 ≤ r) (f : Fin 1024 → EReal) : ∑ k, f k * (r : EReal) = (∑ k, f k) * (r : EReal) := by
  have h : ∀ s : Finset (Fin 1024), ∑ k ∈ s, f k * (r : EReal) = (∑ k ∈ s, f k) * (r : EReal) := by
    intro s
    induction s using Finset.cons_induction with
    | empty => simp
    | cons a s ha ih =>
      rw [Finset.sum_cons, Finset.sum_cons, ih,
        EReal.right_distrib_of_nonneg_of_ne_top (by exact_mod_cast hr) (EReal.coe_ne_top r)]
  exact h _

theorem sum_real (y : Fin 1024 → ℝ) : ∑ k, ((y k : ℝ) : EReal) = ((∑ k, y k : ℝ) : EReal) := by
  have h : ∀ s : Finset (Fin 1024), ∑ k ∈ s, ((y k : ℝ) : EReal) = ((∑ k ∈ s, y k : ℝ) : EReal) := by
    intro s
    induction s using Finset.cons_induction with
    | empty => simp
    | cons a s ha ih => rw [Finset.sum_cons, Finset.sum_cons, ih, EReal.coe_add]
  exact h _

theorem sq_nonneg_ext (a : EReal) : 0 ≤ a * a := by
  induction a with
  | bot => simp
  | top => simp
  | coe a => rw [← EReal.coe_mul]; exact_mod_cast mul_self_nonneg a

theorem add_twice (a : EReal) (c : ℝ) : a * (c : EReal) + a * (c : EReal) = a * ((2 * c : ℝ) : EReal) := by
  have h : (a * (c : EReal)) * (1 + 1) = a * (c : EReal) * 1 + a * (c : EReal) * 1 :=
    EReal.left_distrib_of_nonneg zero_le_one zero_le_one
  rw [mul_one] at h
  rw [← h, mul_assoc]
  congr 1
  rw [two_mul, EReal.coe_add]
  have h2 := EReal.left_distrib_of_nonneg (a := 1) (b := 1) (c := (c : EReal)) zero_le_one zero_le_one
  rw [h2, mul_one]

/-- With the scale a real `r` whose square times the mean is one, the two agree. -/
theorem agree_real (x t : Fin 1024 → EReal) (j : Fin 1024) (r M y : ℝ) (hr : 0 ≤ r) (hM : M ≠ 0) (hrM : r * r * M = 1)
    (hx : x j = (y : EReal)) (hs : scale x = (r : EReal))
    (hm : Ideal.div (∑ k, x k * x k) (Ideal.ofBits .f32 0x44800000#32) + Ideal.ofBits .f32 0x358637BD#32 = (M : EReal)) :
    gradK x t j = gradR x t j := by
  have hS : ∑ k, t k * (x k * (r : EReal)) = (∑ k, x k * t k) * (r : EReal) := by
    rw [← sum_mul_real r hr]
    exact Finset.sum_congr rfl fun k _ => by ac_rfl
  have hb : back x t = (∑ k, x k * t k) * ((-(1 / 2) * (r * (1 / M)) * (1 / 1024) : ℝ) : EReal) := by
    unfold back
    rw [hm, hs, Ideal.div_coe hM, lit_n, lit_half, Ideal.div_coe (by norm_num)]
    simp only [EReal.coe_mul]
    ac_rfl
  have hk : gradK x t j = (r : EReal) * t j + (∑ k, x k * t k) * ((-(r * y * r * r * (1 / 1024)) : ℝ) : EReal) := by
    unfold gradK
    rw [hs, hS, lit_n, Ideal.div_coe (by norm_num), sub_eq_add_neg,
      EReal.left_distrib_of_nonneg_of_ne_top (by exact_mod_cast hr) (EReal.coe_ne_top r), hx]
    congr 1
    rw [EReal.coe_neg, mul_neg, mul_neg]
    congr 1
    simp only [EReal.coe_mul]
    ac_rfl
  have hg : gradR x t j = t j * (r : EReal) + (∑ k, x k * t k) * ((2 * (-(1 / 2) * (r * (1 / M)) * (1 / 1024) * y) : ℝ) : EReal) := by
    unfold gradR
    rw [hs, hb, hx, add_assoc, ← add_twice]
    congr 2
    · rw [EReal.coe_mul _ y]
      ac_rfl
    · rw [EReal.coe_mul _ y]
      ac_rfl
  rw [hk, hg, mul_comm (t j)]
  congr 4
  have h : r * r = 1 / M := by rw [eq_div_iff hM]; exact hrM
  linear_combination (-(r * y * (1 / 1024))) * h

/-- With an infinite mean of the squares the scale is zero, and both gradients are zero. -/
theorem agree_zero (x t : Fin 1024 → EReal) (j : Fin 1024)
    (hm : Ideal.div (∑ k, x k * x k) (Ideal.ofBits .f32 0x44800000#32) + Ideal.ofBits .f32 0x358637BD#32 = ⊤) :
    gradK x t j = gradR x t j := by
  have hs : scale x = 0 := by
    unfold scale
    rw [hm]
    rfl
  have hb : back x t = 0 := by
    unfold back
    rw [hm, hs, lit_n, Ideal.div_coe (by norm_num)]
    have h : Ideal.div 0 ⊤ = 0 := by
      unfold Ideal.div
      rw [if_neg EReal.top_ne_zero, zero_mul]
    rw [h]
    simp
  unfold gradK gradR
  rw [hs, hb]
  simp

/-- A square that is infinite makes the sum of the squares infinite. -/
theorem sum_top (x : Fin 1024 → EReal) (k : Fin 1024) (hk : x k * x k = ⊤) : ∑ k, x k * x k = ⊤ := by
  rw [← Finset.add_sum_erase _ _ (Finset.mem_univ k), hk]
  refine EReal.top_add_of_ne_bot (ne_of_gt (lt_of_lt_of_le EReal.bot_lt_zero ?_))
  exact Finset.sum_nonneg fun k _ => sq_nonneg_ext _

theorem agree (x t : Fin 1024 → EReal) (j : Fin 1024) : gradK x t j = gradR x t j := by
  obtain ⟨e, he, hl⟩ := lit_eps
  by_cases hx : ∀ k, x k = ((x k).toReal : EReal)
  · have hm : Ideal.div (∑ k, x k * x k) (Ideal.ofBits .f32 0x44800000#32) + Ideal.ofBits .f32 0x358637BD#32
        = (((∑ k, (x k).toReal * (x k).toReal) * (1 / 1024) + e : ℝ) : EReal) := by
      rw [lit_n, Ideal.div_coe (by norm_num), hl, EReal.coe_add, EReal.coe_mul, ← sum_real]
      congr 3
      funext k
      rw [EReal.coe_mul, ← hx k]
    have h0 : 0 ≤ ∑ k, (x k).toReal * (x k).toReal := Finset.sum_nonneg fun k _ => mul_self_nonneg _
    have hM : 0 < (∑ k, (x k).toReal * (x k).toReal) * (1 / 1024) + e := by positivity
    generalize (∑ k, (x k).toReal * (x k).toReal) * (1 / 1024) + e = M at hm hM
    have hs : scale x = (((Real.sqrt M)⁻¹ : ℝ) : EReal) := by
      unfold scale
      rw [hm]
      show (if M < 0 then (⊥ : EReal) else if M = 0 then ⊤ else (((Real.sqrt M)⁻¹ : ℝ) : EReal)) = _
      rw [if_neg (not_lt.mpr hM.le), if_neg hM.ne']
    refine agree_real x t j _ M _ (by positivity) hM.ne' ?_ (hx j) hs hm
    have := Real.mul_self_sqrt hM.le
    have h1 : Real.sqrt M ≠ 0 := (Real.sqrt_pos.mpr hM).ne'
    field_simp
    nlinarith
  · push Not at hx
    obtain ⟨k, hk⟩ := hx
    have hk2 : x k * x k = ⊤ := by
      generalize x k = a at hk
      induction a with
      | bot => simp
      | top => simp
      | coe a => exact absurd (by simp) hk
    refine agree_zero x t j ?_
    rw [sum_top x k hk2, lit_n, hl, Ideal.div_coe (by norm_num), EReal.top_mul_coe_of_pos (by norm_num), EReal.top_add_coe]

/-- The same with the residual's gradient on either side. -/
theorem agree_add (x t : Fin 1024 → EReal) (j : Fin 1024) (d : EReal) : gradR x t j + d = d + gradK x t j := by
  rw [agree, add_comm]

end Cert.NormRow

end
-- ==== Proof.NormRun.lean ====
/- The norm's backward pass: each row's gradient, the weights' gradient, and the run. -/
module

public import proofs.«01_k».proof.Proof.Gen.KernelNormIdeal.Frame
public import proofs.«01_k».proof.Proof.NormRow
public import Idealize.ShloMosaic.Lib.Pipeline.ValueKit

@[expose] public section

set_option maxRecDepth 16384

noncomputable section

namespace Cert.KernelNormIdeal.Hand

open Cert.KernelNormIdeal Cert.KernelNormIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

open Cert.NormRow

theorem pay4 (x : Vec Ideal S512x1024 .f32) (j : S512x1024.Idx) :
    k0_pay4 (F := Ideal) x j = x j * scale (fun k => x (ix2 (j 0) k)) := by
  unfold scale
  pointwise [k0_pay4]

theorem pay7 (x : Vec Ideal S512x1024 .f32) (j : S512x1.Idx) :
    k0_pay7 (F := Ideal) x j = scale (fun k => x (ix2 (j 0) k)) := by
  unfold scale
  pointwise [k0_pay7]

theorem pay6 (t : Vec Ideal S512x1024 .f32) (g : Vec Ideal S1x1024 .f32) (j : S512x1024.Idx) :
    k0_pay6 (F := Ideal) t g j = t j * g (ix2 0 (j 1)) := by
  pointwise [k0_pay6]

theorem pay1 (v13 v25 : FVec Ideal S512x1024 .f32) (v26 : Vec Ideal S512x1024 .f32) (v34 : FVec Ideal S512x1 .f32) (v35 : FVec Ideal S512x1024 .f32) (j : S512x1024.Idx) :
    k0_pay1 (F := Ideal) v13 v25 v26 v34 v35 j = v26 j + v34 (ix2 (j 0) 0) * (v25 j - v13 j * Ideal.div (∑ k : Fin 1024, v35 (ix2 (j 0) k)) (Ideal.ofBits .f32 0x44800000#32)) := by
  pointwise [k0_pay1]

theorem pay3 (j : S1x1024.Idx) : k0_pay3 (F := Ideal) j = 0 := by pointwise [k0_pay3]

theorem pay5 (x t : Vec Ideal S512x1024 .f32) (acc : Vec Ideal S1x1024 .f32) (j : S1x1024.Idx) :
    k0_pay5 (F := Ideal) x t acc j = acc j + ∑ k : Fin 512, t (ix2 k (j 1)) * k0_pay4 (F := Ideal) x (ix2 k (j 1)) := by
  pointwise [k0_pay5]

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] ∧ t.val < 16 :=
  (by decide +kernel : ∀ t : Fin grid0.N, _)

/-- The gradient of the norm's input, with what the residual brings added. -/
def gradX (x d : FVec Ideal S8192x1024 .f32) (g : FVec Ideal S1024 .f32) (e : FVec Ideal S8192x1024 .f32) : FVec Ideal S8192x1024 .f32 :=
  fun i => e i + gradK (fun k => x (ix2 (i 0) k)) (fun k => d (ix2 (i 0) k) * g (ix1 k)) (i 1)

/-- The same with the weights as a row. -/
def gradX2 (x d : FVec Ideal S8192x1024 .f32) (g : FVec Ideal S1x1024 .f32) (e : FVec Ideal S8192x1024 .f32) : FVec Ideal S8192x1024 .f32 :=
  fun i => e i + gradK (fun k => x (ix2 (i 0) k)) (fun k => d (ix2 (i 0) k) * g (ix2 0 k)) (i 1)

/-- The gradient of the norm's weights: a sum over the rows. -/
def gradG (x d : FVec Ideal S8192x1024 .f32) : FVec Ideal S1x1024 .f32 :=
  fun i => ∑ l : Fin 8192, d (ix2 l (i 1)) * (x (ix2 l (i 1)) * scale (fun k => x (ix2 l k)))

/-- A tile of the input's gradient. -/
theorem tile (x d e : Vec Ideal S512x1024 .f32) (g : Vec Ideal S1x1024 .f32) (j : S512x1024.Idx) :
    k0_pay1 (F := Ideal) (k0_pay4 x) (k0_pay6 d g) e (k0_pay7 x) (k0_pay8 x d g) j
      = e j + gradK (fun k => x (ix2 (j 0) k)) (fun k => d (ix2 (j 0) k) * g (ix2 0 k)) (j 1) := by
  rw [pay1]
  unfold gradK
  rw [pay4, pay6, pay7]
  congr 3
  · exact congrArg (fun q => d q * g (ix2 0 (j 1))) (ix2_eta j).symm
  · congr 1
    · exact congrArg (fun q => x q * _) (ix2_eta j).symm
    · congr 1
      refine Finset.sum_congr rfl fun k _ => ?_
      unfold k0_pay8
      show k0_pay6 (F := Ideal) d g _ * k0_pay4 (F := Ideal) x _ = _
      rw [pay4, pay6]
      rfl

theorem final_x (c : Dev nD) : (dats m 0 c).arrAt 4 cfg0.N = gradX2 (V m c main_arg0) (V m c main_arg1) (V m c main_v0) (V m c main_arg3) := by
  refine (dats m 0 c).arrAt_eq_of_covers 4 _ (by decide +kernel) fun t hf y => ?_
  blk_simp
  rw [after0_4]
  by_cases h0 : t.val % 16 = 0
  · rw [outsAt0_A m c t h0]
    frame_out
    rw [tile]
    unfold gradX2
    blk_point [iblk, idx t]
  · rw [outsAt0_B m c t h0]
    frame_out
    rw [tile]
    unfold gradX2
    blk_point [iblk, idx t]

theorem final_xb (c : Dev nD) : (dats m 0 c).arrAt 5 cfg0.N = gradX2 (V m c main_arg0) (V m c main_arg1) (V m c main_v0) (V m c main_arg3) := by
  refine (dats m 0 c).arrAt_eq_of_covers 5 _ (by decide +kernel) fun t hf y => ?_
  blk_simp
  rw [after0_5]
  by_cases h0 : t.val % 16 = 0
  · rw [outsAt0_A m c t h0]
    frame_out
    show k0_pay1 (F := Ideal) _ _ _ _ _ _ = _
    rw [tile]
    unfold gradX2
    blk_point [iblk, idx t]
  · rw [outsAt0_B m c t h0]
    frame_out
    show k0_pay1 (F := Ideal) _ _ _ _ _ _ = _
    rw [tile]
    unfold gradX2
    blk_point [iblk, idx t]

theorem final_g (c : Dev nD) : (dats m 0 c).arrAt 6 cfg0.N = gradG (V m c main_arg0) (V m c main_arg1) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) _
    (fun t h j => by rw [outsAt0_A m c t h]; frame_out; rw [pay5, pay3]) (fun t h j => by rw [outsAt0_B m c t h]; frame_out; rw [pay5])
    t ((flush0_6 t).mp hf) _, zero_add]
  unfold gradG
  refine Fin.sum_mul_add_congr fun s k hl => ?_
  rw [pay4]
  blk_point [iblk, idx t, idx ⟨_, Pipeline.run_point_lt_of_flush t ((flush0_6 t).mp hf) s⟩]

/-- The weights as a row, at an index. -/

theorem entry_g (c : Dev nD) : (V m c main_v0 : FVec Ideal S1x1024 .f32) = fun i : S1x1024.Idx => (m ((c : Thread nD τ).loc main_arg2) : FVec Ideal S1024 .f32) (ix1 (⟨(i 1 : ℕ), (i 1).isLt⟩ : Fin 1024)) := by
  unfold V V0
  simp only [hostOps0, List.flatten_cons, List.flatten_nil, List.append_nil]
  after_results
  funext i
  pointwise []

theorem result_x (c : Dev nD) : (dats m 0 c).arrAt 4 cfg0.N = gradX (m ((c : Thread nD τ).loc main_arg0)) (m ((c : Thread nD τ).loc main_arg1)) (m ((c : Thread nD τ).loc main_arg2)) (m ((c : Thread nD τ).loc main_arg3)) := by
  rw [final_x, V_main_arg0, V_main_arg1, V_main_arg3, entry_g]
  rfl

theorem result_xb (c : Dev nD) : (dats m 0 c).arrAt 5 cfg0.N = gradX (m ((c : Thread nD τ).loc main_arg0)) (m ((c : Thread nD τ).loc main_arg1)) (m ((c : Thread nD τ).loc main_arg2)) (m ((c : Thread nD τ).loc main_arg3)) := by
  rw [final_xb, ← final_x]
  exact result_x m c

theorem result_g (c : Dev nD) : (dats m 0 c).arrAt 6 cfg0.N = gradG (m ((c : Thread nD τ).loc main_arg0)) (m ((c : Thread nD τ).loc main_arg1)) := by
  rw [final_g, V_main_arg0, V_main_arg1]

theorem arr_ne : Function.Injective (Pipeline.arrRef spec0) := by
  intro a b h
  have key : ∀ a b : Fin 7, Pipeline.arrRef spec0 a = Pipeline.arrRef spec0 b → a = b := by decide
  exact key a b h

/-- The row of the weights' gradient as a vector. -/
theorem row_vec (U : Valuation τ sig (Elt Ideal)) : (StableHlo.after hostOps1 U (Proc.devRef .tc main_v2) : FVec Ideal S1024 .f32)
    = fun i : S1024.Idx => (U (Proc.devRef .tc main_v1_2) : FVec Ideal S1x1024 .f32) (ix2 0 (⟨(i 0 : ℕ), (i 0).isLt⟩ : Fin 1024)) := by
  after_results
  funext i
  pointwise []

theorem tail_g (c : Dev nD) : (Pipeline.afterTail₀ cfgs (dats m) 0 (V0 m) [hostOps1] c main_v2 : FVec Ideal S1024 .f32)
    = fun i : S1024.Idx => gradG (m ((c : Thread nD τ).loc main_arg0)) (m ((c : Thread nD τ).loc main_arg1)) (ix2 0 (⟨(i 0 : ℕ), (i 0).isLt⟩ : Fin 1024)) := by
  refine (row_vec (Pipeline.withArrays spec0 c (V0 m c) fun w => (dats m 0 c).arrAt w cfg0.N)).trans ?_
  have h := Pipeline.withArrays_arr spec0 arr_ne c (V0 m c) (fun w => (dats m 0 c).arrAt w cfg0.N) 6
  funext i
  exact (congrFun h _).trans (congrFun (result_g m c) _)

end Cert.KernelNormIdeal.Hand

end
-- ==== Proof.Norm.lean ====
/- The claims of the norm's backward pass. -/
module

public import proofs.«01_k».proof.Defs
public import proofs.«01_k».proof.Proof.NormRun
public import proofs.«01_k».proof.Proof.Gen.KernelNorm.Frame
public import proofs.«01_k».proof.Proof.Gen.ReferenceNormIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem Cert.NormRow

theorem norm_ref : quiescent_ReferenceNormIdeal (hReferenceNormIdeal := Cert.ReferenceNormIdeal.Gen.facts) := by
  intro m g _
  hlo_run
  · exact fun _ => ⟨trivial, trivial, trivial, trivial⟩
  · exact sem_eq_zero_of_no_sems (by decide) _

theorem norm_values : algebraic_KernelNormIdeal_ReferenceNormIdeal (hKernelNormIdeal := Cert.KernelNormIdeal.Gen.facts) (hReferenceNormIdeal := Cert.ReferenceNormIdeal.Gen.facts) := by
  pair_intro
  · run_from Cert.KernelNormIdeal.Gen.run_main m g
    exact Cert.KernelNormIdeal.Gen.W_main_arg2 m _ c
  · hlo_run
    · rw [Cert.KernelNormIdeal.Hand.result_x]
      funext i
      obtain ⟨a, b, rfl⟩ : ∃ a b, i = ix2 a b := ⟨i 0, i 1, (ix2_eta i).symm⟩
      pointwise [Cert.KernelNormIdeal.Hand.gradX]
      simp only [Fin.sum_univ_one]
      exact agree_add (fun k => m (c.tc.loc Cert.KernelNormIdeal.main_arg0) (ix2 a k))
        (fun k => @HMul.hMul EReal EReal EReal _ (m (c.tc.loc Cert.KernelNormIdeal.main_arg1) (ix2 a k)) (m (c.tc.loc Cert.KernelNormIdeal.main_arg2) (ix1 k))) b
        (m (c.tc.loc Cert.KernelNormIdeal.main_arg3) (ix2 a b))
    · rw [Cert.KernelNormIdeal.Hand.result_xb]
      funext i
      obtain ⟨a, b, rfl⟩ : ∃ a b, i = ix2 a b := ⟨i 0, i 1, (ix2_eta i).symm⟩
      pointwise [Cert.KernelNormIdeal.Hand.gradX]
      simp only [Fin.sum_univ_one]
      exact agree_add (fun k => m (c.tc.loc Cert.KernelNormIdeal.main_arg0) (ix2 a k))
        (fun k => @HMul.hMul EReal EReal EReal _ (m (c.tc.loc Cert.KernelNormIdeal.main_arg1) (ix2 a k)) (m (c.tc.loc Cert.KernelNormIdeal.main_arg2) (ix1 k))) b
        (m (c.tc.loc Cert.KernelNormIdeal.main_arg3) (ix2 a b))
    · rw [Cert.KernelNormIdeal.Hand.tail_g]
      funext i
      pointwise [Cert.KernelNormIdeal.Hand.gradG]
      simp only [Fin.sum_univ_one]
      exact Finset.sum_congr rfl fun l _ => mul_comm _ _

end Cert.Hand

end
-- ==== Proof.NormMixRun.lean ====
/- The first norm's backward pass: each row's gradient, the weights' gradient, and the run. -/
module

public import proofs.«01_k».proof.Proof.Gen.KernelNormMixIdeal.Frame
public import proofs.«01_k».proof.Proof.NormRow
public import Idealize.ShloMosaic.Lib.Pipeline.ValueKit

@[expose] public section

set_option maxRecDepth 16384

noncomputable section

namespace Cert.KernelNormMixIdeal.Hand

open Cert.KernelNormMixIdeal Cert.KernelNormMixIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

open Cert.NormRow

theorem pay4 (x : Vec Ideal S512x1024 .f32) (j : S512x1024.Idx) :
    k0_pay3 (F := Ideal) x j = x j * scale (fun k => x (ix2 (j 0) k)) := by
  unfold scale
  pointwise [k0_pay3]

theorem pay7 (x : Vec Ideal S512x1024 .f32) (j : S512x1.Idx) :
    k0_pay6 (F := Ideal) x j = scale (fun k => x (ix2 (j 0) k)) := by
  unfold scale
  pointwise [k0_pay6]

theorem pay6 (t : Vec Ideal S512x1024 .f32) (g : Vec Ideal S1x1024 .f32) (j : S512x1024.Idx) :
    k0_pay5 (F := Ideal) t g j = t j * g (ix2 0 (j 1)) := by
  pointwise [k0_pay5]

theorem pay1 (v13 v25 : FVec Ideal S512x1024 .f32) (v26 : Vec Ideal S512x1024 .f32) (v34 : FVec Ideal S512x1 .f32) (v35 : FVec Ideal S512x1024 .f32) (j : S512x1024.Idx) :
    k0_pay1 (F := Ideal) v13 v25 v26 v34 v35 j = v26 j + v34 (ix2 (j 0) 0) * (v25 j - v13 j * Ideal.div (∑ k : Fin 1024, v35 (ix2 (j 0) k)) (Ideal.ofBits .f32 0x44800000#32)) := by
  pointwise [k0_pay1]

theorem pay3 (j : S1x1024.Idx) : k0_pay2 (F := Ideal) j = 0 := by pointwise [k0_pay2]

theorem pay5 (x t : Vec Ideal S512x1024 .f32) (acc : Vec Ideal S1x1024 .f32) (j : S1x1024.Idx) :
    k0_pay4 (F := Ideal) x t acc j = acc j + ∑ k : Fin 512, t (ix2 k (j 1)) * k0_pay3 (F := Ideal) x (ix2 k (j 1)) := by
  pointwise [k0_pay4]

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ t.val < 16 :=
  (by decide +kernel : ∀ t : Fin grid0.N, _)

/-- The gradient of the norm's input, with what the residual brings added. -/
def gradX (x d : FVec Ideal S8192x1024 .f32) (g : FVec Ideal S1024 .f32) (e : FVec Ideal S8192x1024 .f32) : FVec Ideal S8192x1024 .f32 :=
  fun i => e i + gradK (fun k => x (ix2 (i 0) k)) (fun k => d (ix2 (i 0) k) * g (ix1 k)) (i 1)

/-- The same with the weights as a row. -/
def gradX2 (x d : FVec Ideal S8192x1024 .f32) (g : FVec Ideal S1x1024 .f32) (e : FVec Ideal S8192x1024 .f32) : FVec Ideal S8192x1024 .f32 :=
  fun i => e i + gradK (fun k => x (ix2 (i 0) k)) (fun k => d (ix2 (i 0) k) * g (ix2 0 k)) (i 1)

/-- The gradient of the norm's weights: a sum over the rows. -/
def gradG (x d : FVec Ideal S8192x1024 .f32) : FVec Ideal S1x1024 .f32 :=
  fun i => ∑ l : Fin 8192, d (ix2 l (i 1)) * (x (ix2 l (i 1)) * scale (fun k => x (ix2 l k)))

/-- A tile of the input's gradient. -/
theorem tile (x d e : Vec Ideal S512x1024 .f32) (g : Vec Ideal S1x1024 .f32) (j : S512x1024.Idx) :
    k0_pay1 (F := Ideal) (k0_pay3 x) (k0_pay5 d g) e (k0_pay6 x) (k0_pay7 x d g) j
      = e j + gradK (fun k => x (ix2 (j 0) k)) (fun k => d (ix2 (j 0) k) * g (ix2 0 k)) (j 1) := by
  rw [pay1]
  unfold gradK
  rw [pay4, pay6, pay7]
  congr 3
  · exact congrArg (fun q => d q * g (ix2 0 (j 1))) (ix2_eta j).symm
  · congr 1
    · exact congrArg (fun q => x q * _) (ix2_eta j).symm
    · congr 1
      refine Finset.sum_congr rfl fun k _ => ?_
      unfold k0_pay7
      show k0_pay5 (F := Ideal) d g _ * k0_pay3 (F := Ideal) x _ = _
      rw [pay4, pay6]
      rfl

theorem final_x (c : Dev nD) : (dats m 0 c).arrAt 4 cfg0.N = gradX2 (V m c main_arg0) (V m c main_arg1) (V m c main_v0) (V m c main_arg3) := by
  refine (dats m 0 c).arrAt_eq_of_covers 4 _ (by decide +kernel) fun t hf y => ?_
  blk_simp
  rw [after0_4]
  by_cases h0 : t.val % 16 = 0
  · rw [outsAt0_A m c t h0]
    frame_out
    rw [tile]
    unfold gradX2
    blk_point [iblk, idx t]
  · rw [outsAt0_B m c t h0]
    frame_out
    rw [tile]
    unfold gradX2
    blk_point [iblk, idx t]

theorem final_g (c : Dev nD) : (dats m 0 c).arrAt 5 cfg0.N = gradG (V m c main_arg0) (V m c main_arg1) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0) _
    (fun t h j => by rw [outsAt0_A m c t h]; frame_out; rw [pay5, pay3]) (fun t h j => by rw [outsAt0_B m c t h]; frame_out; rw [pay5])
    t ((flush0_5 t).mp hf) _, zero_add]
  unfold gradG
  refine Fin.sum_mul_add_congr fun s k hl => ?_
  rw [pay4]
  blk_point [iblk, idx t, idx ⟨_, Pipeline.run_point_lt_of_flush t ((flush0_5 t).mp hf) s⟩]

/-- The weights as a row, at an index. -/

theorem entry_g (c : Dev nD) : (V m c main_v0 : FVec Ideal S1x1024 .f32) = fun i : S1x1024.Idx => (m ((c : Thread nD τ).loc main_arg2) : FVec Ideal S1024 .f32) (ix1 (⟨(i 1 : ℕ), (i 1).isLt⟩ : Fin 1024)) := by
  unfold V V0
  simp only [hostOps0, List.flatten_cons, List.flatten_nil, List.append_nil]
  after_results
  funext i
  pointwise []

theorem result_x (c : Dev nD) : (dats m 0 c).arrAt 4 cfg0.N = gradX (m ((c : Thread nD τ).loc main_arg0)) (m ((c : Thread nD τ).loc main_arg1)) (m ((c : Thread nD τ).loc main_arg2)) (m ((c : Thread nD τ).loc main_arg3)) := by
  rw [final_x, V_main_arg0, V_main_arg1, V_main_arg3, entry_g]
  rfl

theorem result_g (c : Dev nD) : (dats m 0 c).arrAt 5 cfg0.N = gradG (m ((c : Thread nD τ).loc main_arg0)) (m ((c : Thread nD τ).loc main_arg1)) := by
  rw [final_g, V_main_arg0, V_main_arg1]

theorem arr_ne : Function.Injective (Pipeline.arrRef spec0) := by
  intro a b h
  have key : ∀ a b : Fin 6, Pipeline.arrRef spec0 a = Pipeline.arrRef spec0 b → a = b := by decide
  exact key a b h

/-- The row of the weights' gradient as a vector. -/
theorem row_vec (U : Valuation τ sig (Elt Ideal)) : (StableHlo.after hostOps1 U (Proc.devRef .tc main_v2) : FVec Ideal S1024 .f32)
    = fun i : S1024.Idx => (U (Proc.devRef .tc main_v1_1) : FVec Ideal S1x1024 .f32) (ix2 0 (⟨(i 0 : ℕ), (i 0).isLt⟩ : Fin 1024)) := by
  after_results
  funext i
  pointwise []

theorem tail_g (c : Dev nD) : (Pipeline.afterTail₀ cfgs (dats m) 0 (V0 m) [hostOps1] c main_v2 : FVec Ideal S1024 .f32)
    = fun i : S1024.Idx => gradG (m ((c : Thread nD τ).loc main_arg0)) (m ((c : Thread nD τ).loc main_arg1)) (ix2 0 (⟨(i 0 : ℕ), (i 0).isLt⟩ : Fin 1024)) := by
  refine (row_vec (Pipeline.withArrays spec0 c (V0 m c) fun w => (dats m 0 c).arrAt w cfg0.N)).trans ?_
  have h := Pipeline.withArrays_arr spec0 arr_ne c (V0 m c) (fun w => (dats m 0 c).arrAt w cfg0.N) 5
  funext i
  exact (congrFun h _).trans (congrFun (result_g m c) _)

end Cert.KernelNormMixIdeal.Hand

end
-- ==== Proof.NormMix.lean ====
/- The claims of the first norm's backward pass. -/
module

public import proofs.«01_k».proof.Defs
public import proofs.«01_k».proof.Proof.NormMixRun
public import proofs.«01_k».proof.Proof.Gen.KernelNormMix.Frame
public import proofs.«01_k».proof.Proof.Gen.ReferenceNormMixIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem Cert.NormRow

theorem normMix_ref : quiescent_ReferenceNormMixIdeal (hReferenceNormMixIdeal := Cert.ReferenceNormMixIdeal.Gen.facts) := by
  intro m g _
  hlo_run
  · exact fun _ => ⟨trivial, trivial, trivial, trivial⟩
  · exact sem_eq_zero_of_no_sems (by decide) _

theorem normMix_values : algebraic_KernelNormMixIdeal_ReferenceNormMixIdeal (hKernelNormMixIdeal := Cert.KernelNormMixIdeal.Gen.facts) (hReferenceNormMixIdeal := Cert.ReferenceNormMixIdeal.Gen.facts) := by
  pair_intro
  · run_from Cert.KernelNormMixIdeal.Gen.run_main m g
    exact Cert.KernelNormMixIdeal.Gen.W_main_arg2 m _ c
  · hlo_run
    · rw [Cert.KernelNormMixIdeal.Hand.result_x]
      funext i
      obtain ⟨a, b, rfl⟩ : ∃ a b, i = ix2 a b := ⟨i 0, i 1, (ix2_eta i).symm⟩
      pointwise [Cert.KernelNormMixIdeal.Hand.gradX]
      simp only [Fin.sum_univ_one]
      exact agree_add (fun k => m (c.tc.loc Cert.KernelNormMixIdeal.main_arg0) (ix2 a k))
        (fun k => @HMul.hMul EReal EReal EReal _ (m (c.tc.loc Cert.KernelNormMixIdeal.main_arg1) (ix2 a k)) (m (c.tc.loc Cert.KernelNormMixIdeal.main_arg2) (ix1 k))) b
        (m (c.tc.loc Cert.KernelNormMixIdeal.main_arg3) (ix2 a b))
    · rw [Cert.KernelNormMixIdeal.Hand.tail_g]
      funext i
      pointwise [Cert.KernelNormMixIdeal.Hand.gradG]
      simp only [Fin.sum_univ_one]
      exact Finset.sum_congr rfl fun l _ => mul_comm _ _

end Cert.Hand

end
-- ==== Proof.InXRun.lean ====
/- The gradient of the input projection's operand: each tile of the result. -/
module

public import proofs.«01_k».proof.Proof.Gen.KernelInXIdeal.Frame
public import Idealize.ShloMosaic.Lib.Pipeline.ValueKit

@[expose] public section

set_option maxRecDepth 16384

noncomputable section

namespace Cert.KernelInXIdeal.Hand

open Cert.KernelInXIdeal Cert.KernelInXIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

/-- A sum cut in two. -/
theorem sum_cut {M : Type} [AddCommMonoid M] {n : ℕ} (a b : ℕ) (h : a + b = n) (f : Fin n → M) :
    ∑ i, f i = ∑ i : Fin a, f ⟨i, by omega⟩ + ∑ i : Fin b, f ⟨a + i, by omega⟩ := by
  subst h
  exact Fin.sum_univ_add f

/-- The gradient of the operand: the cotangent against the weights' rows. -/
def gradX (w : FVec Ideal S1024x3080 .bf16) (z : FVec Ideal S8192x3080 .bf16) : FVec Ideal S8192x1024 .f32 :=
  fun i => ∑ l : Fin 3080, z (ix2 (i 0) l) * w (ix2 (i 1) l)

/-- The same as five products of column ranges, one after another. -/
def five (a0 : FVec Ideal S8192x1536 .bf16) (a1 a2 a3 : FVec Ideal S8192x512 .bf16) (a4 : FVec Ideal S8192x128 .bf16)
    (b0 : FVec Ideal S1024x1536 .bf16) (b1 b2 b3 : FVec Ideal S1024x512 .bf16) (b4 : FVec Ideal S1024x128 .bf16) : FVec Ideal S8192x1024 .f32 :=
  fun i => (∑ l : Fin 1536, a0 (ix2 (i 0) l) * b0 (ix2 (i 1) l)) + (∑ l : Fin 512, a1 (ix2 (i 0) l) * b1 (ix2 (i 1) l))
    + (∑ l : Fin 512, a2 (ix2 (i 0) l) * b2 (ix2 (i 1) l)) + (∑ l : Fin 512, a3 (ix2 (i 0) l) * b3 (ix2 (i 1) l))
    + ∑ l : Fin 128, a4 (ix2 (i 0) l) * b4 (ix2 (i 1) l)

theorem pay (a0 : Vec Ideal S1024x1536 .bf16) (b0 : Vec Ideal S512x1536 .bf16) (a1 : Vec Ideal S1024x512 .bf16) (b1 : Vec Ideal S512x512 .bf16)
    (a2 : Vec Ideal S1024x512 .bf16) (b2 : Vec Ideal S512x512 .bf16) (a3 : Vec Ideal S1024x512 .bf16) (b3 : Vec Ideal S512x512 .bf16)
    (a4 : Vec Ideal S1024x128 .bf16) (b4 : Vec Ideal S512x128 .bf16) (j : S1024x512.Idx) :
    k0_pay1 (F := Ideal) a0 b0 a1 b1 a2 b2 a3 b3 a4 b4 j
      = (∑ l : Fin 1536, a0 (ix2 (j 0) l) * b0 (ix2 (j 1) l)) + (∑ l : Fin 512, a1 (ix2 (j 0) l) * b1 (ix2 (j 1) l))
        + (∑ l : Fin 512, a2 (ix2 (j 0) l) * b2 (ix2 (j 1) l)) + (∑ l : Fin 512, a3 (ix2 (j 0) l) * b3 (ix2 (j 1) l))
        + ∑ l : Fin 128, a4 (ix2 (j 0) l) * b4 (ix2 (j 1) l) := by
  pointwise [k0_pay1]

theorem idx : ∀ t : Fin cfg0.N, win0_0.index t = ![t.val / 2, 0] ∧ win0_1.index t = ![t.val / 2, 0] ∧ win0_2.index t = ![t.val / 2, 0]
    ∧ win0_3.index t = ![t.val / 2, 0] ∧ win0_4.index t = ![t.val / 2, 0] ∧ win0_5.index t = ![t.val % 2, 0] ∧ win0_6.index t = ![t.val % 2, 0]
    ∧ win0_7.index t = ![t.val % 2, 0] ∧ win0_8.index t = ![t.val % 2, 0] ∧ win0_9.index t = ![t.val % 2, 0] ∧ win0_10.index t = ![t.val / 2, t.val % 2]
    ∧ t.val < 16 :=
  (by decide +kernel : ∀ t : Fin grid0.N, _)

theorem final_five (c : Dev nD) : (dats m 0 c).arrAt 10 cfg0.N = five (V m c main_v0) (V m c main_v1) (V m c main_v2) (V m c main_v3) (V m c main_v5)
    (V m c main_v6) (V m c main_v7) (V m c main_v8) (V m c main_v9) (V m c main_v11) := by
  refine (dats m 0 c).arrAt_eq_of_covers 10 _ (by decide +kernel) fun t _ y => ?_
  blk_simp
  rw [after0_10]
  frame_out
  rw [pay]
  unfold five
  blk_point [iblk, idx t]

end Cert.KernelInXIdeal.Hand

end
-- ==== Proof.InXHost.lean ====
/- The gradient of the input projection's operand: the arrays the launch reads, and the five products as one. -/
module

public import proofs.«01_k».proof.Proof.Gen.KernelInXIdeal.Frame
public import Idealize.ShloMosaic.Lib.Pipeline.ValueKit
public import proofs.«01_k».proof.Proof.InXRun

@[expose] public section

set_option maxRecDepth 16384

noncomputable section

namespace Cert.KernelInXIdeal.Hand

open Cert.KernelInXIdeal Cert.KernelInXIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

/-- The padding value, an integer zero turned into a float, is zero. -/
theorem pad_zero : (FloatOps.sitofp (F := Ideal) FTy.bf16 (0#32) : EReal) = 0 := by
  show (((0#32 : BitVec 32).toInt : ℝ) : EReal) = 0
  simp

/-- Columns 0 to 1536. -/
def part_v0 (z : FVec Ideal S8192x3080 .bf16) : FVec Ideal S8192x1536 .bf16 := fun i => z (ix2 (i 0) (⟨0 + (i 1 : ℕ), by
    have : (i 1 : ℕ) < 1536 := (i 1).isLt; omega⟩ : Fin 3080))

theorem entry_v0 (c : Dev nD) : (V m c main_v0 : FVec Ideal S8192x1536 .bf16) = part_v0 (m ((c : Thread nD τ).loc main_arg1)) := by
  unfold V
  simp only [hostOps0, hostOps0_1, hostOps0_2, hostOps0_3, List.flatten_cons, List.flatten_nil, List.append_nil, List.cons_append, List.nil_append]
  after_results
  funext i
  pointwise [part_v0]

/-- Columns 1536 to 2048. -/
def part_v1 (z : FVec Ideal S8192x3080 .bf16) : FVec Ideal S8192x512 .bf16 := fun i => z (ix2 (i 0) (⟨1536 + (i 1 : ℕ), by
    have : (i 1 : ℕ) < 512 := (i 1).isLt; omega⟩ : Fin 3080))

theorem entry_v1 (c : Dev nD) : (V m c main_v1 : FVec Ideal S8192x512 .bf16) = part_v1 (m ((c : Thread nD τ).loc main_arg1)) := by
  unfold V
  simp only [hostOps0, hostOps0_1, hostOps0_2, hostOps0_3, List.flatten_cons, List.flatten_nil, List.append_nil, List.cons_append, List.nil_append]
  after_results
  funext i
  pointwise [part_v1]

/-- Columns 2048 to 2560. -/
def part_v2 (z : FVec Ideal S8192x3080 .bf16) : FVec Ideal S8192x512 .bf16 := fun i => z (ix2 (i 0) (⟨2048 + (i 1 : ℕ), by
    have : (i 1 : ℕ) < 512 := (i 1).isLt; omega⟩ : Fin 3080))

theorem entry_v2 (c : Dev nD) : (V m c main_v2 : FVec Ideal S8192x512 .bf16) = part_v2 (m ((c : Thread nD τ).loc main_arg1)) := by
  unfold V
  simp only [hostOps0, hostOps0_1, hostOps0_2, hostOps0_3, List.flatten_cons, List.flatten_nil, List.append_nil, List.cons_append, List.nil_append]
  after_results
  funext i
  pointwise [part_v2]

/-- Columns 2560 to 3072. -/
def part_v3 (z : FVec Ideal S8192x3080 .bf16) : FVec Ideal S8192x512 .bf16 := fun i => z (ix2 (i 0) (⟨2560 + (i 1 : ℕ), by
    have : (i 1 : ℕ) < 512 := (i 1).isLt; omega⟩ : Fin 3080))

theorem entry_v3 (c : Dev nD) : (V m c main_v3 : FVec Ideal S8192x512 .bf16) = part_v3 (m ((c : Thread nD τ).loc main_arg1)) := by
  unfold V
  simp only [hostOps0, hostOps0_1, hostOps0_2, hostOps0_3, List.flatten_cons, List.flatten_nil, List.append_nil, List.cons_append, List.nil_append]
  after_results
  funext i
  pointwise [part_v3]

/-- Columns 0 to 1536. -/
def part_v6 (w : FVec Ideal S1024x3080 .bf16) : FVec Ideal S1024x1536 .bf16 := fun i => w (ix2 (i 0) (⟨0 + (i 1 : ℕ), by
    have : (i 1 : ℕ) < 1536 := (i 1).isLt; omega⟩ : Fin 3080))

theorem entry_v6 (c : Dev nD) : (V m c main_v6 : FVec Ideal S1024x1536 .bf16) = part_v6 (m ((c : Thread nD τ).loc main_arg0)) := by
  unfold V
  simp only [hostOps0, hostOps0_1, hostOps0_2, hostOps0_3, List.flatten_cons, List.flatten_nil, List.append_nil, List.cons_append, List.nil_append]
  after_results
  funext i
  pointwise [part_v6]

/-- Columns 1536 to 2048. -/
def part_v7 (w : FVec Ideal S1024x3080 .bf16) : FVec Ideal S1024x512 .bf16 := fun i => w (ix2 (i 0) (⟨1536 + (i 1 : ℕ), by
    have : (i 1 : ℕ) < 512 := (i 1).isLt; omega⟩ : Fin 3080))

theorem entry_v7 (c : Dev nD) : (V m c main_v7 : FVec Ideal S1024x512 .bf16) = part_v7 (m ((c : Thread nD τ).loc main_arg0)) := by
  unfold V
  simp only [hostOps0, hostOps0_1, hostOps0_2, hostOps0_3, List.flatten_cons, List.flatten_nil, List.append_nil, List.cons_append, List.nil_append]
  after_results
  funext i
  pointwise [part_v7]

/-- Columns 2048 to 2560. -/
def part_v8 (w : FVec Ideal S1024x3080 .bf16) : FVec Ideal S1024x512 .bf16 := fun i => w (ix2 (i 0) (⟨2048 + (i 1 : ℕ), by
    have : (i 1 : ℕ) < 512 := (i 1).isLt; omega⟩ : Fin 3080))

theorem entry_v8 (c : Dev nD) : (V m c main_v8 : FVec Ideal S1024x512 .bf16) = part_v8 (m ((c : Thread nD τ).loc main_arg0)) := by
  unfold V
  simp only [hostOps0, hostOps0_1, hostOps0_2, hostOps0_3, List.flatten_cons, List.flatten_nil, List.append_nil, List.cons_append, List.nil_append]
  after_results
  funext i
  pointwise [part_v8]

/-- Columns 2560 to 3072. -/
def part_v9 (w : FVec Ideal S1024x3080 .bf16) : FVec Ideal S1024x512 .bf16 := fun i => w (ix2 (i 0) (⟨2560 + (i 1 : ℕ), by
    have : (i 1 : ℕ) < 512 := (i 1).isLt; omega⟩ : Fin 3080))

theorem entry_v9 (c : Dev nD) : (V m c main_v9 : FVec Ideal S1024x512 .bf16) = part_v9 (m ((c : Thread nD τ).loc main_arg0)) := by
  unfold V
  simp only [hostOps0, hostOps0_1, hostOps0_2, hostOps0_3, List.flatten_cons, List.flatten_nil, List.append_nil, List.cons_append, List.nil_append]
  after_results
  funext i
  pointwise [part_v9]

/-- The last eight columns, and zeros after them. -/
def part_v5 (z : FVec Ideal S8192x3080 .bf16) : FVec Ideal S8192x128 .bf16 := fun i =>
  if h : (i 1 : ℕ) < 8 then z (ix2 (i 0) (⟨3072 + (i 1 : ℕ), by omega⟩ : Fin 3080)) else (0 : EReal)

theorem entry_v5 (c : Dev nD) : (V m c main_v5 : FVec Ideal S8192x128 .bf16) = part_v5 (m ((c : Thread nD τ).loc main_arg1)) := by
  unfold V
  simp only [hostOps0, hostOps0_1, hostOps0_2, hostOps0_3, List.flatten_cons, List.flatten_nil, List.append_nil, List.cons_append, List.nil_append]
  after_results
  show pad S8192x128 ![0, 0] ![0, 120] ![0, 0] (extractStridedSlice S8192x8 ![0, 3072] (m (c, Proc.tc.devRef main_arg1)) slices_S8192x3080_S8192x8_0_3072)
    (sitofp (F := Ideal) FTy.bf16 (constantI S_ 32 0#32)) pads_S8192x8_S8192x128_000_01200 h_S_ = _
  funext i
  pointwise [part_v5]
  rw [show (FloatOps.sitofp FTy.bf16 0#32 : Ideal FTy.bf16) = (0 : EReal) from pad_zero]

/-- The last eight columns, and zeros after them. -/
def part_v11 (w : FVec Ideal S1024x3080 .bf16) : FVec Ideal S1024x128 .bf16 := fun i =>
  if h : (i 1 : ℕ) < 8 then w (ix2 (i 0) (⟨3072 + (i 1 : ℕ), by omega⟩ : Fin 3080)) else (0 : EReal)

theorem entry_v11 (c : Dev nD) : (V m c main_v11 : FVec Ideal S1024x128 .bf16) = part_v11 (m ((c : Thread nD τ).loc main_arg0)) := by
  unfold V
  simp only [hostOps0, hostOps0_1, hostOps0_2, hostOps0_3, List.flatten_cons, List.flatten_nil, List.append_nil, List.cons_append, List.nil_append]
  after_results
  show pad S1024x128 ![0, 0] ![0, 120] ![0, 0] (extractStridedSlice S1024x8 ![0, 3072] (m (c, Proc.tc.devRef main_arg0)) slices_S1024x3080_S1024x8_0_3072)
    (sitofp (F := Ideal) FTy.bf16 (constantI S_ 32 0#32)) pads_S1024x8_S1024x128_000_01200 h_S_ = _
  funext i
  pointwise [part_v11]
  rw [show (FloatOps.sitofp FTy.bf16 0#32 : Ideal FTy.bf16) = (0 : EReal) from pad_zero]

theorem five_eq (w : FVec Ideal S1024x3080 .bf16) (z : FVec Ideal S8192x3080 .bf16) :
    five (part_v0 z) (part_v1 z) (part_v2 z) (part_v3 z) (part_v5 z) (part_v6 w) (part_v7 w) (part_v8 w) (part_v9 w) (part_v11 w) = gradX w z := by
  funext i
  unfold five gradX
  rw [sum_cut 3072 8 (by norm_num) (fun l : Fin 3080 => z (ix2 (i 0) l) * w (ix2 (i 1) l)), sum_cut 2560 512 (by norm_num) (fun l : Fin 3072 => _),
    sum_cut 2048 512 (by norm_num) (fun l : Fin 2560 => _), sum_cut 1536 512 (by norm_num) (fun l : Fin 2048 => _),
    sum_cut 8 120 (by norm_num) (fun l : Fin 128 => part_v5 z (ix2 (i 0) l) * part_v11 w (ix2 (i 1) l))]
  have hz : ∑ l : Fin 120, part_v5 z (ix2 (i 0) (⟨8 + l, by omega⟩ : Fin 128)) * part_v11 w (ix2 (i 1) (⟨8 + l, by omega⟩ : Fin 128)) = 0 := by
    refine Finset.sum_eq_zero fun l _ => ?_
    have h8 : ¬ (8 + (l : ℕ) < 8) := by omega
    have hp : part_v5 z (ix2 (i 0) (⟨8 + l, by omega⟩ : Fin 128)) = (0 : EReal) := dif_neg h8
    rw [hp]
    exact zero_mul _
  rw [hz, add_zero]
  refine congrArg₂ (· + ·) (congrArg (· + _) (congrArg (· + _) (congrArg (· + _) ?_))) ?_
  · refine Finset.sum_congr rfl fun l _ => ?_
    unfold part_v0 part_v6
    refine congrArg₂ (· * ·) ?_ ?_ <;> refine congrArg _ (congrArg (ix2 _) (Fin.ext ?_)) <;> exact Nat.zero_add _
  · refine Finset.sum_congr rfl fun l _ => ?_
    have h8 : (l : ℕ) < 8 := l.isLt
    have hp : part_v5 z (ix2 (i 0) (⟨l, by omega⟩ : Fin 128)) = z (ix2 (i 0) (⟨3072 + (l : ℕ), by omega⟩ : Fin 3080)) := dif_pos h8
    have hq : part_v11 w (ix2 (i 1) (⟨l, by omega⟩ : Fin 128)) = w (ix2 (i 1) (⟨3072 + (l : ℕ), by omega⟩ : Fin 3080)) := dif_pos h8
    rw [hp, hq]

theorem final (c : Dev nD) : (dats m 0 c).arrAt 10 cfg0.N = gradX (m ((c : Thread nD τ).loc main_arg0)) (m ((c : Thread nD τ).loc main_arg1)) := by
  rw [final_five, entry_v0, entry_v1, entry_v2, entry_v3, entry_v5, entry_v6, entry_v7, entry_v8, entry_v9, entry_v11]
  exact five_eq _ _

end Cert.KernelInXIdeal.Hand

end
-- ==== Proof.InX.lean ====
/- The claims of the gradient of the input projection's operand. -/
module

public import proofs.«01_k».proof.Defs
public import proofs.«01_k».proof.Proof.InXHost
public import proofs.«01_k».proof.Proof.Gen.KernelInX.Frame
public import proofs.«01_k».proof.Proof.Gen.ReferenceInXIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product is the sum over the columns of the weights. -/
theorem inX_prod (w : FVec Ideal Cert.ReferenceInXIdeal.S1024x3080 .bf16) (z : FVec Ideal Cert.ReferenceInXIdeal.S8192x3080 .bf16) (hw hz : FTy.bits .bf16 < FTy.bits .f32) :
    Host.dotGeneral Cert.ReferenceInXIdeal.dot_S8192x3080_S1024x3080_S8192x1024_1_1_0_0_n_n none (extf .f32 z hz) (extf .f32 w hw) = Cert.KernelInXIdeal.Hand.gradX w z := by
  funext i
  pointwise [Cert.KernelInXIdeal.Hand.gradX]

theorem inX_ref : quiescent_ReferenceInXIdeal (hReferenceInXIdeal := Cert.ReferenceInXIdeal.Gen.facts) := by
  intro m g _
  hlo_run
  · exact fun _ => ⟨trivial, trivial⟩
  · exact sem_eq_zero_of_no_sems (by decide) _

theorem inX_values : algebraic_KernelInXIdeal_ReferenceInXIdeal (hKernelInXIdeal := Cert.KernelInXIdeal.Gen.facts) (hReferenceInXIdeal := Cert.ReferenceInXIdeal.Gen.facts) := by
  pair_intro
  · run_from Cert.KernelInXIdeal.Gen.run_main m g
    · exact Cert.KernelInXIdeal.Gen.V_main_arg0 m c
    · exact Cert.KernelInXIdeal.Gen.V_main_arg1 m c
  · hlo_run
    rw [inX_prod]
    exact (Cert.KernelInXIdeal.Hand.final m _).symm

end Cert.Hand

end
-- ==== Proof.InWBlocks.lean ====
/- The gradient of the input projection's weights, one range of columns at a time: sums over row blocks. -/
module

public import proofs.«01_k».proof.Proof.Gen.KernelInWIdeal.Frame
public import Idealize.ShloMosaic.Lib.Pipeline.ValueKit

@[expose] public section

set_option maxRecDepth 16384

noncomputable section

namespace Cert.KernelInWIdeal.Hand

open Cert.KernelInWIdeal Cert.KernelInWIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (V : (c : Dev nD) → (b : Ref sig .tc) → Buf (Elt Ideal) ((c : Thread nD τ).loc b))

/-- The gradient of 1536 columns of the weights: a sum over the rows. -/
def gw1536 (h : FVec Ideal S8192x1024 .bf16) (d : FVec Ideal S8192x1536 .bf16) : FVec Ideal S1024x1536 .f32 :=
  fun i => ∑ l : Fin 8192, h (ix2 l (i 0)) * d (ix2 l (i 1))

/-- The gradient of 512 columns of the weights: a sum over the rows. -/
def gw512 (h : FVec Ideal S8192x1024 .bf16) (d : FVec Ideal S8192x512 .bf16) : FVec Ideal S1024x512 .f32 :=
  fun i => ∑ l : Fin 8192, h (ix2 l (i 0)) * d (ix2 l (i 1))

/-- The gradient of 128 columns of the weights: a sum over the rows. -/
def gw128 (h : FVec Ideal S8192x1024 .bf16) (d : FVec Ideal S8192x128 .bf16) : FVec Ideal S1024x128 .f32 :=
  fun i => ∑ l : Fin 8192, h (ix2 l (i 0)) * d (ix2 l (i 1))

theorem zero0 (j : S1024x1536.Idx) : k0_pay1 (F := Ideal) j = 0 := by pointwise [k0_pay1]

theorem pay0 (acc : Vec Ideal S1024x1536 .f32) (x0 : Vec Ideal S1024x1024 .bf16) (x1 : Vec Ideal S1024x1536 .bf16) (j : S1024x1536.Idx) :
    k0_pay2 (F := Ideal) acc x0 x1 j = acc j + ∑ k : Fin 1024, x0 (ix2 k (j 0)) * x1 (ix2 k (j 1)) := by
  pointwise [k0_pay2]

theorem idx0 : ∀ t : Fin cfg0.N, win0_0.index t = ![t.val % 8, 0] ∧ win0_1.index t = ![t.val % 8, 0] ∧ win0_2.index t = ![0, 0] ∧ t.val < 8 :=
  (by decide +kernel : ∀ t : Fin grid0.N, _)

theorem final0 (c : Dev nD) : (dat0 V c).arrAt 2 cfg0.N = gw1536 (V c main_arg0) (V c main_v0) := by
  refine (dat0 V c).arrAt_eq_of_covers 2 _ (by decide +kernel) fun t hf y => ?_
  blk_simp
  rw [after0_2, Pipeline.eq_sum_fin_of_reset_step_apply_of_flush (fun n h => outsAt0 V c n h) 8 (fun _ => 0) _
    (fun t h j => by rw [outsAt0_A V c t h]; frame_out; rw [pay0, zero0]) (fun t h j => by rw [outsAt0_B V c t h]; frame_out; rw [pay0])
    t ((flush0_2 t).mp hf) _, zero_add]
  unfold gw1536
  refine Fin.sum_mul_add_congr fun s k hl => ?_
  blk_point [iblk0, idx0 t, idx0 ⟨_, Pipeline.run_point_lt_of_flush t ((flush0_2 t).mp hf) s⟩]

theorem zero1 (j : S1024x512.Idx) : k1_pay1 (F := Ideal) j = 0 := by pointwise [k1_pay1]

theorem pay1 (acc : Vec Ideal S1024x512 .f32) (x0 : Vec Ideal S1024x1024 .bf16) (x1 : Vec Ideal S1024x512 .bf16) (j : S1024x512.Idx) :
    k1_pay2 (F := Ideal) acc x0 x1 j = acc j + ∑ k : Fin 1024, x0 (ix2 k (j 0)) * x1 (ix2 k (j 1)) := by
  pointwise [k1_pay2]

theorem idx1 : ∀ t : Fin cfg1.N, win1_0.index t = ![t.val % 8, 0] ∧ win1_1.index t = ![t.val % 8, 0] ∧ win1_2.index t = ![0, 0] ∧ t.val < 8 :=
  (by decide +kernel : ∀ t : Fin grid1.N, _)

theorem final1 (c : Dev nD) : (dat1 V c).arrAt 2 cfg1.N = gw512 (V c main_arg0) (V c main_v1) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [pay1, zero1]) (fun t h j => by rw [outsAt1_B V c t h]; frame_out; rw [pay1])
    t ((flush1_2 t).mp hf) _, zero_add]
  unfold gw512
  refine Fin.sum_mul_add_congr fun s k hl => ?_
  blk_point [iblk1, idx1 t, idx1 ⟨_, Pipeline.run_point_lt_of_flush t ((flush1_2 t).mp hf) s⟩]

theorem zero2 (j : S1024x512.Idx) : k2_pay1 (F := Ideal) j = 0 := by pointwise [k2_pay1]

theorem pay2 (acc : Vec Ideal S1024x512 .f32) (x0 : Vec Ideal S1024x1024 .bf16) (x1 : Vec Ideal S1024x512 .bf16) (j : S1024x512.Idx) :
    k2_pay2 (F := Ideal) acc x0 x1 j = acc j + ∑ k : Fin 1024, x0 (ix2 k (j 0)) * x1 (ix2 k (j 1)) := by
  pointwise [k2_pay2]

theorem idx2 : ∀ t : Fin cfg2.N, win2_0.index t = ![t.val % 8, 0] ∧ win2_1.index t = ![t.val % 8, 0] ∧ win2_2.index t = ![0, 0] ∧ t.val < 8 :=
  (by decide +kernel : ∀ t : Fin grid2.N, _)

theorem final2 (c : Dev nD) : (dat2 V c).arrAt 2 cfg2.N = gw512 (V c main_arg0) (V c main_v2) := by
  refine (dat2 V c).arrAt_eq_of_covers 2 _ (by decide +kernel) fun t hf y => ?_
  blk_simp
  rw [after2_2, Pipeline.eq_sum_fin_of_reset_step_apply_of_flush (fun n h => outsAt2 V c n h) 8 (fun _ => 0) _
    (fun t h j => by rw [outsAt2_A V c t h]; frame_out; rw [pay2, zero2]) (fun t h j => by rw [outsAt2_B V c t h]; frame_out; rw [pay2])
    t ((flush2_2 t).mp hf) _, zero_add]
  unfold gw512
  refine Fin.sum_mul_add_congr fun s k hl => ?_
  blk_point [iblk2, idx2 t, idx2 ⟨_, Pipeline.run_point_lt_of_flush t ((flush2_2 t).mp hf) s⟩]

theorem zero3 (j : S1024x512.Idx) : k3_pay1 (F := Ideal) j = 0 := by pointwise [k3_pay1]

theorem pay3 (acc : Vec Ideal S1024x512 .f32) (x0 : Vec Ideal S1024x1024 .bf16) (x1 : Vec Ideal S1024x512 .bf16) (j : S1024x512.Idx) :
    k3_pay2 (F := Ideal) acc x0 x1 j = acc j + ∑ k : Fin 1024, x0 (ix2 k (j 0)) * x1 (ix2 k (j 1)) := by
  pointwise [k3_pay2]

theorem idx3 : ∀ t : Fin cfg3.N, win3_0.index t = ![t.val % 8, 0] ∧ win3_1.index t = ![t.val % 8, 0] ∧ win3_2.index t = ![0, 0] ∧ t.val < 8 :=
  (by decide +kernel : ∀ t : Fin grid3.N, _)

theorem final3 (c : Dev nD) : (dat3 V c).arrAt 2 cfg3.N = gw512 (V c main_arg0) (V c main_v3) := by
  refine (dat3 V c).arrAt_eq_of_covers 2 _ (by decide +kernel) fun t hf y => ?_
  blk_simp
  rw [after3_2, Pipeline.eq_sum_fin_of_reset_step_apply_of_flush (fun n h => outsAt3 V c n h) 8 (fun _ => 0) _
    (fun t h j => by rw [outsAt3_A V c t h]; frame_out; rw [pay3, zero3]) (fun t h j => by rw [outsAt3_B V c t h]; frame_out; rw [pay3])
    t ((flush3_2 t).mp hf) _, zero_add]
  unfold gw512
  refine Fin.sum_mul_add_congr fun s k hl => ?_
  blk_point [iblk3, idx3 t, idx3 ⟨_, Pipeline.run_point_lt_of_flush t ((flush3_2 t).mp hf) s⟩]

theorem zero4 (j : S1024x128.Idx) : k4_pay1 (F := Ideal) j = 0 := by pointwise [k4_pay1]

theorem pay4 (acc : Vec Ideal S1024x128 .f32) (x0 : Vec Ideal S1024x1024 .bf16) (x1 : Vec Ideal S1024x128 .bf16) (j : S1024x128.Idx) :
    k4_pay2 (F := Ideal) acc x0 x1 j = acc j + ∑ k : Fin 1024, x0 (ix2 k (j 0)) * x1 (ix2 k (j 1)) := by
  pointwise [k4_pay2]

theorem idx4 : ∀ t : Fin cfg4.N, win4_0.index t = ![t.val % 8, 0] ∧ win4_1.index t = ![t.val % 8, 0] ∧ win4_2.index t = ![0, 0] ∧ t.val < 8 :=
  (by decide +kernel : ∀ t : Fin grid4.N, _)

theorem final4 (c : Dev nD) : (dat4 V c).arrAt 2 cfg4.N = gw128 (V c main_arg0) (V c main_v5) := by
  refine (dat4 V c).arrAt_eq_of_covers 2 _ (by decide +kernel) fun t hf y => ?_
  blk_simp
  rw [after4_2, Pipeline.eq_sum_fin_of_reset_step_apply_of_flush (fun n h => outsAt4 V c n h) 8 (fun _ => 0) _
    (fun t h j => by rw [outsAt4_A V c t h]; frame_out; rw [pay4, zero4]) (fun t h j => by rw [outsAt4_B V c t h]; frame_out; rw [pay4])
    t ((flush4_2 t).mp hf) _, zero_add]
  unfold gw128
  refine Fin.sum_mul_add_congr fun s k hl => ?_
  blk_point [iblk4, idx4 t, idx4 ⟨_, Pipeline.run_point_lt_of_flush t ((flush4_2 t).mp hf) s⟩]

end Cert.KernelInWIdeal.Hand

end
-- ==== Proof.InWRun.lean ====
/- The gradient of the input projection's weights: the run, and its result as one sum. -/
module

public import proofs.«01_k».proof.Proof.InWBlocks

@[expose] public section

set_option maxRecDepth 16384

noncomputable section

namespace Cert.KernelInWIdeal.Hand

open Cert.KernelInWIdeal Cert.KernelInWIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- Columns 0 to 1536 of the cotangent. -/
def part_v0 (z : FVec Ideal S8192x3080 .bf16) : FVec Ideal S8192x1536 .bf16 := fun i => z (ix2 (i 0) (⟨0 + (i 1 : ℕ), by
    have : (i 1 : ℕ) < 1536 := (i 1).isLt; omega⟩ : Fin 3080))

theorem entry_v0 (c : Dev nD) : (W2 m ρ c (Proc.devRef .tc main_v0) : FVec Ideal S8192x1536 .bf16) = part_v0 (m ((c : Thread nD τ).loc main_arg1)) := by
  rw [W2_of m ρ c main_v0 (by decide)]
  after_results
  funext i
  pointwise [part_v0]

/-- Columns 1536 to 2048 of the cotangent. -/
def part_v1 (z : FVec Ideal S8192x3080 .bf16) : FVec Ideal S8192x512 .bf16 := fun i => z (ix2 (i 0) (⟨1536 + (i 1 : ℕ), by
    have : (i 1 : ℕ) < 512 := (i 1).isLt; omega⟩ : Fin 3080))

theorem entry_v1 (c : Dev nD) : (W2 m ρ c (Proc.devRef .tc main_v1) : FVec Ideal S8192x512 .bf16) = part_v1 (m ((c : Thread nD τ).loc main_arg1)) := by
  rw [W2_of m ρ c main_v1 (by decide)]
  after_results
  funext i
  pointwise [part_v1]

/-- Columns 2048 to 2560 of the cotangent. -/
def part_v2 (z : FVec Ideal S8192x3080 .bf16) : FVec Ideal S8192x512 .bf16 := fun i => z (ix2 (i 0) (⟨2048 + (i 1 : ℕ), by
    have : (i 1 : ℕ) < 512 := (i 1).isLt; omega⟩ : Fin 3080))

theorem entry_v2 (c : Dev nD) : (W2 m ρ c (Proc.devRef .tc main_v2) : FVec Ideal S8192x512 .bf16) = part_v2 (m ((c : Thread nD τ).loc main_arg1)) := by
  rw [W2_of m ρ c main_v2 (by decide)]
  after_results
  funext i
  pointwise [part_v2]

/-- Columns 2560 to 3072 of the cotangent. -/
def part_v3 (z : FVec Ideal S8192x3080 .bf16) : FVec Ideal S8192x512 .bf16 := fun i => z (ix2 (i 0) (⟨2560 + (i 1 : ℕ), by
    have : (i 1 : ℕ) < 512 := (i 1).isLt; omega⟩ : Fin 3080))

theorem entry_v3 (c : Dev nD) : (W2 m ρ c (Proc.devRef .tc main_v3) : FVec Ideal S8192x512 .bf16) = part_v3 (m ((c : Thread nD τ).loc main_arg1)) := by
  rw [W2_of m ρ c main_v3 (by decide)]
  after_results
  funext i
  pointwise [part_v3]

/-- The padding value, an integer zero turned into a float, is zero. -/
theorem pad_zero : (FloatOps.sitofp (F := Ideal) FTy.bf16 (0#32) : EReal) = 0 := by
  show (((0#32 : BitVec 32).toInt : ℝ) : EReal) = 0
  simp

/-- The last eight columns, and zeros after them. -/
def part_v5 (z : FVec Ideal S8192x3080 .bf16) : FVec Ideal S8192x128 .bf16 := fun i =>
  if h : (i 1 : ℕ) < 8 then z (ix2 (i 0) (⟨3072 + (i 1 : ℕ), by omega⟩ : Fin 3080)) else (0 : EReal)

theorem entry_v5 (c : Dev nD) : (W2 m ρ c (Proc.devRef .tc main_v5) : FVec Ideal S8192x128 .bf16) = part_v5 (m ((c : Thread nD τ).loc main_arg1)) := by
  after_results
  show pad S8192x128 ![0, 0] ![0, 120] ![0, 0] (extractStridedSlice S8192x8 ![0, 3072] (m (c, Proc.tc.devRef main_arg1)) slices_S8192x3080_S8192x8_0_3072)
    (sitofp (F := Ideal) FTy.bf16 (constantI S_ 32 0#32)) pads_S8192x8_S8192x128_000_01200 h_S_ = _
  funext i
  pointwise [part_v5]
  rw [show (FloatOps.sitofp FTy.bf16 0#32 : Ideal FTy.bf16) = (0 : EReal) from pad_zero]

theorem exit_v6 (c : Dev nD) : (W7 m ρ c (Proc.devRef .tc main_v6) : FVec Ideal S1024x1536 .f32)
    = gw1536 (m ((c : Thread nD τ).loc main_arg0)) (part_v0 (m ((c : Thread nD τ).loc main_arg1))) := by
  rw [W7_of m ρ c main_v6 (by decide), W6_of m ρ c main_v6 (by decide), W5_of m ρ c main_v6 (by decide), W4_of m ρ c main_v6 (by decide), ← W2_args m ρ c main_arg0 (by decide), ← entry_v0 m ρ c ]
  exact (W3_arr m ρ c 2).trans (final0 (V2 m ρ) c)

theorem exit_v7 (c : Dev nD) : (W7 m ρ c (Proc.devRef .tc main_v7) : FVec Ideal S1024x512 .f32)
    = gw512 (m ((c : Thread nD τ).loc main_arg0)) (part_v1 (m ((c : Thread nD τ).loc main_arg1))) := by
  rw [W7_of m ρ c main_v7 (by decide), W6_of m ρ c main_v7 (by decide), W5_of m ρ c main_v7 (by decide), ← W3_args m ρ c main_arg0 (by decide), ← entry_v1 m ρ c, ← W3_of m ρ c main_v1 (by decide)]
  exact (W4_arr m ρ c 2).trans (final1 (V3 m ρ) c)

theorem exit_v8 (c : Dev nD) : (W7 m ρ c (Proc.devRef .tc main_v8) : FVec Ideal S1024x512 .f32)
    = gw512 (m ((c : Thread nD τ).loc main_arg0)) (part_v2 (m ((c : Thread nD τ).loc main_arg1))) := by
  rw [W7_of m ρ c main_v8 (by decide), W6_of m ρ c main_v8 (by decide), ← W4_args m ρ c main_arg0 (by decide), ← entry_v2 m ρ c, ← W3_of m ρ c main_v2 (by decide), ← W4_of m ρ c main_v2 (by decide)]
  exact (W5_arr m ρ c 2).trans (final2 (V4 m ρ) c)

theorem exit_v9 (c : Dev nD) : (W7 m ρ c (Proc.devRef .tc main_v9) : FVec Ideal S1024x512 .f32)
    = gw512 (m ((c : Thread nD τ).loc main_arg0)) (part_v3 (m ((c : Thread nD τ).loc main_arg1))) := by
  rw [W7_of m ρ c main_v9 (by decide), ← W5_args m ρ c main_arg0 (by decide), ← entry_v3 m ρ c, ← W3_of m ρ c main_v3 (by decide), ← W4_of m ρ c main_v3 (by decide), ← W5_of m ρ c main_v3 (by decide)]
  exact (W6_arr m ρ c 2).trans (final3 (V5 m ρ) c)

theorem exit_v10 (c : Dev nD) : (W7 m ρ c (Proc.devRef .tc main_v10) : FVec Ideal S1024x128 .f32)
    = gw128 (m ((c : Thread nD τ).loc main_arg0)) (part_v5 (m ((c : Thread nD τ).loc main_arg1))) := by
  rw [ ← W6_args m ρ c main_arg0 (by decide), ← entry_v5 m ρ c, ← W3_of m ρ c main_v5 (by decide), ← W4_of m ρ c main_v5 (by decide), ← W5_of m ρ c main_v5 (by decide), ← W6_of m ρ c main_v5 (by decide)]
  exact (W7_arr m ρ c 2).trans (final4 (V6 m ρ) c)

/-- The five ranges of columns side by side. -/
def joined (a : FVec Ideal S1024x1536 .f32) (b c d : FVec Ideal S1024x512 .f32) (e : FVec Ideal S1024x8 .f32) : FVec Ideal S1024x3080 .f32 := fun i =>
  if h : (i 1 : ℕ) < 1536 then a (ix2 (i 0) ⟨i 1, h⟩)
  else if h : (i 1 : ℕ) - 1536 < 512 then b (ix2 (i 0) ⟨(i 1 : ℕ) - 1536, h⟩)
  else if h : (i 1 : ℕ) - 1536 - 512 < 512 then c (ix2 (i 0) ⟨(i 1 : ℕ) - 1536 - 512, h⟩)
  else if h : (i 1 : ℕ) - 1536 - 512 - 512 < 512 then d (ix2 (i 0) ⟨(i 1 : ℕ) - 1536 - 512 - 512, h⟩)
  else e (ix2 (i 0) ⟨(i 1 : ℕ) - 1536 - 512 - 512 - 512, by have : (i 1 : ℕ) < 3080 := (i 1).isLt; omega⟩)

theorem last_of (U : Valuation τ sig (Elt Ideal)) : (StableHlo.after (List.tail hostOps5) U (Proc.devRef .tc main_v12) : FVec Ideal S1024x3080 .f32)
    = joined (U (Proc.devRef .tc main_v6)) (U (Proc.devRef .tc main_v7)) (U (Proc.devRef .tc main_v8)) (U (Proc.devRef .tc main_v9)) (U (Proc.devRef .tc main_v11)) := by
  simp only [hostOps5, List.tail_cons]
  after_results
  funext i
  pointwise [joined]

/-- The first eight of the padded columns. -/
def eight (e : FVec Ideal S1024x128 .f32) : FVec Ideal S1024x8 .f32 := fun i => e (ix2 (i 0) (⟨i 1, by
  have : (i 1 : ℕ) < 8 := (i 1).isLt; omega⟩ : Fin 128))

theorem head_v11 (U : Valuation τ sig (Elt Ideal)) : (StableHlo.after (List.take 1 hostOps5) U (Proc.devRef .tc main_v11) : FVec Ideal S1024x8 .f32)
    = eight (U (Proc.devRef .tc main_v10)) := by
  simp only [hostOps5, List.take_succ_cons, List.take_zero]
  after_results
  funext i
  pointwise [eight]

theorem head_v6 (U : Valuation τ sig (Elt Ideal)) : StableHlo.after (List.take 1 hostOps5) U (Proc.devRef .tc main_v6) = U (Proc.devRef .tc main_v6) := by
  simp only [hostOps5, List.take_succ_cons, List.take_zero]
  after_results

theorem head_v7 (U : Valuation τ sig (Elt Ideal)) : StableHlo.after (List.take 1 hostOps5) U (Proc.devRef .tc main_v7) = U (Proc.devRef .tc main_v7) := by
  simp only [hostOps5, List.take_succ_cons, List.take_zero]
  after_results

theorem head_v8 (U : Valuation τ sig (Elt Ideal)) : StableHlo.after (List.take 1 hostOps5) U (Proc.devRef .tc main_v8) = U (Proc.devRef .tc main_v8) := by
  simp only [hostOps5, List.take_succ_cons, List.take_zero]
  after_results

theorem head_v9 (U : Valuation τ sig (Elt Ideal)) : StableHlo.after (List.take 1 hostOps5) U (Proc.devRef .tc main_v9) = U (Proc.devRef .tc main_v9) := by
  simp only [hostOps5, List.take_succ_cons, List.take_zero]
  after_results

theorem last (c : Dev nD) : (W8 m ρ c (Proc.devRef .tc main_v12) : FVec Ideal S1024x3080 .f32)
    = joined (W7 m ρ c (Proc.devRef .tc main_v6)) (W7 m ρ c (Proc.devRef .tc main_v7)) (W7 m ρ c (Proc.devRef .tc main_v8))
      (W7 m ρ c (Proc.devRef .tc main_v9)) (eight (W7 m ρ c (Proc.devRef .tc main_v10))) := by
  refine (last_of (StableHlo.after (List.take 1 hostOps5) (W7 m ρ c))).trans ?_
  rw [head_v6, head_v7, head_v8, head_v9, head_v11]

/-- The gradient of the weights: a sum over the rows. -/
def gradW (h : FVec Ideal S8192x1024 .bf16) (z : FVec Ideal S8192x3080 .bf16) : FVec Ideal S1024x3080 .f32 :=
  fun i => ∑ l : Fin 8192, h (ix2 l (i 0)) * z (ix2 l (i 1))

theorem joined_eq (h : FVec Ideal S8192x1024 .bf16) (z : FVec Ideal S8192x3080 .bf16) :
    joined (gw1536 h (part_v0 z)) (gw512 h (part_v1 z)) (gw512 h (part_v2 z)) (gw512 h (part_v3 z)) (eight (gw128 h (part_v5 z))) = gradW h z := by
  funext i
  have hi : (i 1 : ℕ) < 3080 := (i 1).isLt
  unfold joined gradW
  by_cases h0 : (i 1 : ℕ) < 1536
  · rw [dif_pos h0]
    exact Finset.sum_congr rfl fun l _ => congrArg (_ * ·) (congrArg z (congrArg (ix2 l) (Fin.ext (by show 0 + (i 1 : ℕ) = (i 1 : ℕ); omega))))
  rw [dif_neg h0]
  by_cases h1 : (i 1 : ℕ) - 1536 < 512
  · rw [dif_pos h1]
    exact Finset.sum_congr rfl fun l _ => congrArg (_ * ·) (congrArg z (congrArg (ix2 l) (Fin.ext (by show 1536 + ((i 1 : ℕ) - 1536) = (i 1 : ℕ); omega))))
  rw [dif_neg h1]
  by_cases h2 : (i 1 : ℕ) - 1536 - 512 < 512
  · rw [dif_pos h2]
    exact Finset.sum_congr rfl fun l _ => congrArg (_ * ·) (congrArg z (congrArg (ix2 l) (Fin.ext (by show 2048 + ((i 1 : ℕ) - 1536 - 512) = (i 1 : ℕ); omega))))
  rw [dif_neg h2]
  by_cases h3 : (i 1 : ℕ) - 1536 - 512 - 512 < 512
  · rw [dif_pos h3]
    exact Finset.sum_congr rfl fun l _ => congrArg (_ * ·) (congrArg z (congrArg (ix2 l) (Fin.ext (by show 2560 + ((i 1 : ℕ) - 1536 - 512 - 512) = (i 1 : ℕ); omega))))
  rw [dif_neg h3]
  have h8 : (i 1 : ℕ) - 1536 - 512 - 512 - 512 < 8 := by omega
  show ∑ l : Fin 8192, h (ix2 l (i 0)) * part_v5 z (ix2 l (⟨(i 1 : ℕ) - 1536 - 512 - 512 - 512, by omega⟩ : Fin 128)) = _
  refine Finset.sum_congr rfl fun l _ => congrArg (h (ix2 l (i 0)) * ·) ?_
  refine (dif_pos h8).trans ?_
  exact congrArg z (congrArg (ix2 l) (Fin.ext (by show 3072 + ((i 1 : ℕ) - 1536 - 512 - 512 - 512) = (i 1 : ℕ); omega)))

theorem result (c : Dev nD) : (W8 m ρ c (Proc.devRef .tc main_v12) : FVec Ideal S1024x3080 .f32)
    = gradW (m ((c : Thread nD τ).loc main_arg0)) (m ((c : Thread nD τ).loc main_arg1)) := by
  rw [last, exit_v6, exit_v7, exit_v8, exit_v9, exit_v10]
  exact joined_eq _ _

set_option backward.isDefEq.respectTransparency.types false in
/-- The run ends with every buffer at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The run's result, with the arguments as they were. -/
theorem run_values : θ_run defs (onTc (τ := τ) (main (F := Ideal))) ⟨m, fun _ => 0, ρ⟩ (fun r => ∀ c : Dev nD,
      r.2.mem ((c.tc : Thread nD τ).loc main_v12) = gradW (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v12 (by decide))).trans (result m ρ c),
     (h c _ (mem_uc main_arg0 (by decide))).trans (W8_main_arg0 m ρ c), (h c _ (mem_uc main_arg1 (by decide))).trans (W8_main_arg1 m ρ c)⟩) (run m ρ)

end Cert.KernelInWIdeal.Hand

end
-- ==== Proof.InW.lean ====
/- The claims of the gradient of the input projection's weights. -/
module

public import proofs.«01_k».proof.Defs
public import proofs.«01_k».proof.Proof.InWRun
public import proofs.«01_k».proof.Proof.Gen.KernelInW.Frame
public import proofs.«01_k».proof.Proof.Gen.ReferenceInWIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product, transposed, is the sum over the rows. -/
theorem inW_prod (h : FVec Ideal Cert.ReferenceInWIdeal.S8192x1024 .bf16) (z : FVec Ideal Cert.ReferenceInWIdeal.S8192x3080 .bf16) (hh hz : FTy.bits .bf16 < FTy.bits .f32) :
    transpose Cert.ReferenceInWIdeal.S1024x3080 [1, 0] (Host.dotGeneral Cert.ReferenceInWIdeal.dot_S8192x3080_S8192x1024_S3080x1024_0_0_1_1_n_n none (extf .f32 z hz) (extf .f32 h hh)) Cert.ReferenceInWIdeal.Facts₀.transposes_S3080x1024_S1024x3080_1_0
      = Cert.KernelInWIdeal.Hand.gradW h z := by
  funext i
  pointwise [Cert.KernelInWIdeal.Hand.gradW]
  exact Finset.sum_congr rfl fun l _ => mul_comm _ _

theorem inW_ref : quiescent_ReferenceInWIdeal (hReferenceInWIdeal := Cert.ReferenceInWIdeal.Gen.facts) := by
  intro m g _
  hlo_run
  · exact fun _ => ⟨trivial, trivial⟩
  · exact sem_eq_zero_of_no_sems (by decide) _

theorem inW_values : algebraic_KernelInWIdeal_ReferenceInWIdeal (hKernelInWIdeal := Cert.KernelInWIdeal.Gen.facts) (hReferenceInWIdeal := Cert.ReferenceInWIdeal.Gen.facts) := by
  pair_intro
  · run_from Cert.KernelInWIdeal.Hand.run_values m g
  · hlo_run
    exact inW_prod _ _ _ _

end Cert.Hand

end
-- ==== Proof.OutRun.lean ====
/- The two products of the output projection's backward pass: tiles, sums over row blocks, and the run. -/
module

public import proofs.«01_k».proof.Proof.Gen.KernelOutIdeal.Frame
public import Idealize.ShloMosaic.Lib.Pipeline.ValueKit

@[expose] public section

set_option maxRecDepth 16384

noncomputable section

namespace Cert.KernelOutIdeal.Hand

open Cert.KernelOutIdeal Cert.KernelOutIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (V : (c : Dev nD) → (b : Ref sig .tc) → Buf (Elt Ideal) ((c : Thread nD τ).loc b))

/-- The input's gradient: a sum over the columns. -/
def gradH (w : FVec Ideal S1024x1024 .bf16) (d : FVec Ideal S8192x1024 .bf16) : FVec Ideal S8192x1024 .f32 :=
  fun i => ∑ l : Fin 1024, d (ix2 (i 0) l) * w (ix2 (i 1) l)

/-- The weights' gradient: a sum over the rows. -/
def gradW (h : FVec Ideal S8192x1024 .bf16) (d : FVec Ideal S8192x1024 .bf16) : FVec Ideal S1024x1024 .f32 :=
  fun i => ∑ l : Fin 8192, h (ix2 l (i 0)) * d (ix2 l (i 1))

theorem dpay (a : Vec Ideal S1024x1024 .bf16) (b : Vec Ideal S512x1024 .bf16) (j : S1024x512.Idx) :
    k0_pay1 (F := Ideal) a b j = ∑ k : Fin 1024, a (ix2 (j 0) k) * b (ix2 (j 1) k) := by
  pointwise [k0_pay1]

theorem idx0 : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

theorem final_dh (c : Dev nD) : (dat0 V c).arrAt 2 cfg0.N = gradH (V c main_arg1) (V c main_arg2) := by
  refine (dat0 V c).arrAt_eq_of_covers 2 _ (by decide +kernel) fun t _ y => ?_
  blk_simp
  rw [after0_2]
  frame_out
  rw [dpay]
  unfold gradH
  blk_point [iblk0, idx0 t]

theorem hzero (j : S1024x1024.Idx) : k1_pay1 (F := Ideal) j = 0 := by pointwise [k1_pay1]

theorem hpay (acc : Vec Ideal S1024x1024 .f32) (x0 : Vec Ideal S1024x1024 .bf16) (x1 : Vec Ideal S1024x1024 .bf16) (j : S1024x1024.Idx) :
    k1_pay2 (F := Ideal) acc x0 x1 j = acc j + ∑ k : Fin 1024, x0 (ix2 k (j 0)) * x1 (ix2 k (j 1)) := by
  pointwise [k1_pay2]

theorem idx1 : ∀ t : Fin cfg1.N, win1_0.index t = ![t.val % 8, t.val / 8] ∧ win1_1.index t = ![t.val % 8, 0]
    ∧ win1_2.index t = ![t.val / 8, 0] ∧ t.val < 8 :=
  (by decide +kernel : ∀ t : Fin grid1.N, _)

theorem final_gw (c : Dev nD) : (dat1 V c).arrAt 2 cfg1.N = gradW (V c main_arg0) (V c main_arg2) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [hpay, hzero]) (fun t h j => by rw [outsAt1_B V c t h]; frame_out; rw [hpay])
    t ((flush1_2 t).mp hf) _, zero_add]
  unfold gradW
  refine Fin.sum_mul_add_congr fun s k hl => ?_
  blk_point [iblk1, idx1 t, idx1 ⟨_, Pipeline.run_point_lt_of_flush t ((flush1_2 t).mp hf) s⟩]

variable (m : (ℓ : Loc nD τ sig) → Buf (Elt Ideal) ℓ) (ρ : Dev nD → PrngReg)

set_option backward.isDefEq.respectTransparency.types false in
/-- The run ends with every buffer at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

theorem result_gw (c : Dev nD) : (W2 m ρ c (Proc.devRef .tc main_v1) : FVec Ideal S1024x1024 .f32)
    = gradW (m ((c : Thread nD τ).loc main_arg0)) (m ((c : Thread nD τ).loc main_arg2)) := by
  rw [← W1_args m ρ c main_arg0 (by decide), ← W1_args m ρ c main_arg2 (by decide)]
  exact (W2_arr m ρ c 2).trans (final_gw (V1 m ρ) c)

theorem result_dh (c : Dev nD) : (W2 m ρ c (Proc.devRef .tc main_v0) : FVec Ideal S8192x1024 .f32)
    = gradH (m ((c : Thread nD τ).loc main_arg1)) (m ((c : Thread nD τ).loc main_arg2)) :=
  (W2_of m ρ c main_v0 (by decide)).trans ((W1_arr m ρ c 2).trans (final_dh (V0 m ρ) c))

/-- The run's two results, with the arguments as they were. -/
theorem run_values : θ_run defs (onTc (τ := τ) (main (F := Ideal))) ⟨m, fun _ => 0, ρ⟩ (fun r => ∀ c : Dev nD,
      r.2.mem ((c.tc : Thread nD τ).loc main_v0) = gradH (m ((c : Thread nD τ).loc main_arg1)) (m ((c : Thread nD τ).loc main_arg2))
      ∧ r.2.mem ((c.tc : Thread nD τ).loc main_v1) = gradW (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v0 (by decide))).trans (result_dh m ρ c), (h c _ (mem_uc main_v1 (by decide))).trans (result_gw m ρ c),
     (h c _ (mem_uc main_arg0 (by decide))).trans (W2_main_arg0 m ρ c), (h c _ (mem_uc main_arg1 (by decide))).trans (W2_main_arg1 m ρ c),
     (h c _ (mem_uc main_arg2 (by decide))).trans (W2_main_arg2 m ρ c)⟩) (run m ρ)

end Cert.KernelOutIdeal.Hand

end
-- ==== Proof.Out.lean ====
/- The claims of the output projection's backward pass. -/
module

public import proofs.«01_k».proof.Defs
public import proofs.«01_k».proof.Proof.OutRun
public import proofs.«01_k».proof.Proof.Gen.KernelOut.Frame
public import proofs.«01_k».proof.Proof.Gen.ReferenceOutIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product for the input's gradient is the sum over the columns. -/
theorem out_dh (w : FVec Ideal Cert.ReferenceOutIdeal.S1024x1024 .bf16) (d : FVec Ideal Cert.ReferenceOutIdeal.S8192x1024 .bf16) (hw hd : FTy.bits .bf16 < FTy.bits .f32) :
    Host.dotGeneral Cert.ReferenceOutIdeal.dot_S8192x1024_S1024x1024_S8192x1024_1_1_0_0_n_n none (extf .f32 d hd) (extf .f32 w hw) = Cert.KernelOutIdeal.Hand.gradH w d := by
  funext i
  pointwise [Cert.KernelOutIdeal.Hand.gradH]

/-- The reference's product for the weights' gradient is the sum over the rows. -/
theorem out_gw (h : FVec Ideal Cert.ReferenceOutIdeal.S8192x1024 .bf16) (d : FVec Ideal Cert.ReferenceOutIdeal.S8192x1024 .bf16) (hh hd : FTy.bits .bf16 < FTy.bits .f32)
    (ht : Cert.ReferenceOutIdeal.S1024x1024.Transposes [1, 0] Cert.ReferenceOutIdeal.S1024x1024) :
    transpose Cert.ReferenceOutIdeal.S1024x1024 [1, 0] (Host.dotGeneral Cert.ReferenceOutIdeal.dot_S8192x1024_S8192x1024_S1024x1024_0_0_1_1_n_n none (extf .f32 d hd) (extf .f32 h hh)) ht
      = Cert.KernelOutIdeal.Hand.gradW h d := by
  funext i
  pointwise [Cert.KernelOutIdeal.Hand.gradW]
  exact Finset.sum_congr rfl fun x _ => mul_comm _ _

theorem out_ref : quiescent_ReferenceOutIdeal (hReferenceOutIdeal := Cert.ReferenceOutIdeal.Gen.facts) := by
  intro m g _
  hlo_run
  · exact fun _ => ⟨trivial, trivial, trivial⟩
  · exact sem_eq_zero_of_no_sems (by decide) _

theorem out_values : algebraic_KernelOutIdeal_ReferenceOutIdeal (hKernelOutIdeal := Cert.KernelOutIdeal.Gen.facts) (hReferenceOutIdeal := Cert.ReferenceOutIdeal.Gen.facts) := by
  pair_intro
  · run_from Cert.KernelOutIdeal.Hand.run_values m g
  · hlo_run
    · exact out_dh _ _ _ _
    · exact out_gw _ _ _ _ _

end Cert.Hand

end
-- ==== Proof.DownRun.lean ====
/- The two products of the down projection's backward pass: tiles, sums over row blocks, and the run. -/
module

public import proofs.«01_k».proof.Proof.Gen.KernelDownIdeal.Frame
public import Idealize.ShloMosaic.Lib.Pipeline.ValueKit

@[expose] public section

set_option maxRecDepth 16384

noncomputable section

namespace Cert.KernelDownIdeal.Hand

open Cert.KernelDownIdeal Cert.KernelDownIdeal.Gen Idealize.ShloMosaic Idealize.ShloMosaic.TcCoe Idealize.ShloMosaic.Tactic
open Idealize.SL Idealize.SL.RA Idealize.SL.BI Idealize.SL.Sem Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (V : (c : Dev nD) → (b : Ref sig .tc) → Buf (Elt Ideal) ((c : Thread nD τ).loc b))

/-- The input's gradient: a sum over the columns. -/
def gradH (w : FVec Ideal S2816x1024 .bf16) (d : FVec Ideal S8192x1024 .bf16) : FVec Ideal S8192x2816 .bf16 :=
  fun i => ∑ l : Fin 1024, d (ix2 (i 0) l) * w (ix2 (i 1) l)

/-- The weights' gradient: a sum over the rows. -/
def gradW (h : FVec Ideal S8192x2816 .bf16) (d : FVec Ideal S8192x1024 .bf16) : FVec Ideal S2816x1024 .f32 :=
  fun i => ∑ l : Fin 8192, h (ix2 l (i 0)) * d (ix2 l (i 1))

theorem dpay (a : Vec Ideal S1024x1024 .bf16) (b : Vec Ideal S1408x1024 .bf16) (j : S1024x1408.Idx) :
    k0_pay1 (F := Ideal) a b j = ∑ k : Fin 1024, a (ix2 (j 0) k) * b (ix2 (j 1) k) := by
  pointwise [k0_pay1]

theorem idx0 : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

theorem final_dh (c : Dev nD) : (dat0 V c).arrAt 2 cfg0.N = gradH (V c main_arg1) (V c main_arg2) := by
  refine (dat0 V c).arrAt_eq_of_covers 2 _ (by decide +kernel) fun t _ y => ?_
  blk_simp
  rw [after0_2]
  frame_out
  rw [dpay]
  unfold gradH
  blk_point [iblk0, idx0 t]

theorem hzero (j : S1408x1024.Idx) : k1_pay1 (F := Ideal) j = 0 := by pointwise [k1_pay1]

theorem hpay (acc : Vec Ideal S1408x1024 .f32) (x0 : Vec Ideal S1024x1408 .bf16) (x1 : Vec Ideal S1024x1024 .bf16) (j : S1408x1024.Idx) :
    k1_pay2 (F := Ideal) acc x0 x1 j = acc j + ∑ k : Fin 1024, x0 (ix2 k (j 0)) * x1 (ix2 k (j 1)) := by
  pointwise [k1_pay2]

theorem idx1 : ∀ t : Fin cfg1.N, win1_0.index t = ![t.val % 8, t.val / 8] ∧ win1_1.index t = ![t.val % 8, 0]
    ∧ win1_2.index t = ![t.val / 8, 0] ∧ t.val < 16 :=
  (by decide +kernel : ∀ t : Fin grid1.N, _)

theorem final_gw (c : Dev nD) : (dat1 V c).arrAt 2 cfg1.N = gradW (V c main_arg0) (V c main_arg2) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [hpay, hzero]) (fun t h j => by rw [outsAt1_B V c t h]; frame_out; rw [hpay])
    t ((flush1_2 t).mp hf) _, zero_add]
  unfold gradW
  refine Fin.sum_mul_add_congr fun s k hl => ?_
  blk_point [iblk1, idx1 t, idx1 ⟨_, Pipeline.run_point_lt_of_flush t ((flush1_2 t).mp hf) s⟩]

variable (m : (ℓ : Loc nD τ sig) → Buf (Elt Ideal) ℓ) (ρ : Dev nD → PrngReg)

set_option backward.isDefEq.respectTransparency.types false in
/-- The run ends with every buffer at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

theorem result_gw (c : Dev nD) : (W2 m ρ c (Proc.devRef .tc main_v1) : FVec Ideal S2816x1024 .f32)
    = gradW (m ((c : Thread nD τ).loc main_arg0)) (m ((c : Thread nD τ).loc main_arg2)) := by
  rw [← W1_args m ρ c main_arg0 (by decide), ← W1_args m ρ c main_arg2 (by decide)]
  exact (W2_arr m ρ c 2).trans (final_gw (V1 m ρ) c)

theorem result_dh (c : Dev nD) : (W2 m ρ c (Proc.devRef .tc main_v0) : FVec Ideal S8192x2816 .bf16)
    = gradH (m ((c : Thread nD τ).loc main_arg1)) (m ((c : Thread nD τ).loc main_arg2)) :=
  (W2_of m ρ c main_v0 (by decide)).trans ((W1_arr m ρ c 2).trans (final_dh (V0 m ρ) c))

/-- The run's two results, with the arguments as they were. -/
theorem run_values : θ_run defs (onTc (τ := τ) (main (F := Ideal))) ⟨m, fun _ => 0, ρ⟩ (fun r => ∀ c : Dev nD,
      r.2.mem ((c.tc : Thread nD τ).loc main_v0) = gradH (m ((c : Thread nD τ).loc main_arg1)) (m ((c : Thread nD τ).loc main_arg2))
      ∧ r.2.mem ((c.tc : Thread nD τ).loc main_v1) = gradW (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v0 (by decide))).trans (result_dh m ρ c), (h c _ (mem_uc main_v1 (by decide))).trans (result_gw m ρ c),
     (h c _ (mem_uc main_arg0 (by decide))).trans (W2_main_arg0 m ρ c), (h c _ (mem_uc main_arg1 (by decide))).trans (W2_main_arg1 m ρ c),
     (h c _ (mem_uc main_arg2 (by decide))).trans (W2_main_arg2 m ρ c)⟩) (run m ρ)

end Cert.KernelDownIdeal.Hand

end
-- ==== Proof.Down.lean ====
/- The claims of the down projection's backward pass. -/
module

public import proofs.«01_k».proof.Defs
public import proofs.«01_k».proof.Proof.DownRun
public import proofs.«01_k».proof.Proof.Gen.KernelDown.Frame
public import proofs.«01_k».proof.Proof.Gen.ReferenceDownIdeal
public import Idealize.ShloMosaic.Lib.Claim
public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe Idealize.SL.Sem

/-- The reference's product for the input's gradient is the sum over the columns. -/
theorem down_dh (w : FVec Ideal Cert.ReferenceDownIdeal.S2816x1024 .bf16) (d : FVec Ideal Cert.ReferenceDownIdeal.S8192x1024 .bf16) (hw hd ht : FTy.bits .bf16 < FTy.bits .f32) :
    truncf .bf16 (Host.dotGeneral Cert.ReferenceDownIdeal.dot_S8192x1024_S2816x1024_S8192x2816_1_1_0_0_n_n none (extf .f32 d hd) (extf .f32 w hw)) ht = Cert.KernelDownIdeal.Hand.gradH w d := by
  funext i
  pointwise [Cert.KernelDownIdeal.Hand.gradH]

/-- The reference's product for the weights' gradient is the sum over the rows. -/
theorem down_gw (h : FVec Ideal Cert.ReferenceDownIdeal.S8192x2816 .bf16) (d : FVec Ideal Cert.ReferenceDownIdeal.S8192x1024 .bf16) (hh hd : FTy.bits .bf16 < FTy.bits .f32)
    (ht : Cert.ReferenceDownIdeal.S1024x2816.Transposes [1, 0] Cert.ReferenceDownIdeal.S2816x1024) :
    transpose Cert.ReferenceDownIdeal.S2816x1024 [1, 0] (Host.dotGeneral Cert.ReferenceDownIdeal.dot_S8192x1024_S8192x2816_S1024x2816_0_0_1_1_n_n none (extf .f32 d hd) (extf .f32 h hh)) ht
      = Cert.KernelDownIdeal.Hand.gradW h d := by
  funext i
  pointwise [Cert.KernelDownIdeal.Hand.gradW]
  exact Finset.sum_congr rfl fun x _ => mul_comm _ _

theorem down_ref : quiescent_ReferenceDownIdeal (hReferenceDownIdeal := Cert.ReferenceDownIdeal.Gen.facts) := by
  intro m g _
  hlo_run
  · exact fun _ => ⟨trivial, trivial, trivial⟩
  · exact sem_eq_zero_of_no_sems (by decide) _

theorem down_values : algebraic_KernelDownIdeal_ReferenceDownIdeal (hKernelDownIdeal := Cert.KernelDownIdeal.Gen.facts) (hReferenceDownIdeal := Cert.ReferenceDownIdeal.Gen.facts) := by
  pair_intro
  · run_from Cert.KernelDownIdeal.Hand.run_values m g
  · hlo_run
    · exact down_dh _ _ _ _ _
    · exact down_gw _ _ _ _ _

end Cert.Hand

end
-- ==== Proof.lean ====
/- The certificate's claim, put together from the frames and the values. -/
module

public import proofs.«01_k».proof.Defs
public import proofs.«01_k».proof.Proof.Frames
public import proofs.«01_k».proof.Proof.Algebra
public import proofs.«01_k».proof.Proof.UpAlgebra
public import proofs.«01_k».proof.Proof.UpFwd
public import proofs.«01_k».proof.Proof.Norm
public import proofs.«01_k».proof.Proof.NormMix
public import proofs.«01_k».proof.Proof.InX
public import proofs.«01_k».proof.Proof.InW
public import proofs.«01_k».proof.Proof.Out
public import proofs.«01_k».proof.Proof.Down

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelInW.Gen.facts, Cert.KernelInWIdeal.Gen.facts, Cert.ReferenceInWIdeal.Gen.facts,
  Cert.KernelInX.Gen.facts, Cert.KernelInXIdeal.Gen.facts, Cert.ReferenceInXIdeal.Gen.facts,
  Cert.KernelUpFwd.Gen.facts, Cert.KernelUpFwdIdeal.Gen.facts, Cert.ReferenceUpFwdIdeal.Gen.facts,
  Cert.KernelNorm.Gen.facts, Cert.KernelNormIdeal.Gen.facts, Cert.ReferenceNormIdeal.Gen.facts,
  Cert.KernelNormMix.Gen.facts, Cert.KernelNormMixIdeal.Gen.facts, Cert.ReferenceNormMixIdeal.Gen.facts,
  Cert.Pre_finite.Gen.facts,
  Cert.Hand.frame_bits, Cert.Hand.frame_ideal, Cert.Hand.frame_ideal_finite, Cert.Hand.frame_ref, Cert.Hand.frame_ref_finite,
  fun m ρ _ => Cert.KernelUp.Gen.frame m ρ, fun m ρ _ => Cert.KernelUpIdeal.Gen.frame m ρ, Cert.Hand.up_ref,
  fun m ρ _ => Cert.KernelDown.Gen.frame m ρ, fun m ρ _ => Cert.KernelDownIdeal.Gen.frame m ρ, Cert.Hand.down_ref,
  fun m ρ _ => Cert.KernelOut.Gen.frame m ρ, fun m ρ _ => Cert.KernelOutIdeal.Gen.frame m ρ, Cert.Hand.out_ref,
  fun m ρ _ => Cert.KernelInW.Gen.frame m ρ, fun m ρ _ => Cert.KernelInWIdeal.Gen.frame m ρ, Cert.Hand.inW_ref,
  fun m ρ _ => Cert.KernelInX.Gen.frame m ρ, fun m ρ _ => Cert.KernelInXIdeal.Gen.frame m ρ, Cert.Hand.inX_ref,
  fun m ρ _ => Cert.KernelUpFwd.Gen.frame m ρ, fun m ρ _ => Cert.KernelUpFwdIdeal.Gen.frame m ρ, Cert.Hand.upFwd_ref,
  fun m ρ _ => Cert.KernelNorm.Gen.frame m ρ, fun m ρ _ => Cert.KernelNormIdeal.Gen.frame m ρ, Cert.Hand.norm_ref,
  fun m ρ _ => Cert.KernelNormMix.Gen.frame m ρ, fun m ρ _ => Cert.KernelNormMixIdeal.Gen.frame m ρ, Cert.Hand.normMix_ref,
  trivial, Cert.Hand.values,
  trivial, Cert.Hand.up_values,
  trivial, Cert.Hand.down_values,
  trivial, Cert.Hand.out_values,
  trivial, Cert.Hand.inW_values,
  trivial, Cert.Hand.inX_values,
  trivial, Cert.Hand.upFwd_values,
  trivial, Cert.Hand.norm_values,
  trivial, Cert.Hand.normMix_values⟩

end Cert.Proof

end
